-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_maximum [hPre_rows_have_a_maximum : Cert.Pre_rows_have_a_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_maximum [hPre_rows_have_a_maximum : Cert.Pre_rows_have_a_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_maximum [hKernelIdeal : Cert.KernelIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_maximum [hReferenceIdeal : Cert.ReferenceIdeal.Facts] [hPre_rows_have_a_maximum : Cert.Pre_rows_have_a_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_a_maximum [hKernelIdeal : Cert.KernelIdeal.Facts] [hReferenceIdeal : Cert.ReferenceIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_maximum : Cert.Pre_rows_have_a_maximum.Facts),
    quiescent_Kernel (hKernel := hKernel)
    ∧ quiescent_KernelIdeal (hKernelIdeal := hKernelIdeal)
    ∧ quiescent_KernelIdeal_pre_rows_have_a_maximum (hKernelIdeal := hKernelIdeal) (hPre_rows_have_a_maximum := hPre_rows_have_a_maximum)
    ∧ quiescent_ReferenceIdeal (hReferenceIdeal := hReferenceIdeal)
    ∧ quiescent_ReferenceIdeal_pre_rows_have_a_maximum (hReferenceIdeal := hReferenceIdeal) (hPre_rows_have_a_maximum := hPre_rows_have_a_maximum)
    ∧ preserves_Kernel_KernelIdeal
    ∧ algebraic_KernelIdeal_ReferenceIdeal_pre_rows_have_a_maximum (hKernelIdeal := hKernelIdeal) (hReferenceIdeal := hReferenceIdeal) (hPre_rows_have_a_maximum := hPre_rows_have_a_maximum)
-- ==== Pre_rows_have_a_maximum.lean ====
abbrev S32x1000000 : Shape := ⟨2, ![32, 1000000]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S_S32 : S_.BroadcastsInDim S32 (![] : Fin 0 → Fin S32.rank)

variable [Facts]

def fn {F : FTy → Type} [FloatOps F] (main_arg0 : FVec F S32x1000000 .f32) : IVec S32 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_v1 : FVec F S32 .f32 := Host.absf main_v0
  let main_cst_0 : FVec F S_ .f32 := constant S_ .f32 0x7F800000#32
  let main_v2 : FVec F S32 .f32 := broadcastInDim S32 ![] bcast_S_S32 main_cst_0
  let main_v3 : IVec S32 1 := cmpf .olt main_v1 main_v2
  main_v3
-- ==== Kernel.lean ====
abbrev S32x1000000 : Shape := ⟨2, ![32, 1000000]⟩
abbrev S32x65536 : Shape := ⟨2, ![32, 65536]⟩
abbrev S32x512 : Shape := ⟨2, ![32, 512]⟩
abbrev S16x32x1 : Shape := ⟨3, ![16, 32, 1]⟩
abbrev S1x32x1 : Shape := ⟨3, ![1, 32, 1]⟩
abbrev S32 : Shape := ⟨1, ![32]⟩
abbrev S32x1 : Shape := ⟨2, ![32, 1]⟩
abbrev S8x65536 : Shape := ⟨2, ![8, 65536]⟩
abbrev S8 : Shape := ⟨1, ![8]⟩
abbrev S8x1 : Shape := ⟨2, ![8, 1]⟩
abbrev S24x1 : Shape := ⟨2, ![24, 1]⟩
abbrev S1x1 : Shape := ⟨2, ![1, 1]⟩
abbrev S_ : Shape := ⟨0, ![]⟩

abbrev nBuf : Space → Nat
  | .hbm => 15
  | .vmem => 31
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S16x32x1, .f32⟩
  | .hbm, ⟨3, _⟩ => ⟨S16x32x1, .f32⟩
  | .hbm, ⟨4, _⟩ => ⟨S16x32x1, .f32⟩
  | .hbm, ⟨5, _⟩ => ⟨S16x32x1, .f32⟩
  | .hbm, ⟨6, _⟩ => ⟨S16x32x1, .i32⟩
  | .hbm, ⟨7, _⟩ => ⟨S32x1, .f32⟩
  | .hbm, ⟨8, _⟩ => ⟨S32x1, .f32⟩
  | .hbm, ⟨9, _⟩ => ⟨S32x1, .i32⟩
  | .hbm, ⟨10, _⟩ => ⟨S32x1, .f32⟩
  | .hbm, ⟨11, _⟩ => ⟨S32x1000000, .f32⟩
  | .hbm, ⟨12, _⟩ => ⟨S32, .i32⟩
  | .hbm, ⟨13, _⟩ => ⟨S1x1, .f32⟩
  | .hbm, ⟨14, _⟩ => ⟨S_, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x65536, .f32⟩
  | .local _ .vmem, ⟨5, _⟩ => ⟨S32x65536, .f32⟩
  | .local _ .vmem, ⟨6, _⟩ => ⟨S1x32x1, .f32⟩
  | .local _ .vmem, ⟨7, _⟩ => ⟨S1x32x1, .f32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x32x1, .i32⟩
  | .local _ .vmem, ⟨15, _⟩ => ⟨S1x32x1, .i32⟩
  | .local _ .vmem, ⟨16, _⟩ => ⟨S16x32x1, .f32⟩
  | .local _ .vmem, ⟨17, _⟩ => ⟨S16x32x1, .f32⟩
  | .local _ .vmem, ⟨18, _⟩ => ⟨S16x32x1, .f32⟩
  | .local _ .vmem, ⟨19, _⟩ => ⟨S16x32x1, .f32⟩
  | .local _ .vmem, ⟨20, _⟩ => ⟨S16x32x1, .i32⟩
  | .local _ .vmem, ⟨21, _⟩ => ⟨S32x1, .f32⟩
  | .local _ .vmem, ⟨22, _⟩ => ⟨S32x1, .f32⟩
  | .local _ .vmem, ⟨23, _⟩ => ⟨S32x1, .i32⟩
  | .local _ .vmem, ⟨24, _⟩ => ⟨S32x1, .f32⟩
  | .local _ .vmem, ⟨25, _⟩ => ⟨S32x65536, .f32⟩
  | .local _ .vmem, ⟨26, _⟩ => ⟨S32x65536, .f32⟩
  | .local _ .vmem, ⟨27, _⟩ => ⟨S32x1, .f32⟩
  | .local _ .vmem, ⟨28, _⟩ => ⟨S32x1, .f32⟩
  | .local _ .vmem, ⟨29, _⟩ => ⟨S32x65536, .f32⟩
  | .local _ .vmem, ⟨30, _⟩ => ⟨S32x65536, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v6 : BitVec 32 := Scalar.addi c0_i32 c128_i32
  let c1_i32 : BitVec 32 := 1#32
  ⟨c0_i32, v6, c1_i32⟩
def k0_off1 (k0_t1 : Fin k0_t1_loop.trips) : Fin 2 → Nat :=
  let c0 : Index := 0#32
  let c0_i32 : BitVec 32 := 0#32
  let c1_i32 : BitVec 32 := 1#32
  let arg2 : BitVec 32 := Scf.iv c0_i32 c1_i32 k0_t1
  let c512_i32_37 : BitVec 32 := 512#32
  let v188 : BitVec 32 := Scalar.muli arg2 c512_i32_37
  let v189 : Index := Scalar.indexCast v188
  ![0, v189.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x32x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x32x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S16x32x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x32x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S32x1 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S32x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S32x65536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S32x65536 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S32x1000000 : Shape := ⟨2, ![32, 1000000]⟩
abbrev S_ : Shape := ⟨0, ![]⟩
abbrev S1 : Shape := ⟨1, ![1]⟩
abbrev S2 : Shape := ⟨1, ![2]⟩
abbrev S1x1 : Shape := ⟨2, ![1, 1]⟩
abbrev S32 : Shape := ⟨1, ![32]⟩
abbrev S32x1 : Shape := ⟨2, ![32, 1]⟩
abbrev S1x1000000 : Shape := ⟨2, ![1, 1000000]⟩
abbrev S1000000 : Shape := ⟨1, ![1000000]⟩

abbrev nBuf : Space → Nat
  | .hbm => 326
  | .vmem => 0
  | .smem => 0
  | _ => 0

abbrev hbmTy0_0 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S32x1000000, .i64⟩
  | 25 => ⟨S32x1000000, .i64⟩
  | 26 => ⟨S_, .i64⟩
  | 27 => ⟨S32x1000000, .i64⟩
  | 28 => ⟨S32x1000000, .i64⟩
  | 29 => ⟨S_, .i64⟩
  | 30 => ⟨S32x1000000, .i64⟩
  | 31 => ⟨S32x1000000, .i64⟩
  | 32 => ⟨S32x1000000, .i64⟩
  | 33 => ⟨S_, .i64⟩
  | 34 => ⟨S32x1000000, .i64⟩
  | 35 => ⟨S32x1000000, .i64⟩
  | 36 => ⟨S32x1000000, .i32⟩
  | 37 => ⟨S32x1000000, .i32⟩
  | 38 => ⟨S_, .i32⟩
  | 39 => ⟨S_, .i32⟩
  | 40 => ⟨S_, .i32⟩
  | 41 => ⟨S32x1000000, .i32⟩
  | 42 => ⟨S32x1000000, .i32⟩
  | 43 => ⟨S32x1000000, .i32⟩
  | 44 => ⟨S32x1000000, .i32⟩
  | 45 => ⟨S32x1000000, .i32⟩
  | 46 => ⟨S_, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S32x1000000, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S_, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S32x1000000, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S32x1000000, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .f32⟩
  | 12 => ⟨S_, .f32⟩
  | 13 => ⟨S32x1000000, .f32⟩
  | 14 => ⟨S32x1000000, .f32⟩
  | 15 => ⟨S1x1, .f32⟩
  | 16 => ⟨S32x1000000, .f32⟩
  | 17 => ⟨S32x1000000, .f32⟩
  | 18 => ⟨S32x1000000, .f32⟩
  | 19 => ⟨S32x1000000, .f32⟩
  | 20 => ⟨S32x1000000, .f32⟩
  | 21 => ⟨S32x1000000, .f32⟩
  | 22 => ⟨S_, .f32⟩
  | 23 => ⟨S32x1000000, .f32⟩
  | 24 => ⟨S32x1000000, .f32⟩
  | 25 => ⟨S32x1000000, .f32⟩
  | 26 => ⟨S32x1000000, .f32⟩
  | 27 => ⟨S32x1000000, .f32⟩
  | 28 => ⟨S32x1000000, .f32⟩
  | 29 => ⟨S32x1000000, .f32⟩
  | 30 => ⟨S32x1000000, .i32⟩
  | 31 => ⟨S_, .f32⟩
  | 32 => ⟨S_, .i32⟩
  | 33 => ⟨S32, .f32⟩
  | 34 => ⟨S32, .i32⟩
  | 35 => ⟨S_, .f32⟩
  | 36 => ⟨S32, .f32⟩
  | 37 => ⟨S_, .f32⟩
  | 38 => ⟨S32, .f32⟩
  | 39 => ⟨S32, .f32⟩
  | 40 => ⟨S32x1, .f32⟩
  | 41 => ⟨S32x1000000, .f32⟩
  | 42 => ⟨S32x1000000, .f32⟩
  | 43 => ⟨S32x1000000, .f32⟩
  | 44 => ⟨S_, .f32⟩
  | 45 => ⟨S32, .f32⟩
  | 46 => ⟨S32x1, .f32⟩
  | 47 => ⟨S32x1000000, .f32⟩
  | 48 => ⟨S32x1000000, .f32⟩
  | 49 => ⟨S1x1000000, .f32⟩
  | 50 => ⟨S1000000, .f32⟩
  | 51 => ⟨S_, .f32⟩
  | 52 => ⟨S1000000, .f32⟩
  | 53 => ⟨S1000000, .i1⟩
  | 54 => ⟨S_, .f32⟩
  | 55 => ⟨S1000000, .f32⟩
  | 56 => ⟨S1000000, .i1⟩
  | 57 => ⟨S_, .f32⟩
  | 58 => ⟨S_, .f32⟩
  | 59 => ⟨S1000000, .f32⟩
  | 60 => ⟨S1000000, .f32⟩
  | 61 => ⟨S1000000, .f32⟩
  | 62 => ⟨S1000000, .f32⟩
  | 63 => ⟨S_, .f32⟩
  | 64 => ⟨S_, .f32⟩
  | 65 => ⟨S1000000, .f32⟩
  | 66 => ⟨S1000000, .f32⟩
  | 67 => ⟨S_, .f32⟩
  | 68 => ⟨S_, .f32⟩
  | 69 => ⟨S_, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v9 : Ref sig .tc := ⟨.hbm, 277, rfl⟩
abbrev main_cst_4 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_call1_v0 : Ref sig .tc := ⟨.hbm, 286, rfl⟩
abbrev main_call1_cst : Ref sig .tc := ⟨.hbm, 287, rfl⟩
abbrev main_call1_c : Ref sig .tc := ⟨.hbm, 288, rfl⟩
abbrev main_call1_v1_0 : Ref sig .tc := ⟨.hbm, 289, rfl⟩
abbrev main_v17 : Ref sig .tc := ⟨.hbm, 290, rfl⟩
abbrev main_cst_5 : Ref sig .tc := ⟨.hbm, 291, rfl⟩
abbrev main_v18 : Ref sig .tc := ⟨.hbm, 292, rfl⟩
abbrev main_cst_6 : Ref sig .tc := ⟨.hbm, 293, rfl⟩
abbrev main_v19 : Ref sig .tc := ⟨.hbm, 294, rfl⟩
abbrev main_v20 : Ref sig .tc := ⟨.hbm, 295, rfl⟩
abbrev main_v21 : Ref sig .tc := ⟨.hbm, 296, rfl⟩
abbrev main_v22 : Ref sig .tc := ⟨.hbm, 297, rfl⟩
abbrev main_v23 : Ref sig .tc := ⟨.hbm, 298, rfl⟩
abbrev main_v24 : Ref sig .tc := ⟨.hbm, 299, rfl⟩
abbrev main_cst_7 : Ref sig .tc := ⟨.hbm, 300, rfl⟩
abbrev main_v25 : Ref sig .tc := ⟨.hbm, 301, rfl⟩
abbrev main_v26 : Ref sig .tc := ⟨.hbm, 302, rfl⟩
abbrev main_v27 : Ref sig .tc := ⟨.hbm, 303, rfl⟩
abbrev main_v28 : Ref sig .tc := ⟨.hbm, 304, rfl⟩
abbrev main_v29 : Ref sig .tc := ⟨.hbm, 305, rfl⟩
abbrev main_v30 : Ref sig .tc := ⟨.hbm, 306, rfl⟩
abbrev main_cst_8 : Ref sig .tc := ⟨.hbm, 307, rfl⟩
abbrev main_v31 : Ref sig .tc := ⟨.hbm, 308, rfl⟩
abbrev main_v32 : Ref sig .tc := ⟨.hbm, 309, rfl⟩
abbrev main_cst_9 : Ref sig .tc := ⟨.hbm, 310, rfl⟩
abbrev main_v33 : Ref sig .tc := ⟨.hbm, 311, rfl⟩
abbrev main_v34 : Ref sig .tc := ⟨.hbm, 312, rfl⟩
abbrev main_cst_10 : Ref sig .tc := ⟨.hbm, 313, rfl⟩
abbrev main_call2_v0 : Ref sig .tc := ⟨.hbm, 314, rfl⟩
abbrev main_call2_v1 : Ref sig .tc := ⟨.hbm, 315, rfl⟩
abbrev main_v35 : Ref sig .tc := ⟨.hbm, 316, rfl⟩
abbrev main_v36 : Ref sig .tc := ⟨.hbm, 317, rfl⟩
abbrev main_v37 : Ref sig .tc := ⟨.hbm, 318, rfl⟩
abbrev main_cst_11 : Ref sig .tc := ⟨.hbm, 319, rfl⟩
abbrev main_call3_v0 : Ref sig .tc := ⟨.hbm, 320, rfl⟩
abbrev main_call3_v1 : Ref sig .tc := ⟨.hbm, 321, rfl⟩
abbrev main_v38 : Ref sig .tc := ⟨.hbm, 322, rfl⟩
abbrev main_cst_12 : Ref sig .tc := ⟨.hbm, 323, rfl⟩
abbrev main_v39 : Ref sig .tc := ⟨.hbm, 324, rfl⟩
abbrev main_v40 : Ref sig .tc := ⟨.hbm, 325, rfl⟩

abbrev nD : Nat := 1
abbrev τ : Topo := Topo.v7x

variable {F : FTy → Type} [FloatOps F]
-- ==== Proof.RefRun.lean ====
/- The reference's run: its main function is one line of operations, cut here in stretches, and every run of it
   leaves each buffer at the fold of those operations over the launch contents, with no semaphore touched. -/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Claim
public import Idealize.ShloMosaic.Lib.Pipeline.Regions

@[expose] public section

namespace Cert.ReferenceIdeal.Ref

open Idealize.ShloMosaic Idealize.SL.Sem
open Cert.ReferenceIdeal Cert.ReferenceIdeal.Gen

noncomputable section

variable {F : FTy → Type} [FloatOps F]

/-- Contents of a buffer of type `T`. -/
abbrev C (F : FTy → Type) (T : BufTy) : Type := T.Contents (Elt F)

/-- The operations 0 to 14 of the line. -/
def host0 : List (HloOp τ sig (Elt F)) := [
  StableHlo.nullary main_cst ((constant S_ .f32 0x3F800000#32) : C F ⟨S_, .f32⟩),
  StableHlo.unary main_cst main_v0 (broadcastInDim S32x1000000 ![] bcast_S_S32x1000000 : C F ⟨S_, .f32⟩ → C F ⟨S32x1000000, .f32⟩),
  StableHlo.binary main_arg0 main_v0 main_v1 (Host.divf : C F ⟨S32x1000000, .f32⟩ → C F ⟨S32x1000000, .f32⟩ → C F ⟨S32x1000000, .f32⟩),
  StableHlo.nullary main_c ((constantI S_ 32 42#32) : C F ⟨S_, .i32⟩),
  StableHlo.nullary main_c_0 ((constantI S_ 32 32#32) : C F ⟨S_, .i32⟩),
  StableHlo.binary main_c main_c_0 main_v2 (Host.shrui : C F ⟨S_, .i32⟩ → C F ⟨S_, .i32⟩ → C F ⟨S_, .i32⟩),
  StableHlo.unary main_v2 main_v3 (id : C F ⟨S_, .i32⟩ → C F ⟨S_, .i32⟩),
  StableHlo.unary main_v3 main_v4 (broadcastInDim S1 ![] bcast_S_S1 : C F ⟨S_, .i32⟩ → C F ⟨S1, .i32⟩),
  StableHlo.nullary main_c_1 ((constantI S_ 32 4294967295#32) : C F ⟨S_, .i32⟩),
  StableHlo.binary main_c main_c_1 main_v5 (andi : C F ⟨S_, .i32⟩ → C F ⟨S_, .i32⟩ → C F ⟨S_, .i32⟩),
  StableHlo.unary main_v5 main_v6 (id : C F ⟨S_, .i32⟩ → C F ⟨S_, .i32⟩),
  StableHlo.unary main_v6 main_v7 (broadcastInDim S1 ![] bcast_S_S1 : C F ⟨S_, .i32⟩ → C F ⟨S1, .i32⟩),
  StableHlo.binary main_v4 main_v7 main_v8 ((fun a b => concatenate S2 0 [⟨S1, a⟩, ⟨S1, b⟩] concatenates_S1_S1_S2_d0) : C F ⟨S1, .i32⟩ → C F ⟨S1, .i32⟩ → C F ⟨S2, .i32⟩),
  StableHlo.nullary main_cst_2 ((constant S_ .f32 0x00000000#32) : C F ⟨S_, .f32⟩),
  StableHlo.nullary main_cst_3 ((constant S_ .f32 0x3F800000#32) : C F ⟨S_, .f32⟩)]

/-- What the operations of `host0` write, in order. -/
abbrev host0_W : List (Ref sig .tc) := [main_cst, main_v0, main_v1, main_c, main_c_0, main_v2, main_v3, main_v4, main_c_1, main_v5, main_v6, main_v7, main_v8, main_cst_2, main_cst_3]

/-- The operations of `host0` write the buffers of that list. -/
theorem host0_writes : (host0 (F := F)).map HloOp.writes = host0_W.map fun w => {Proc.devRef (τ := τ) .tc w} := rfl

/-- The operations of `host0` touch TensorCore buffers only. -/
theorem host0_sub : (host0 (F := F)).Forall fun op => op.bufs ⊆ StableHlo.tcRefs τ sig := ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩

/-- Each operation of `host0` determines its result. -/
theorem host0_fresh : ∀ op ∈ (host0 (F := F)), op.fresh = ∅ := by
  intro _ h; (repeat (cases h with | head => rfl | tail _ h => ?_)); exact nomatch h

/-- The operations 15 to 36 of the line. -/
def keys0 : List (HloOp τ sig (Elt F)) := [
  StableHlo.unary main_cst_2 main_call0_v0 (id : C F ⟨S_, .f32⟩ → C F ⟨S_, .f32⟩),
  StableHlo.unary main_cst_3 main_call0_v1 (id : C F ⟨S_, .f32⟩ → C F ⟨S_, .f32⟩),
  StableHlo.unary main_call0_v0 main_call0_v2 ((broadcastInDim S1x1 ![] bcast_S_S1x1) : C F ⟨S_, .f32⟩ → C F ⟨S1x1, .f32⟩),
  StableHlo.unary main_call0_v1 main_call0_v3 ((broadcastInDim S1x1 ![] bcast_S_S1x1) : C F ⟨S_, .f32⟩ → C F ⟨S1x1, .f32⟩),
  StableHlo.unary main_v8 main_call0_v4 ((extractStridedSlice S1 ![0] · slices_S2_S1_0) : C F ⟨S2, .i32⟩ → C F ⟨S1, .i32⟩),
  StableHlo.reshape main_call0_v4 main_call0_v5 (rfl : (.i32 : EltTy) = .i32) shapeCasts_S1_S_,
  StableHlo.unary main_v8 main_call0_v6 ((extractStridedSlice S1 ![1] · slices_S2_S1_1) : C F ⟨S2, .i32⟩ → C F ⟨S1, .i32⟩),
  StableHlo.reshape main_call0_v6 main_call0_v7 (rfl : (.i32 : EltTy) = .i32) shapeCasts_S1_S_,
  StableHlo.nullary main_call0_v8 ((iotaInDim S32x1000000 64 0) : C F ⟨S32x1000000, .i64⟩),
  StableHlo.nullary main_call0_v9 ((iotaInDim S32x1000000 64 1) : C F ⟨S32x1000000, .i64⟩),
  StableHlo.nullary main_call0_c ((constantI S_ 64 1000000#64) : C F ⟨S_, .i64⟩),
  StableHlo.unary main_call0_c main_call0_v10 ((broadcastInDim S32x1000000 ![] bcast_S_S32x1000000) : C F ⟨S_, .i64⟩ → C F ⟨S32x1000000, .i64⟩),
  StableHlo.binary main_call0_v10 main_call0_v8 main_call0_v11 (muli : C F ⟨S32x1000000, .i64⟩ → C F ⟨S32x1000000, .i64⟩ → C F ⟨S32x1000000, .i64⟩),
  StableHlo.nullary main_call0_c_0 ((constantI S_ 64 1#64) : C F ⟨S_, .i64⟩),
  StableHlo.unary main_call0_c_0 main_call0_v12 ((broadcastInDim S32x1000000 ![] bcast_S_S32x1000000) : C F ⟨S_, .i64⟩ → C F ⟨S32x1000000, .i64⟩),
  StableHlo.binary main_call0_v12 main_call0_v9 main_call0_v13 (muli : C F ⟨S32x1000000, .i64⟩ → C F ⟨S32x1000000, .i64⟩ → C F ⟨S32x1000000, .i64⟩),
  StableHlo.binary main_call0_v11 main_call0_v13 main_call0_v14 (addi : C F ⟨S32x1000000, .i64⟩ → C F ⟨S32x1000000, .i64⟩ → C F ⟨S32x1000000, .i64⟩),
  StableHlo.nullary main_call0_c_1 ((constantI S_ 64 32#64) : C F ⟨S_, .i64⟩),
  StableHlo.unary main_call0_c_1 main_call0_v15 ((broadcastInDim S32x1000000 ![] bcast_S_S32x1000000) : C F ⟨S_, .i64⟩ → C F ⟨S32x1000000, .i64⟩),
  StableHlo.binary main_call0_v14 main_call0_v15 main_call0_v16 (Host.shrui : C F ⟨S32x1000000, .i64⟩ → C F ⟨S32x1000000, .i64⟩ → C F ⟨S32x1000000, .i64⟩),
  StableHlo.unary main_call0_v14 main_call0_v17 ((trunci 32 · natLt_32_64) : C F ⟨S32x1000000, .i64⟩ → C F ⟨S32x1000000, .i32⟩),
  StableHlo.unary main_call0_v16 main_call0_v18 ((trunci 32 · natLt_32_64) : C F ⟨S32x1000000, .i64⟩ → C F ⟨S32x1000000, .i32⟩)]

/-- What the operations of `keys0` write, in order. -/
abbrev keys0_W : List (Ref sig .tc) := [main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1, main_call0_v15, main_call0_v16, main_call0_v17, main_call0_v18]

/-- The operations of `keys0` write the buffers of that list. -/
theorem keys0_writes : (keys0 (F := F)).map HloOp.writes = keys0_W.map fun w => {Proc.devRef (τ := τ) .tc w} := rfl

/-- The operations of `keys0` touch TensorCore buffers only. -/
theorem keys0_sub : (keys0 (F := F)).Forall fun op => op.bufs ⊆ StableHlo.tcRefs τ sig := ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub ..⟩

/-- Each operation of `keys0` determines its result. -/
theorem keys0_fresh : ∀ op ∈ (keys0 (F := F)), op.fresh = ∅ := by
  intro _ h; (repeat (cases h with | head => rfl | tail _ h => ?_)); exact nomatch h

/-- The operations 37 to 43 of the line. -/
def init0 : List (HloOp τ sig (Elt F)) := [
  StableHlo.binary main_call0_v5 main_call0_v7 main_call0_call0_v0 (xori : C F ⟨S_, .i32⟩ → C F ⟨S_, .i32⟩ → C F ⟨S_, .i32⟩),
  StableHlo.nullary main_call0_call0_c ((constantI S_ 32 466688986#32) : C F ⟨S_, .i32⟩),
  StableHlo.binary main_call0_call0_v0 main_call0_call0_c main_call0_call0_v1 (xori : C F ⟨S_, .i32⟩ → C F ⟨S_, .i32⟩ → C F ⟨S_, .i32⟩),
  StableHlo.unary main_call0_v5 main_call0_call0_v2 ((broadcastInDim S32x1000000 ![] bcast_S_S32x1000000) : C F ⟨S_, .i32⟩ → C F ⟨S32x1000000, .i32⟩),
  StableHlo.binary main_call0_v18 main_call0_call0_v2 main_call0_call0_v3 (addi : C F ⟨S32x1000000, .i32⟩ → C F ⟨S32x1000000, .i32⟩ → C F ⟨S32x1000000, .i32⟩),
  StableHlo.unary main_call0_v7 main_call0_call0_v4 ((broadcastInDim S32x1000000 ![] bcast_S_S32x1000000) : C F ⟨S_, .i32⟩ → C F ⟨S32x1000000, .i32⟩),
  StableHlo.binary main_call0_v17 main_call0_call0_v4 main_call0_call0_v5 (addi : C F ⟨S32x1000000, .i32⟩ → C F ⟨S32x1000000, .i32⟩ → C F ⟨S32x1000000, .i32⟩)]

/-- What the operations of `init0` write, in order. -/
abbrev init0_W : List (Ref sig .tc) := [main_call0_call0_v0, main_call0_call0_c, main_call0_call0_v1, main_call0_call0_v2, main_call0_call0_v3, main_call0_call0_v4, main_call0_call0_v5]

/-- The operations of `init0` write the buffers of that list. -/
theorem init0_writes : (init0 (F := F)).map HloOp.writes = init0_W.map fun w => {Proc.devRef (τ := τ) .tc w} := rfl

/-- The operations of `init0` touch TensorCore buffers only. -/
theorem init0_sub : (init0 (F := F)).Forall fun op => op.bufs ⊆ StableHlo.tcRefs τ sig := ⟨StableHlo.binary_bufs_sub .., StableHlo.nullary_bufs_sub .., StableHlo.binary_bufs_sub .., StableHlo.unary_bufs_sub .., StableHlo.binary_bufs_sub .., StableHlo.unary_bufs_sub .., StableHlo.binary_bufs_sub ..⟩

/-- Each operation of `init0` determines its result. -/
theorem init0_fresh : ∀ op ∈ (init0 (F := F)), op.fresh = ∅ := by
  intro _ h; (repeat (cases h with | head => rfl | tail _ h => ?_)); exact nomatch h

/-- The operations 44 to 52 of the line. -/
def round1 : List (HloOp τ sig (Elt F)) := [
  StableHlo.binary main_call0_call0_v3 main_call0_call0_v5 main_call0_call0_v6 (addi : C F ⟨S32x1000000, .i32⟩ → C F ⟨S32x1000000, .i32⟩ → C F ⟨S32x1000000, .i32⟩),
  StableHlo.nullary main_call0_call0_c_0 ((constantI S_ 32 13#32) : C F ⟨S_, .i32⟩),
  StableHlo.unary main_call0_call0_c_0 main_call0_call0_v7 ((broadcastInDim S32x1000000 ![] bcast_S_S32x1000000) : C F ⟨S_, .i32⟩ → C F ⟨S32x1000000, .i32⟩),
  StableHlo.binary main_call0_call0_v5 main_call0_call0_v7 main_call0_call0_v8 (Host.shli : C F ⟨S32x1000000, .i32⟩ → C F ⟨S32x1000000, .i32⟩ → C F ⟨S32x1000000, .i32⟩),
  StableHlo.nullary main_call0_call0_c_1 ((constantI S_ 32 19#32) : C F ⟨S_, .i32⟩),
  StableHlo.unary main_call0_call0_c_1 main_call0_call0_v9 ((broadcastInDim S32x1000000 ![] bcast_S_S32x1000000) : C F ⟨S_, .i32⟩ → C F ⟨S32x1000000, .i32⟩),
  StableHlo.binary main_call0_call0_v5 main_call0_call0_v9 main_call0_call0_v10 (Host.shrui : C F ⟨S32x1000000, .i32⟩ → C F ⟨S32x1000000, .i32⟩ → C F ⟨S32x1000000, .i32⟩),
  StableHlo.binary main_call0_call0_v8 main_call0_call0_v10 main_call0_call0_v11 (ori : C F ⟨S32x1000000, .i32⟩ → C F ⟨S32x1000000, .i32⟩ → C F ⟨S32x1000000, .i32⟩),
  StableHlo.binary main_call0_call0_v6 main_call0_call0_v11 main_call0_call0_v12 (xori : C F ⟨S32x1000000, .i32⟩ → C F ⟨S32x1000000, .i32⟩ → C F ⟨S32x1000000, .i32⟩)]

/-- What the operations of `round1` write, in order. -/
abbrev round1_W : List (Ref sig .tc) := [main_call0_call0_v6, main_call0_call0_c_0, main_call0_call0_v7, main_call0_call0_v8, main_call0_call0_c_1, main_call0_call0_v9, main_call0_call0_v10, main_call0_call0_v11, main_call0_call0_v12]

/-- The operations of `round1` write the buffers of that list. -/
theorem round1_writes : (round1 (F := F)).map HloOp.writes = round1_W.map fun w => {Proc.devRef (τ := τ) .tc w} := rfl

/-- The operations of `round1` touch TensorCore buffers only. -/
theorem round1_sub : (round1 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round1` determines its result. -/
theorem round1_fresh : ∀ op ∈ (round1 (F := F)), op.fresh = ∅ := by
  intro _ h; (repeat (cases h with | head => rfl | tail _ h => ?_)); exact nomatch h

/-- The operations 53 to 61 of the line. -/
def round2 : List (HloOp τ sig (Elt F)) := [
  StableHlo.binary main_call0_call0_v6 main_call0_call0_v12 main_call0_call0_v13 (addi : C F ⟨S32x1000000, .i32⟩ → C F ⟨S32x1000000, .i32⟩ → C F ⟨S32x1000000, .i32⟩),
  StableHlo.nullary main_call0_call0_c_2 ((constantI S_ 32 15#32) : C F ⟨S_, .i32⟩),
  StableHlo.unary main_call0_call0_c_2 main_call0_call0_v14 ((broadcastInDim S32x1000000 ![] bcast_S_S32x1000000) : C F ⟨S_, .i32⟩ → C F ⟨S32x1000000, .i32⟩),
  StableHlo.binary main_call0_call0_v12 main_call0_call0_v14 main_call0_call0_v15 (Host.shli : C F ⟨S32x1000000, .i32⟩ → C F ⟨S32x1000000, .i32⟩ → C F ⟨S32x1000000, .i32⟩),
  StableHlo.nullary main_call0_call0_c_3 ((constantI S_ 32 17#32) : C F ⟨S_, .i32⟩),
  StableHlo.unary main_call0_call0_c_3 main_call0_call0_v16 ((broadcastInDim S32x1000000 ![] bcast_S_S32x1000000) : C F ⟨S_, .i32⟩ → C F ⟨S32x1000000, .i32⟩),
  StableHlo.binary main_call0_call0_v12 main_call0_call0_v16 main_call0_call0_v17 (Host.shrui : C F ⟨S32x1000000, .i32⟩ → C F ⟨S32x1000000, .i32⟩ → C F ⟨S32x1000000, .i32⟩),
  StableHlo.binary main_call0_call0_v15 main_call0_call0_v17 main_call0_call0_v18 (ori : C F ⟨S32x1000000, .i32⟩ → C F ⟨S32x1000000, .i32⟩ → C F ⟨S32x1000000, .i32⟩),
  StableHlo.binary main_call0_call0_v13 main_call0_call0_v18 main_call0_call0_v19 (xori : C F ⟨S32x1000000, .i32⟩ → C F ⟨S32x1000000, .i32⟩ → C F ⟨S32x1000000, .i32⟩)]

/-- What the operations of `round2` write, in order. -/
abbrev round2_W : List (Ref sig .tc) := [main_call0_call0_v13, main_call0_call0_c_2, main_call0_call0_v14, main_call0_call0_v15, main_call0_call0_c_3, main_call0_call0_v16, main_call0_call0_v17, main_call0_call0_v18, main_call0_call0_v19]

/-- The operations of `round2` write the buffers of that list. -/
theorem round2_writes : (round2 (F := F)).map HloOp.writes = round2_W.map fun w => {Proc.devRef (τ := τ) .tc w} := rfl

/-- The operations of `round2` touch TensorCore buffers only. -/
theorem round2_sub : (round2 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round2` determines its result. -/
theorem round2_fresh : ∀ op ∈ (round2 (F := F)), op.fresh = ∅ := by
  intro _ h; (repeat (cases h with | head => rfl | tail _ h => ?_)); exact nomatch h

/-- The operations 62 to 70 of the line. -/
def round3 : List (HloOp τ sig (Elt F)) := [
  StableHlo.binary main_call0_call0_v13 main_call0_call0_v19 main_call0_call0_v20 (addi : C F ⟨S32x1000000, .i32⟩ → C F ⟨S32x1000000, .i32⟩ → C F ⟨S32x1000000, .i32⟩),
  StableHlo.nullary main_call0_call0_c_4 ((constantI S_ 32 26#32) : C F ⟨S_, .i32⟩),
  StableHlo.unary main_call0_call0_c_4 main_call0_call0_v21 ((broadcastInDim S32x1000000 ![] bcast_S_S32x1000000) : C F ⟨S_, .i32⟩ → C F ⟨S32x1000000, .i32⟩),
  StableHlo.binary main_call0_call0_v19 main_call0_call0_v21 main_call0_call0_v22 (Host.shli : C F ⟨S32x1000000, .i32⟩ → C F ⟨S32x1000000, .i32⟩ → C F ⟨S32x1000000, .i32⟩),
  StableHlo.nullary main_call0_call0_c_5 ((constantI S_ 32 6#32) : C F ⟨S_, .i32⟩),
  StableHlo.unary main_call0_call0_c_5 main_call0_call0_v23 ((broadcastInDim S32x1000000 ![] bcast_S_S32x1000000) : C F ⟨S_, .i32⟩ → C F ⟨S32x1000000, .i32⟩),
  StableHlo.binary main_call0_call0_v19 main_call0_call0_v23 main_call0_call0_v24 (Host.shrui : C F ⟨S32x1000000, .i32⟩ → C F ⟨S32x1000000, .i32⟩ → C F ⟨S32x1000000, .i32⟩),
  StableHlo.binary main_call0_call0_v22 main_call0_call0_v24 main_call0_call0_v25 (ori : C F ⟨S32x1000000, .i32⟩ → C F ⟨S32x1000000, .i32⟩ → C F ⟨S32x1000000, .i32⟩),
  StableHlo.binary main_call0_call0_v20 main_call0_call0_v25 main_call0_call0_v26 (xori : C F ⟨S32x1000000, .i32⟩ → C F ⟨S32x1000000, .i32⟩ → C F ⟨S32x1000000, .i32⟩)]

/-- What the operations of `round3` write, in order. -/
abbrev round3_W : List (Ref sig .tc) := [main_call0_call0_v20, main_call0_call0_c_4, main_call0_call0_v21, main_call0_call0_v22, main_call0_call0_c_5, main_call0_call0_v23, main_call0_call0_v24, main_call0_call0_v25, main_call0_call0_v26]

/-- The operations of `round3` write the buffers of that list. -/
theorem round3_writes : (round3 (F := F)).map HloOp.writes = round3_W.map fun w => {Proc.devRef (τ := τ) .tc w} := rfl

/-- The operations of `round3` touch TensorCore buffers only. -/
theorem round3_sub : (round3 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round3` determines its result. -/
theorem round3_fresh : ∀ op ∈ (round3 (F := F)), op.fresh = ∅ := by
  intro _ h; (repeat (cases h with | head => rfl | tail _ h => ?_)); exact nomatch h

/-- The operations 71 to 79 of the line. -/
def round4 : List (HloOp τ sig (Elt F)) := [
  StableHlo.binary main_call0_call0_v20 main_call0_call0_v26 main_call0_call0_v27 (addi : C F ⟨S32x1000000, .i32⟩ → C F ⟨S32x1000000, .i32⟩ → C F ⟨S32x1000000, .i32⟩),
  StableHlo.nullary main_call0_call0_c_6 ((constantI S_ 32 6#32) : C F ⟨S_, .i32⟩),
  StableHlo.unary main_call0_call0_c_6 main_call0_call0_v28 ((broadcastInDim S32x1000000 ![] bcast_S_S32x1000000) : C F ⟨S_, .i32⟩ → C F ⟨S32x1000000, .i32⟩),
  StableHlo.binary main_call0_call0_v26 main_call0_call0_v28 main_call0_call0_v29 (Host.shli : C F ⟨S32x1000000, .i32⟩ → C F ⟨S32x1000000, .i32⟩ → C F ⟨S32x1000000, .i32⟩),
  StableHlo.nullary main_call0_call0_c_7 ((constantI S_ 32 26#32) : C F ⟨S_, .i32⟩),
  StableHlo.unary main_call0_call0_c_7 main_call0_call0_v30 ((broadcastInDim S32x1000000 ![] bcast_S_S32x1000000) : C F ⟨S_, .i32⟩ → C F ⟨S32x1000000, .i32⟩),
  StableHlo.binary main_call0_call0_v26 main_call0_call0_v30 main_call0_call0_v31 (Host.shrui : C F ⟨S32x1000000, .i32⟩ → C F ⟨S32x1000000, .i32⟩ → C F ⟨S32x1000000, .i32⟩),
  StableHlo.binary main_call0_call0_v29 main_call0_call0_v31 main_call0_call0_v32 (ori : C F ⟨S32x1000000, .i32⟩ → C F ⟨S32x1000000, .i32⟩ → C F ⟨S32x1000000, .i32⟩),
  StableHlo.binary main_call0_call0_v27 main_call0_call0_v32 main_call0_call0_v33 (xori : C F ⟨S32x1000000, .i32⟩ → C F ⟨S32x1000000, .i32⟩ → C F ⟨S32x1000000, .i32⟩)]

/-- What the operations of `round4` write, in order. -/
abbrev round4_W : List (Ref sig .tc) := [main_call0_call0_v27, main_call0_call0_c_6, main_call0_call0_v28, main_call0_call0_v29, main_call0_call0_c_7, main_call0_call0_v30, main_call0_call0_v31, main_call0_call0_v32, main_call0_call0_v33]

/-- The operations of `round4` write the buffers of that list. -/
theorem round4_writes : (round4 (F := F)).map HloOp.writes = round4_W.map fun w => {Proc.devRef (τ := τ) .tc w} := rfl

/-- The operations of `round4` touch TensorCore buffers only. -/
theorem round4_sub : (round4 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round4` determines its result. -/
theorem round4_fresh : ∀ op ∈ (round4 (F := F)), op.fresh = ∅ := by
  intro _ h; (repeat (cases h with | head => rfl | tail _ h => ?_)); exact nomatch h

/-- The operations 80 to 86 of the line. -/
def inject1 : List (HloOp τ sig (Elt F)) := [
  StableHlo.unary main_call0_v7 main_call0_call0_v34 ((broadcastInDim S32x1000000 ![] bcast_S_S32x1000000) : C F ⟨S_, .i32⟩ → C F ⟨S32x1000000, .i32⟩),
  StableHlo.binary main_call0_call0_v27 main_call0_call0_v34 main_call0_call0_v35 (addi : C F ⟨S32x1000000, .i32⟩ → C F ⟨S32x1000000, .i32⟩ → C F ⟨S32x1000000, .i32⟩),
  StableHlo.unary main_call0_call0_v1 main_call0_call0_v36 ((broadcastInDim S32x1000000 ![] bcast_S_S32x1000000) : C F ⟨S_, .i32⟩ → C F ⟨S32x1000000, .i32⟩),
  StableHlo.binary main_call0_call0_v33 main_call0_call0_v36 main_call0_call0_v37 (addi : C F ⟨S32x1000000, .i32⟩ → C F ⟨S32x1000000, .i32⟩ → C F ⟨S32x1000000, .i32⟩),
  StableHlo.nullary main_call0_call0_c_8 ((constantI S_ 32 1#32) : C F ⟨S_, .i32⟩),
  StableHlo.unary main_call0_call0_c_8 main_call0_call0_v38 ((broadcastInDim S32x1000000 ![] bcast_S_S32x1000000) : C F ⟨S_, .i32⟩ → C F ⟨S32x1000000, .i32⟩),
  StableHlo.binary main_call0_call0_v37 main_call0_call0_v38 main_call0_call0_v39 (addi : C F ⟨S32x1000000, .i32⟩ → C F ⟨S32x1000000, .i32⟩ → C F ⟨S32x1000000, .i32⟩)]

/-- What the operations of `inject1` write, in order. -/
abbrev inject1_W : List (Ref sig .tc) := [main_call0_call0_v34, main_call0_call0_v35, main_call0_call0_v36, main_call0_call0_v37, main_call0_call0_c_8, main_call0_call0_v38, main_call0_call0_v39]

/-- The operations of `inject1` write the buffers of that list. -/
theorem inject1_writes : (inject1 (F := F)).map HloOp.writes = inject1_W.map fun w => {Proc.devRef (τ := τ) .tc w} := rfl

/-- The operations of `inject1` touch TensorCore buffers only. -/
theorem inject1_sub : (inject1 (F := F)).Forall fun op => op.bufs ⊆ StableHlo.tcRefs τ sig := ⟨StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- Each operation of `inject1` determines its result. -/
theorem inject1_fresh : ∀ op ∈ (inject1 (F := F)), op.fresh = ∅ := by
  intro _ h; (repeat (cases h with | head => rfl | tail _ h => ?_)); exact nomatch h

/-- The operations 87 to 95 of the line. -/
def round5 : List (HloOp τ sig (Elt F)) := [
  StableHlo.binary main_call0_call0_v35 main_call0_call0_v39 main_call0_call0_v40 (addi : C F ⟨S32x1000000, .i32⟩ → C F ⟨S32x1000000, .i32⟩ → C F ⟨S32x1000000, .i32⟩),
  StableHlo.nullary main_call0_call0_c_9 ((constantI S_ 32 17#32) : C F ⟨S_, .i32⟩),
  StableHlo.unary main_call0_call0_c_9 main_call0_call0_v41 ((broadcastInDim S32x1000000 ![] bcast_S_S32x1000000) : C F ⟨S_, .i32⟩ → C F ⟨S32x1000000, .i32⟩),
  StableHlo.binary main_call0_call0_v39 main_call0_call0_v41 main_call0_call0_v42 (Host.shli : C F ⟨S32x1000000, .i32⟩ → C F ⟨S32x1000000, .i32⟩ → C F ⟨S32x1000000, .i32⟩),
  StableHlo.nullary main_call0_call0_c_10 ((constantI S_ 32 15#32) : C F ⟨S_, .i32⟩),
  StableHlo.unary main_call0_call0_c_10 main_call0_call0_v43 ((broadcastInDim S32x1000000 ![] bcast_S_S32x1000000) : C F ⟨S_, .i32⟩ → C F ⟨S32x1000000, .i32⟩),
  StableHlo.binary main_call0_call0_v39 main_call0_call0_v43 main_call0_call0_v44 (Host.shrui : C F ⟨S32x1000000, .i32⟩ → C F ⟨S32x1000000, .i32⟩ → C F ⟨S32x1000000, .i32⟩),
  StableHlo.binary main_call0_call0_v42 main_call0_call0_v44 main_call0_call0_v45 (ori : C F ⟨S32x1000000, .i32⟩ → C F ⟨S32x1000000, .i32⟩ → C F ⟨S32x1000000, .i32⟩),
  StableHlo.binary main_call0_call0_v40 main_call0_call0_v45 main_call0_call0_v46 (xori : C F ⟨S32x1000000, .i32⟩ → C F ⟨S32x1000000, .i32⟩ → C F ⟨S32x1000000, .i32⟩)]

/-- What the operations of `round5` write, in order. -/
abbrev round5_W : List (Ref sig .tc) := [main_call0_call0_v40, main_call0_call0_c_9, main_call0_call0_v41, main_call0_call0_v42, main_call0_call0_c_10, main_call0_call0_v43, main_call0_call0_v44, main_call0_call0_v45, main_call0_call0_v46]

/-- The operations of `round5` write the buffers of that list. -/
theorem round5_writes : (round5 (F := F)).map HloOp.writes = round5_W.map fun w => {Proc.devRef (τ := τ) .tc w} := rfl

/-- The operations of `round5` touch TensorCore buffers only. -/
theorem round5_sub : (round5 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round5` determines its result. -/
theorem round5_fresh : ∀ op ∈ (round5 (F := F)), op.fresh = ∅ := by
  intro _ h; (repeat (cases h with | head => rfl | tail _ h => ?_)); exact nomatch h

/-- The operations 96 to 104 of the line. -/
def round6 : List (HloOp τ sig (Elt F)) := [
  StableHlo.binary main_call0_call0_v40 main_call0_call0_v46 main_call0_call0_v47 (addi : C F ⟨S32x1000000, .i32⟩ → C F ⟨S32x1000000, .i32⟩ → C F ⟨S32x1000000, .i32⟩),
  StableHlo.nullary main_call0_call0_c_11 ((constantI S_ 32 29#32) : C F ⟨S_, .i32⟩),
  StableHlo.unary main_call0_call0_c_11 main_call0_call0_v48 ((broadcastInDim S32x1000000 ![] bcast_S_S32x1000000) : C F ⟨S_, .i32⟩ → C F ⟨S32x1000000, .i32⟩),
  StableHlo.binary main_call0_call0_v46 main_call0_call0_v48 main_call0_call0_v49 (Host.shli : C F ⟨S32x1000000, .i32⟩ → C F ⟨S32x1000000, .i32⟩ → C F ⟨S32x1000000, .i32⟩),
  StableHlo.nullary main_call0_call0_c_12 ((constantI S_ 32 3#32) : C F ⟨S_, .i32⟩),
  StableHlo.unary main_call0_call0_c_12 main_call0_call0_v50 ((broadcastInDim S32x1000000 ![] bcast_S_S32x1000000) : C F ⟨S_, .i32⟩ → C F ⟨S32x1000000, .i32⟩),
  StableHlo.binary main_call0_call0_v46 main_call0_call0_v50 main_call0_call0_v51 (Host.shrui : C F ⟨S32x1000000, .i32⟩ → C F ⟨S32x1000000, .i32⟩ → C F ⟨S32x1000000, .i32⟩),
  StableHlo.binary main_call0_call0_v49 main_call0_call0_v51 main_call0_call0_v52 (ori : C F ⟨S32x1000000, .i32⟩ → C F ⟨S32x1000000, .i32⟩ → C F ⟨S32x1000000, .i32⟩),
  StableHlo.binary main_call0_call0_v47 main_call0_call0_v52 main_call0_call0_v53 (xori : C F ⟨S32x1000000, .i32⟩ → C F ⟨S32x1000000, .i32⟩ → C F ⟨S32x1000000, .i32⟩)]

/-- What the operations of `round6` write, in order. -/
abbrev round6_W : List (Ref sig .tc) := [main_call0_call0_v47, main_call0_call0_c_11, main_call0_call0_v48, main_call0_call0_v49, main_call0_call0_c_12, main_call0_call0_v50, main_call0_call0_v51, main_call0_call0_v52, main_call0_call0_v53]

/-- The operations of `round6` write the buffers of that list. -/
theorem round6_writes : (round6 (F := F)).map HloOp.writes = round6_W.map fun w => {Proc.devRef (τ := τ) .tc w} := rfl

/-- The operations of `round6` touch TensorCore buffers only. -/
theorem round6_sub : (round6 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round6` determines its result. -/
theorem round6_fresh : ∀ op ∈ (round6 (F := F)), op.fresh = ∅ := by
  intro _ h; (repeat (cases h with | head => rfl | tail _ h => ?_)); exact nomatch h

/-- The operations 105 to 113 of the line. -/
def round7 : List (HloOp τ sig (Elt F)) := [
  StableHlo.binary main_call0_call0_v47 main_call0_call0_v53 main_call0_call0_v54 (addi : C F ⟨S32x1000000, .i32⟩ → C F ⟨S32x1000000, .i32⟩ → C F ⟨S32x1000000, .i32⟩),
  StableHlo.nullary main_call0_call0_c_13 ((constantI S_ 32 16#32) : C F ⟨S_, .i32⟩),
  StableHlo.unary main_call0_call0_c_13 main_call0_call0_v55 ((broadcastInDim S32x1000000 ![] bcast_S_S32x1000000) : C F ⟨S_, .i32⟩ → C F ⟨S32x1000000, .i32⟩),
  StableHlo.binary main_call0_call0_v53 main_call0_call0_v55 main_call0_call0_v56 (Host.shli : C F ⟨S32x1000000, .i32⟩ → C F ⟨S32x1000000, .i32⟩ → C F ⟨S32x1000000, .i32⟩),
  StableHlo.nullary main_call0_call0_c_14 ((constantI S_ 32 16#32) : C F ⟨S_, .i32⟩),
  StableHlo.unary main_call0_call0_c_14 main_call0_call0_v57 ((broadcastInDim S32x1000000 ![] bcast_S_S32x1000000) : C F ⟨S_, .i32⟩ → C F ⟨S32x1000000, .i32⟩),
  StableHlo.binary main_call0_call0_v53 main_call0_call0_v57 main_call0_call0_v58 (Host.shrui : C F ⟨S32x1000000, .i32⟩ → C F ⟨S32x1000000, .i32⟩ → C F ⟨S32x1000000, .i32⟩),
  StableHlo.binary main_call0_call0_v56 main_call0_call0_v58 main_call0_call0_v59 (ori : C F ⟨S32x1000000, .i32⟩ → C F ⟨S32x1000000, .i32⟩ → C F ⟨S32x1000000, .i32⟩),
  StableHlo.binary main_call0_call0_v54 main_call0_call0_v59 main_call0_call0_v60 (xori : C F ⟨S32x1000000, .i32⟩ → C F ⟨S32x1000000, .i32⟩ → C F ⟨S32x1000000, .i32⟩)]

/-- What the operations of `round7` write, in order. -/
abbrev round7_W : List (Ref sig .tc) := [main_call0_call0_v54, main_call0_call0_c_13, main_call0_call0_v55, main_call0_call0_v56, main_call0_call0_c_14, main_call0_call0_v57, main_call0_call0_v58, main_call0_call0_v59, main_call0_call0_v60]

/-- The operations of `round7` write the buffers of that list. -/
theorem round7_writes : (round7 (F := F)).map HloOp.writes = round7_W.map fun w => {Proc.devRef (τ := τ) .tc w} := rfl

/-- The operations of `round7` touch TensorCore buffers only. -/
theorem round7_sub : (round7 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round7` determines its result. -/
theorem round7_fresh : ∀ op ∈ (round7 (F := F)), op.fresh = ∅ := by
  intro _ h; (repeat (cases h with | head => rfl | tail _ h => ?_)); exact nomatch h

/-- The operations 114 to 122 of the line. -/
def round8 : List (HloOp τ sig (Elt F)) := [
  StableHlo.binary main_call0_call0_v54 main_call0_call0_v60 main_call0_call0_v61 (addi : C F ⟨S32x1000000, .i32⟩ → C F ⟨S32x1000000, .i32⟩ → C F ⟨S32x1000000, .i32⟩),
  StableHlo.nullary main_call0_call0_c_15 ((constantI S_ 32 24#32) : C F ⟨S_, .i32⟩),
  StableHlo.unary main_call0_call0_c_15 main_call0_call0_v62 ((broadcastInDim S32x1000000 ![] bcast_S_S32x1000000) : C F ⟨S_, .i32⟩ → C F ⟨S32x1000000, .i32⟩),
  StableHlo.binary main_call0_call0_v60 main_call0_call0_v62 main_call0_call0_v63 (Host.shli : C F ⟨S32x1000000, .i32⟩ → C F ⟨S32x1000000, .i32⟩ → C F ⟨S32x1000000, .i32⟩),
  StableHlo.nullary main_call0_call0_c_16 ((constantI S_ 32 8#32) : C F ⟨S_, .i32⟩),
  StableHlo.unary main_call0_call0_c_16 main_call0_call0_v64 ((broadcastInDim S32x1000000 ![] bcast_S_S32x1000000) : C F ⟨S_, .i32⟩ → C F ⟨S32x1000000, .i32⟩),
  StableHlo.binary main_call0_call0_v60 main_call0_call0_v64 main_call0_call0_v65 (Host.shrui : C F ⟨S32x1000000, .i32⟩ → C F ⟨S32x1000000, .i32⟩ → C F ⟨S32x1000000, .i32⟩),
  StableHlo.binary main_call0_call0_v63 main_call0_call0_v65 main_call0_call0_v66 (ori : C F ⟨S32x1000000, .i32⟩ → C F ⟨S32x1000000, .i32⟩ → C F ⟨S32x1000000, .i32⟩),
  StableHlo.binary main_call0_call0_v61 main_call0_call0_v66 main_call0_call0_v67 (xori : C F ⟨S32x1000000, .i32⟩ → C F ⟨S32x1000000, .i32⟩ → C F ⟨S32x1000000, .i32⟩)]

/-- What the operations of `round8` write, in order. -/
abbrev round8_W : List (Ref sig .tc) := [main_call0_call0_v61, main_call0_call0_c_15, main_call0_call0_v62, main_call0_call0_v63, main_call0_call0_c_16, main_call0_call0_v64, main_call0_call0_v65, main_call0_call0_v66, main_call0_call0_v67]

/-- The operations of `round8` write the buffers of that list. -/
theorem round8_writes : (round8 (F := F)).map HloOp.writes = round8_W.map fun w => {Proc.devRef (τ := τ) .tc w} := rfl

/-- The operations of `round8` touch TensorCore buffers only. -/
theorem round8_sub : (round8 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round8` determines its result. -/
theorem round8_fresh : ∀ op ∈ (round8 (F := F)), op.fresh = ∅ := by
  intro _ h; (repeat (cases h with | head => rfl | tail _ h => ?_)); exact nomatch h

/-- The operations 123 to 129 of the line. -/
def inject2 : List (HloOp τ sig (Elt F)) := [
  StableHlo.unary main_call0_call0_v1 main_call0_call0_v68 ((broadcastInDim S32x1000000 ![] bcast_S_S32x1000000) : C F ⟨S_, .i32⟩ → C F ⟨S32x1000000, .i32⟩),
  StableHlo.binary main_call0_call0_v61 main_call0_call0_v68 main_call0_call0_v69 (addi : C F ⟨S32x1000000, .i32⟩ → C F ⟨S32x1000000, .i32⟩ → C F ⟨S32x1000000, .i32⟩),
  StableHlo.unary main_call0_v5 main_call0_call0_v70 ((broadcastInDim S32x1000000 ![] bcast_S_S32x1000000) : C F ⟨S_, .i32⟩ → C F ⟨S32x1000000, .i32⟩),
  StableHlo.binary main_call0_call0_v67 main_call0_call0_v70 main_call0_call0_v71 (addi : C F ⟨S32x1000000, .i32⟩ → C F ⟨S32x1000000, .i32⟩ → C F ⟨S32x1000000, .i32⟩),
  StableHlo.nullary main_call0_call0_c_17 ((constantI S_ 32 2#32) : C F ⟨S_, .i32⟩),
  StableHlo.unary main_call0_call0_c_17 main_call0_call0_v72 ((broadcastInDim S32x1000000 ![] bcast_S_S32x1000000) : C F ⟨S_, .i32⟩ → C F ⟨S32x1000000, .i32⟩),
  StableHlo.binary main_call0_call0_v71 main_call0_call0_v72 main_call0_call0_v73 (addi : C F ⟨S32x1000000, .i32⟩ → C F ⟨S32x1000000, .i32⟩ → C F ⟨S32x1000000, .i32⟩)]

/-- What the operations of `inject2` write, in order. -/
abbrev inject2_W : List (Ref sig .tc) := [main_call0_call0_v68, main_call0_call0_v69, main_call0_call0_v70, main_call0_call0_v71, main_call0_call0_c_17, main_call0_call0_v72, main_call0_call0_v73]

/-- The operations of `inject2` write the buffers of that list. -/
theorem inject2_writes : (inject2 (F := F)).map HloOp.writes = inject2_W.map fun w => {Proc.devRef (τ := τ) .tc w} := rfl

/-- The operations of `inject2` touch TensorCore buffers only. -/
theorem inject2_sub : (inject2 (F := F)).Forall fun op => op.bufs ⊆ StableHlo.tcRefs τ sig := ⟨StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- Each operation of `inject2` determines its result. -/
theorem inject2_fresh : ∀ op ∈ (inject2 (F := F)), op.fresh = ∅ := by
  intro _ h; (repeat (cases h with | head => rfl | tail _ h => ?_)); exact nomatch h

/-- The operations 130 to 138 of the line. -/
def round9 : List (HloOp τ sig (Elt F)) := [
  StableHlo.binary main_call0_call0_v69 main_call0_call0_v73 main_call0_call0_v74 (addi : C F ⟨S32x1000000, .i32⟩ → C F ⟨S32x1000000, .i32⟩ → C F ⟨S32x1000000, .i32⟩),
  StableHlo.nullary main_call0_call0_c_18 ((constantI S_ 32 13#32) : C F ⟨S_, .i32⟩),
  StableHlo.unary main_call0_call0_c_18 main_call0_call0_v75 ((broadcastInDim S32x1000000 ![] bcast_S_S32x1000000) : C F ⟨S_, .i32⟩ → C F ⟨S32x1000000, .i32⟩),
  StableHlo.binary main_call0_call0_v73 main_call0_call0_v75 main_call0_call0_v76 (Host.shli : C F ⟨S32x1000000, .i32⟩ → C F ⟨S32x1000000, .i32⟩ → C F ⟨S32x1000000, .i32⟩),
  StableHlo.nullary main_call0_call0_c_19 ((constantI S_ 32 19#32) : C F ⟨S_, .i32⟩),
  StableHlo.unary main_call0_call0_c_19 main_call0_call0_v77 ((broadcastInDim S32x1000000 ![] bcast_S_S32x1000000) : C F ⟨S_, .i32⟩ → C F ⟨S32x1000000, .i32⟩),
  StableHlo.binary main_call0_call0_v73 main_call0_call0_v77 main_call0_call0_v78 (Host.shrui : C F ⟨S32x1000000, .i32⟩ → C F ⟨S32x1000000, .i32⟩ → C F ⟨S32x1000000, .i32⟩),
  StableHlo.binary main_call0_call0_v76 main_call0_call0_v78 main_call0_call0_v79 (ori : C F ⟨S32x1000000, .i32⟩ → C F ⟨S32x1000000, .i32⟩ → C F ⟨S32x1000000, .i32⟩),
  StableHlo.binary main_call0_call0_v74 main_call0_call0_v79 main_call0_call0_v80 (xori : C F ⟨S32x1000000, .i32⟩ → C F ⟨S32x1000000, .i32⟩ → C F ⟨S32x1000000, .i32⟩)]

/-- What the operations of `round9` write, in order. -/
abbrev round9_W : List (Ref sig .tc) := [main_call0_call0_v74, main_call0_call0_c_18, main_call0_call0_v75, main_call0_call0_v76, main_call0_call0_c_19, main_call0_call0_v77, main_call0_call0_v78, main_call0_call0_v79, main_call0_call0_v80]

/-- The operations of `round9` write the buffers of that list. -/
theorem round9_writes : (round9 (F := F)).map HloOp.writes = round9_W.map fun w => {Proc.devRef (τ := τ) .tc w} := rfl

/-- The operations of `round9` touch TensorCore buffers only. -/
theorem round9_sub : (round9 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round9` determines its result. -/
theorem round9_fresh : ∀ op ∈ (round9 (F := F)), op.fresh = ∅ := by
  intro _ h; (repeat (cases h with | head => rfl | tail _ h => ?_)); exact nomatch h

/-- The operations 139 to 147 of the line. -/
def round10 : List (HloOp τ sig (Elt F)) := [
  StableHlo.binary main_call0_call0_v74 main_call0_call0_v80 main_call0_call0_v81 (addi : C F ⟨S32x1000000, .i32⟩ → C F ⟨S32x1000000, .i32⟩ → C F ⟨S32x1000000, .i32⟩),
  StableHlo.nullary main_call0_call0_c_20 ((constantI S_ 32 15#32) : C F ⟨S_, .i32⟩),
  StableHlo.unary main_call0_call0_c_20 main_call0_call0_v82 ((broadcastInDim S32x1000000 ![] bcast_S_S32x1000000) : C F ⟨S_, .i32⟩ → C F ⟨S32x1000000, .i32⟩),
  StableHlo.binary main_call0_call0_v80 main_call0_call0_v82 main_call0_call0_v83 (Host.shli : C F ⟨S32x1000000, .i32⟩ → C F ⟨S32x1000000, .i32⟩ → C F ⟨S32x1000000, .i32⟩),
  StableHlo.nullary main_call0_call0_c_21 ((constantI S_ 32 17#32) : C F ⟨S_, .i32⟩),
  StableHlo.unary main_call0_call0_c_21 main_call0_call0_v84 ((broadcastInDim S32x1000000 ![] bcast_S_S32x1000000) : C F ⟨S_, .i32⟩ → C F ⟨S32x1000000, .i32⟩),
  StableHlo.binary main_call0_call0_v80 main_call0_call0_v84 main_call0_call0_v85 (Host.shrui : C F ⟨S32x1000000, .i32⟩ → C F ⟨S32x1000000, .i32⟩ → C F ⟨S32x1000000, .i32⟩),
  StableHlo.binary main_call0_call0_v83 main_call0_call0_v85 main_call0_call0_v86 (ori : C F ⟨S32x1000000, .i32⟩ → C F ⟨S32x1000000, .i32⟩ → C F ⟨S32x1000000, .i32⟩),
  StableHlo.binary main_call0_call0_v81 main_call0_call0_v86 main_call0_call0_v87 (xori : C F ⟨S32x1000000, .i32⟩ → C F ⟨S32x1000000, .i32⟩ → C F ⟨S32x1000000, .i32⟩)]

/-- What the operations of `round10` write, in order. -/
abbrev round10_W : List (Ref sig .tc) := [main_call0_call0_v81, main_call0_call0_c_20, main_call0_call0_v82, main_call0_call0_v83, main_call0_call0_c_21, main_call0_call0_v84, main_call0_call0_v85, main_call0_call0_v86, main_call0_call0_v87]

/-- The operations of `round10` write the buffers of that list. -/
theorem round10_writes : (round10 (F := F)).map HloOp.writes = round10_W.map fun w => {Proc.devRef (τ := τ) .tc w} := rfl

/-- The operations of `round10` touch TensorCore buffers only. -/
theorem round10_sub : (round10 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round10` determines its result. -/
theorem round10_fresh : ∀ op ∈ (round10 (F := F)), op.fresh = ∅ := by
  intro _ h; (repeat (cases h with | head => rfl | tail _ h => ?_)); exact nomatch h

/-- The operations 148 to 156 of the line. -/
def round11 : List (HloOp τ sig (Elt F)) := [
  StableHlo.binary main_call0_call0_v81 main_call0_call0_v87 main_call0_call0_v88 (addi : C F ⟨S32x1000000, .i32⟩ → C F ⟨S32x1000000, .i32⟩ → C F ⟨S32x1000000, .i32⟩),
  StableHlo.nullary main_call0_call0_c_22 ((constantI S_ 32 26#32) : C F ⟨S_, .i32⟩),
  StableHlo.unary main_call0_call0_c_22 main_call0_call0_v89 ((broadcastInDim S32x1000000 ![] bcast_S_S32x1000000) : C F ⟨S_, .i32⟩ → C F ⟨S32x1000000, .i32⟩),
  StableHlo.binary main_call0_call0_v87 main_call0_call0_v89 main_call0_call0_v90 (Host.shli : C F ⟨S32x1000000, .i32⟩ → C F ⟨S32x1000000, .i32⟩ → C F ⟨S32x1000000, .i32⟩),
  StableHlo.nullary main_call0_call0_c_23 ((constantI S_ 32 6#32) : C F ⟨S_, .i32⟩),
  StableHlo.unary main_call0_call0_c_23 main_call0_call0_v91 ((broadcastInDim S32x1000000 ![] bcast_S_S32x1000000) : C F ⟨S_, .i32⟩ → C F ⟨S32x1000000, .i32⟩),
  StableHlo.binary main_call0_call0_v87 main_call0_call0_v91 main_call0_call0_v92 (Host.shrui : C F ⟨S32x1000000, .i32⟩ → C F ⟨S32x1000000, .i32⟩ → C F ⟨S32x1000000, .i32⟩),
  StableHlo.binary main_call0_call0_v90 main_call0_call0_v92 main_call0_call0_v93 (ori : C F ⟨S32x1000000, .i32⟩ → C F ⟨S32x1000000, .i32⟩ → C F ⟨S32x1000000, .i32⟩),
  StableHlo.binary main_call0_call0_v88 main_call0_call0_v93 main_call0_call0_v94 (xori : C F ⟨S32x1000000, .i32⟩ → C F ⟨S32x1000000, .i32⟩ → C F ⟨S32x1000000, .i32⟩)]

/-- What the operations of `round11` write, in order. -/
abbrev round11_W : List (Ref sig .tc) := [main_call0_call0_v88, main_call0_call0_c_22, main_call0_call0_v89, main_call0_call0_v90, main_call0_call0_c_23, main_call0_call0_v91, main_call0_call0_v92, main_call0_call0_v93, main_call0_call0_v94]

/-- The operations of `round11` write the buffers of that list. -/
theorem round11_writes : (round11 (F := F)).map HloOp.writes = round11_W.map fun w => {Proc.devRef (τ := τ) .tc w} := rfl

/-- The operations of `round11` touch TensorCore buffers only. -/
theorem round11_sub : (round11 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round11` determines its result. -/
theorem round11_fresh : ∀ op ∈ (round11 (F := F)), op.fresh = ∅ := by
  intro _ h; (repeat (cases h with | head => rfl | tail _ h => ?_)); exact nomatch h

/-- The operations 157 to 165 of the line. -/
def round12 : List (HloOp τ sig (Elt F)) := [
  StableHlo.binary main_call0_call0_v88 main_call0_call0_v94 main_call0_call0_v95 (addi : C F ⟨S32x1000000, .i32⟩ → C F ⟨S32x1000000, .i32⟩ → C F ⟨S32x1000000, .i32⟩),
  StableHlo.nullary main_call0_call0_c_24 ((constantI S_ 32 6#32) : C F ⟨S_, .i32⟩),
  StableHlo.unary main_call0_call0_c_24 main_call0_call0_v96 ((broadcastInDim S32x1000000 ![] bcast_S_S32x1000000) : C F ⟨S_, .i32⟩ → C F ⟨S32x1000000, .i32⟩),
  StableHlo.binary main_call0_call0_v94 main_call0_call0_v96 main_call0_call0_v97 (Host.shli : C F ⟨S32x1000000, .i32⟩ → C F ⟨S32x1000000, .i32⟩ → C F ⟨S32x1000000, .i32⟩),
  StableHlo.nullary main_call0_call0_c_25 ((constantI S_ 32 26#32) : C F ⟨S_, .i32⟩),
  StableHlo.unary main_call0_call0_c_25 main_call0_call0_v98 ((broadcastInDim S32x1000000 ![] bcast_S_S32x1000000) : C F ⟨S_, .i32⟩ → C F ⟨S32x1000000, .i32⟩),
  StableHlo.binary main_call0_call0_v94 main_call0_call0_v98 main_call0_call0_v99 (Host.shrui : C F ⟨S32x1000000, .i32⟩ → C F ⟨S32x1000000, .i32⟩ → C F ⟨S32x1000000, .i32⟩),
  StableHlo.binary main_call0_call0_v97 main_call0_call0_v99 main_call0_call0_v100 (ori : C F ⟨S32x1000000, .i32⟩ → C F ⟨S32x1000000, .i32⟩ → C F ⟨S32x1000000, .i32⟩),
  StableHlo.binary main_call0_call0_v95 main_call0_call0_v100 main_call0_call0_v101 (xori : C F ⟨S32x1000000, .i32⟩ → C F ⟨S32x1000000, .i32⟩ → C F ⟨S32x1000000, .i32⟩)]

/-- What the operations of `round12` write, in order. -/
abbrev round12_W : List (Ref sig .tc) := [main_call0_call0_v95, main_call0_call0_c_24, main_call0_call0_v96, main_call0_call0_v97, main_call0_call0_c_25, main_call0_call0_v98, main_call0_call0_v99, main_call0_call0_v100, main_call0_call0_v101]

/-- The operations of `round12` write the buffers of that list. -/
theorem round12_writes : (round12 (F := F)).map HloOp.writes = round12_W.map fun w => {Proc.devRef (τ := τ) .tc w} := rfl

/-- The operations of `round12` touch TensorCore buffers only. -/
theorem round12_sub : (round12 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round12` determines its result. -/
theorem round12_fresh : ∀ op ∈ (round12 (F := F)), op.fresh = ∅ := by
  intro _ h; (repeat (cases h with | head => rfl | tail _ h => ?_)); exact nomatch h

/-- The operations 166 to 172 of the line. -/
def inject3 : List (HloOp τ sig (Elt F)) := [
  StableHlo.unary main_call0_v5 main_call0_call0_v102 ((broadcastInDim S32x1000000 ![] bcast_S_S32x1000000) : C F ⟨S_, .i32⟩ → C F ⟨S32x1000000, .i32⟩),
  StableHlo.binary main_call0_call0_v95 main_call0_call0_v102 main_call0_call0_v103 (addi : C F ⟨S32x1000000, .i32⟩ → C F ⟨S32x1000000, .i32⟩ → C F ⟨S32x1000000, .i32⟩),
  StableHlo.unary main_call0_v7 main_call0_call0_v104 ((broadcastInDim S32x1000000 ![] bcast_S_S32x1000000) : C F ⟨S_, .i32⟩ → C F ⟨S32x1000000, .i32⟩),
  StableHlo.binary main_call0_call0_v101 main_call0_call0_v104 main_call0_call0_v105 (addi : C F ⟨S32x1000000, .i32⟩ → C F ⟨S32x1000000, .i32⟩ → C F ⟨S32x1000000, .i32⟩),
  StableHlo.nullary main_call0_call0_c_26 ((constantI S_ 32 3#32) : C F ⟨S_, .i32⟩),
  StableHlo.unary main_call0_call0_c_26 main_call0_call0_v106 ((broadcastInDim S32x1000000 ![] bcast_S_S32x1000000) : C F ⟨S_, .i32⟩ → C F ⟨S32x1000000, .i32⟩),
  StableHlo.binary main_call0_call0_v105 main_call0_call0_v106 main_call0_call0_v107 (addi : C F ⟨S32x1000000, .i32⟩ → C F ⟨S32x1000000, .i32⟩ → C F ⟨S32x1000000, .i32⟩)]

/-- What the operations of `inject3` write, in order. -/
abbrev inject3_W : List (Ref sig .tc) := [main_call0_call0_v102, main_call0_call0_v103, main_call0_call0_v104, main_call0_call0_v105, main_call0_call0_c_26, main_call0_call0_v106, main_call0_call0_v107]

/-- The operations of `inject3` write the buffers of that list. -/
theorem inject3_writes : (inject3 (F := F)).map HloOp.writes = inject3_W.map fun w => {Proc.devRef (τ := τ) .tc w} := rfl

/-- The operations of `inject3` touch TensorCore buffers only. -/
theorem inject3_sub : (inject3 (F := F)).Forall fun op => op.bufs ⊆ StableHlo.tcRefs τ sig := ⟨StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- Each operation of `inject3` determines its result. -/
theorem inject3_fresh : ∀ op ∈ (inject3 (F := F)), op.fresh = ∅ := by
  intro _ h; (repeat (cases h with | head => rfl | tail _ h => ?_)); exact nomatch h

/-- The operations 173 to 181 of the line. -/
def round13 : List (HloOp τ sig (Elt F)) := [
  StableHlo.binary main_call0_call0_v103 main_call0_call0_v107 main_call0_call0_v108 (addi : C F ⟨S32x1000000, .i32⟩ → C F ⟨S32x1000000, .i32⟩ → C F ⟨S32x1000000, .i32⟩),
  StableHlo.nullary main_call0_call0_c_27 ((constantI S_ 32 17#32) : C F ⟨S_, .i32⟩),
  StableHlo.unary main_call0_call0_c_27 main_call0_call0_v109 ((broadcastInDim S32x1000000 ![] bcast_S_S32x1000000) : C F ⟨S_, .i32⟩ → C F ⟨S32x1000000, .i32⟩),
  StableHlo.binary main_call0_call0_v107 main_call0_call0_v109 main_call0_call0_v110 (Host.shli : C F ⟨S32x1000000, .i32⟩ → C F ⟨S32x1000000, .i32⟩ → C F ⟨S32x1000000, .i32⟩),
  StableHlo.nullary main_call0_call0_c_28 ((constantI S_ 32 15#32) : C F ⟨S_, .i32⟩),
  StableHlo.unary main_call0_call0_c_28 main_call0_call0_v111 ((broadcastInDim S32x1000000 ![] bcast_S_S32x1000000) : C F ⟨S_, .i32⟩ → C F ⟨S32x1000000, .i32⟩),
  StableHlo.binary main_call0_call0_v107 main_call0_call0_v111 main_call0_call0_v112 (Host.shrui : C F ⟨S32x1000000, .i32⟩ → C F ⟨S32x1000000, .i32⟩ → C F ⟨S32x1000000, .i32⟩),
  StableHlo.binary main_call0_call0_v110 main_call0_call0_v112 main_call0_call0_v113 (ori : C F ⟨S32x1000000, .i32⟩ → C F ⟨S32x1000000, .i32⟩ → C F ⟨S32x1000000, .i32⟩),
  StableHlo.binary main_call0_call0_v108 main_call0_call0_v113 main_call0_call0_v114 (xori : C F ⟨S32x1000000, .i32⟩ → C F ⟨S32x1000000, .i32⟩ → C F ⟨S32x1000000, .i32⟩)]

/-- What the operations of `round13` write, in order. -/
abbrev round13_W : List (Ref sig .tc) := [main_call0_call0_v108, main_call0_call0_c_27, main_call0_call0_v109, main_call0_call0_v110, main_call0_call0_c_28, main_call0_call0_v111, main_call0_call0_v112, main_call0_call0_v113, main_call0_call0_v114]

/-- The operations of `round13` write the buffers of that list. -/
theorem round13_writes : (round13 (F := F)).map HloOp.writes = round13_W.map fun w => {Proc.devRef (τ := τ) .tc w} := rfl

/-- The operations of `round13` touch TensorCore buffers only. -/
theorem round13_sub : (round13 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round13` determines its result. -/
theorem round13_fresh : ∀ op ∈ (round13 (F := F)), op.fresh = ∅ := by
  intro _ h; (repeat (cases h with | head => rfl | tail _ h => ?_)); exact nomatch h

/-- The operations 182 to 190 of the line. -/
def round14 : List (HloOp τ sig (Elt F)) := [
  StableHlo.binary main_call0_call0_v108 main_call0_call0_v114 main_call0_call0_v115 (addi : C F ⟨S32x1000000, .i32⟩ → C F ⟨S32x1000000, .i32⟩ → C F ⟨S32x1000000, .i32⟩),
  StableHlo.nullary main_call0_call0_c_29 ((constantI S_ 32 29#32) : C F ⟨S_, .i32⟩),
  StableHlo.unary main_call0_call0_c_29 main_call0_call0_v116 ((broadcastInDim S32x1000000 ![] bcast_S_S32x1000000) : C F ⟨S_, .i32⟩ → C F ⟨S32x1000000, .i32⟩),
  StableHlo.binary main_call0_call0_v114 main_call0_call0_v116 main_call0_call0_v117 (Host.shli : C F ⟨S32x1000000, .i32⟩ → C F ⟨S32x1000000, .i32⟩ → C F ⟨S32x1000000, .i32⟩),
  StableHlo.nullary main_call0_call0_c_30 ((constantI S_ 32 3#32) : C F ⟨S_, .i32⟩),
  StableHlo.unary main_call0_call0_c_30 main_call0_call0_v118 ((broadcastInDim S32x1000000 ![] bcast_S_S32x1000000) : C F ⟨S_, .i32⟩ → C F ⟨S32x1000000, .i32⟩),
  StableHlo.binary main_call0_call0_v114 main_call0_call0_v118 main_call0_call0_v119 (Host.shrui : C F ⟨S32x1000000, .i32⟩ → C F ⟨S32x1000000, .i32⟩ → C F ⟨S32x1000000, .i32⟩),
  StableHlo.binary main_call0_call0_v117 main_call0_call0_v119 main_call0_call0_v120 (ori : C F ⟨S32x1000000, .i32⟩ → C F ⟨S32x1000000, .i32⟩ → C F ⟨S32x1000000, .i32⟩),
  StableHlo.binary main_call0_call0_v115 main_call0_call0_v120 main_call0_call0_v121 (xori : C F ⟨S32x1000000, .i32⟩ → C F ⟨S32x1000000, .i32⟩ → C F ⟨S32x1000000, .i32⟩)]

/-- What the operations of `round14` write, in order. -/
abbrev round14_W : List (Ref sig .tc) := [main_call0_call0_v115, main_call0_call0_c_29, main_call0_call0_v116, main_call0_call0_v117, main_call0_call0_c_30, main_call0_call0_v118, main_call0_call0_v119, main_call0_call0_v120, main_call0_call0_v121]

/-- The operations of `round14` write the buffers of that list. -/
theorem round14_writes : (round14 (F := F)).map HloOp.writes = round14_W.map fun w => {Proc.devRef (τ := τ) .tc w} := rfl

/-- The operations of `round14` touch TensorCore buffers only. -/
theorem round14_sub : (round14 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round14` determines its result. -/
theorem round14_fresh : ∀ op ∈ (round14 (F := F)), op.fresh = ∅ := by
  intro _ h; (repeat (cases h with | head => rfl | tail _ h => ?_)); exact nomatch h

/-- The operations 191 to 199 of the line. -/
def round15 : List (HloOp τ sig (Elt F)) := [
  StableHlo.binary main_call0_call0_v115 main_call0_call0_v121 main_call0_call0_v122 (addi : C F ⟨S32x1000000, .i32⟩ → C F ⟨S32x1000000, .i32⟩ → C F ⟨S32x1000000, .i32⟩),
  StableHlo.nullary main_call0_call0_c_31 ((constantI S_ 32 16#32) : C F ⟨S_, .i32⟩),
  StableHlo.unary main_call0_call0_c_31 main_call0_call0_v123 ((broadcastInDim S32x1000000 ![] bcast_S_S32x1000000) : C F ⟨S_, .i32⟩ → C F ⟨S32x1000000, .i32⟩),
  StableHlo.binary main_call0_call0_v121 main_call0_call0_v123 main_call0_call0_v124 (Host.shli : C F ⟨S32x1000000, .i32⟩ → C F ⟨S32x1000000, .i32⟩ → C F ⟨S32x1000000, .i32⟩),
  StableHlo.nullary main_call0_call0_c_32 ((constantI S_ 32 16#32) : C F ⟨S_, .i32⟩),
  StableHlo.unary main_call0_call0_c_32 main_call0_call0_v125 ((broadcastInDim S32x1000000 ![] bcast_S_S32x1000000) : C F ⟨S_, .i32⟩ → C F ⟨S32x1000000, .i32⟩),
  StableHlo.binary main_call0_call0_v121 main_call0_call0_v125 main_call0_call0_v126 (Host.shrui : C F ⟨S32x1000000, .i32⟩ → C F ⟨S32x1000000, .i32⟩ → C F ⟨S32x1000000, .i32⟩),
  StableHlo.binary main_call0_call0_v124 main_call0_call0_v126 main_call0_call0_v127 (ori : C F ⟨S32x1000000, .i32⟩ → C F ⟨S32x1000000, .i32⟩ → C F ⟨S32x1000000, .i32⟩),
  StableHlo.binary main_call0_call0_v122 main_call0_call0_v127 main_call0_call0_v128 (xori : C F ⟨S32x1000000, .i32⟩ → C F ⟨S32x1000000, .i32⟩ → C F ⟨S32x1000000, .i32⟩)]

/-- What the operations of `round15` write, in order. -/
abbrev round15_W : List (Ref sig .tc) := [main_call0_call0_v122, main_call0_call0_c_31, main_call0_call0_v123, main_call0_call0_v124, main_call0_call0_c_32, main_call0_call0_v125, main_call0_call0_v126, main_call0_call0_v127, main_call0_call0_v128]

/-- The operations of `round15` write the buffers of that list. -/
theorem round15_writes : (round15 (F := F)).map HloOp.writes = round15_W.map fun w => {Proc.devRef (τ := τ) .tc w} := rfl

/-- The operations of `round15` touch TensorCore buffers only. -/
theorem round15_sub : (round15 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round15` determines its result. -/
theorem round15_fresh : ∀ op ∈ (round15 (F := F)), op.fresh = ∅ := by
  intro _ h; (repeat (cases h with | head => rfl | tail _ h => ?_)); exact nomatch h

/-- The operations 200 to 208 of the line. -/
def round16 : List (HloOp τ sig (Elt F)) := [
  StableHlo.binary main_call0_call0_v122 main_call0_call0_v128 main_call0_call0_v129 (addi : C F ⟨S32x1000000, .i32⟩ → C F ⟨S32x1000000, .i32⟩ → C F ⟨S32x1000000, .i32⟩),
  StableHlo.nullary main_call0_call0_c_33 ((constantI S_ 32 24#32) : C F ⟨S_, .i32⟩),
  StableHlo.unary main_call0_call0_c_33 main_call0_call0_v130 ((broadcastInDim S32x1000000 ![] bcast_S_S32x1000000) : C F ⟨S_, .i32⟩ → C F ⟨S32x1000000, .i32⟩),
  StableHlo.binary main_call0_call0_v128 main_call0_call0_v130 main_call0_call0_v131 (Host.shli : C F ⟨S32x1000000, .i32⟩ → C F ⟨S32x1000000, .i32⟩ → C F ⟨S32x1000000, .i32⟩),
  StableHlo.nullary main_call0_call0_c_34 ((constantI S_ 32 8#32) : C F ⟨S_, .i32⟩),
  StableHlo.unary main_call0_call0_c_34 main_call0_call0_v132 ((broadcastInDim S32x1000000 ![] bcast_S_S32x1000000) : C F ⟨S_, .i32⟩ → C F ⟨S32x1000000, .i32⟩),
  StableHlo.binary main_call0_call0_v128 main_call0_call0_v132 main_call0_call0_v133 (Host.shrui : C F ⟨S32x1000000, .i32⟩ → C F ⟨S32x1000000, .i32⟩ → C F ⟨S32x1000000, .i32⟩),
  StableHlo.binary main_call0_call0_v131 main_call0_call0_v133 main_call0_call0_v134 (ori : C F ⟨S32x1000000, .i32⟩ → C F ⟨S32x1000000, .i32⟩ → C F ⟨S32x1000000, .i32⟩),
  StableHlo.binary main_call0_call0_v129 main_call0_call0_v134 main_call0_call0_v135 (xori : C F ⟨S32x1000000, .i32⟩ → C F ⟨S32x1000000, .i32⟩ → C F ⟨S32x1000000, .i32⟩)]

/-- What the operations of `round16` write, in order. -/
abbrev round16_W : List (Ref sig .tc) := [main_call0_call0_v129, main_call0_call0_c_33, main_call0_call0_v130, main_call0_call0_v131, main_call0_call0_c_34, main_call0_call0_v132, main_call0_call0_v133, main_call0_call0_v134, main_call0_call0_v135]

/-- The operations of `round16` write the buffers of that list. -/
theorem round16_writes : (round16 (F := F)).map HloOp.writes = round16_W.map fun w => {Proc.devRef (τ := τ) .tc w} := rfl

/-- The operations of `round16` touch TensorCore buffers only. -/
theorem round16_sub : (round16 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round16` determines its result. -/
theorem round16_fresh : ∀ op ∈ (round16 (F := F)), op.fresh = ∅ := by
  intro _ h; (repeat (cases h with | head => rfl | tail _ h => ?_)); exact nomatch h

/-- The operations 209 to 215 of the line. -/
def inject4 : List (HloOp τ sig (Elt F)) := [
  StableHlo.unary main_call0_v7 main_call0_call0_v136 ((broadcastInDim S32x1000000 ![] bcast_S_S32x1000000) : C F ⟨S_, .i32⟩ → C F ⟨S32x1000000, .i32⟩),
  StableHlo.binary main_call0_call0_v129 main_call0_call0_v136 main_call0_call0_v137 (addi : C F ⟨S32x1000000, .i32⟩ → C F ⟨S32x1000000, .i32⟩ → C F ⟨S32x1000000, .i32⟩),
  StableHlo.unary main_call0_call0_v1 main_call0_call0_v138 ((broadcastInDim S32x1000000 ![] bcast_S_S32x1000000) : C F ⟨S_, .i32⟩ → C F ⟨S32x1000000, .i32⟩),
  StableHlo.binary main_call0_call0_v135 main_call0_call0_v138 main_call0_call0_v139 (addi : C F ⟨S32x1000000, .i32⟩ → C F ⟨S32x1000000, .i32⟩ → C F ⟨S32x1000000, .i32⟩),
  StableHlo.nullary main_call0_call0_c_35 ((constantI S_ 32 4#32) : C F ⟨S_, .i32⟩),
  StableHlo.unary main_call0_call0_c_35 main_call0_call0_v140 ((broadcastInDim S32x1000000 ![] bcast_S_S32x1000000) : C F ⟨S_, .i32⟩ → C F ⟨S32x1000000, .i32⟩),
  StableHlo.binary main_call0_call0_v139 main_call0_call0_v140 main_call0_call0_v141 (addi : C F ⟨S32x1000000, .i32⟩ → C F ⟨S32x1000000, .i32⟩ → C F ⟨S32x1000000, .i32⟩)]

/-- What the operations of `inject4` write, in order. -/
abbrev inject4_W : List (Ref sig .tc) := [main_call0_call0_v136, main_call0_call0_v137, main_call0_call0_v138, main_call0_call0_v139, main_call0_call0_c_35, main_call0_call0_v140, main_call0_call0_v141]

/-- The operations of `inject4` write the buffers of that list. -/
theorem inject4_writes : (inject4 (F := F)).map HloOp.writes = inject4_W.map fun w => {Proc.devRef (τ := τ) .tc w} := rfl

/-- The operations of `inject4` touch TensorCore buffers only. -/
theorem inject4_sub : (inject4 (F := F)).Forall fun op => op.bufs ⊆ StableHlo.tcRefs τ sig := ⟨StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- Each operation of `inject4` determines its result. -/
theorem inject4_fresh : ∀ op ∈ (inject4 (F := F)), op.fresh = ∅ := by
  intro _ h; (repeat (cases h with | head => rfl | tail _ h => ?_)); exact nomatch h

/-- The operations 216 to 224 of the line. -/
def round17 : List (HloOp τ sig (Elt F)) := [
  StableHlo.binary main_call0_call0_v137 main_call0_call0_v141 main_call0_call0_v142 (addi : C F ⟨S32x1000000, .i32⟩ → C F ⟨S32x1000000, .i32⟩ → C F ⟨S32x1000000, .i32⟩),
  StableHlo.nullary main_call0_call0_c_36 ((constantI S_ 32 13#32) : C F ⟨S_, .i32⟩),
  StableHlo.unary main_call0_call0_c_36 main_call0_call0_v143 ((broadcastInDim S32x1000000 ![] bcast_S_S32x1000000) : C F ⟨S_, .i32⟩ → C F ⟨S32x1000000, .i32⟩),
  StableHlo.binary main_call0_call0_v141 main_call0_call0_v143 main_call0_call0_v144 (Host.shli : C F ⟨S32x1000000, .i32⟩ → C F ⟨S32x1000000, .i32⟩ → C F ⟨S32x1000000, .i32⟩),
  StableHlo.nullary main_call0_call0_c_37 ((constantI S_ 32 19#32) : C F ⟨S_, .i32⟩),
  StableHlo.unary main_call0_call0_c_37 main_call0_call0_v145 ((broadcastInDim S32x1000000 ![] bcast_S_S32x1000000) : C F ⟨S_, .i32⟩ → C F ⟨S32x1000000, .i32⟩),
  StableHlo.binary main_call0_call0_v141 main_call0_call0_v145 main_call0_call0_v146 (Host.shrui : C F ⟨S32x1000000, .i32⟩ → C F ⟨S32x1000000, .i32⟩ → C F ⟨S32x1000000, .i32⟩),
  StableHlo.binary main_call0_call0_v144 main_call0_call0_v146 main_call0_call0_v147 (ori : C F ⟨S32x1000000, .i32⟩ → C F ⟨S32x1000000, .i32⟩ → C F ⟨S32x1000000, .i32⟩),
  StableHlo.binary main_call0_call0_v142 main_call0_call0_v147 main_call0_call0_v148 (xori : C F ⟨S32x1000000, .i32⟩ → C F ⟨S32x1000000, .i32⟩ → C F ⟨S32x1000000, .i32⟩)]

/-- What the operations of `round17` write, in order. -/
abbrev round17_W : List (Ref sig .tc) := [main_call0_call0_v142, main_call0_call0_c_36, main_call0_call0_v143, main_call0_call0_v144, main_call0_call0_c_37, main_call0_call0_v145, main_call0_call0_v146, main_call0_call0_v147, main_call0_call0_v148]

/-- The operations of `round17` write the buffers of that list. -/
theorem round17_writes : (round17 (F := F)).map HloOp.writes = round17_W.map fun w => {Proc.devRef (τ := τ) .tc w} := rfl

/-- The operations of `round17` touch TensorCore buffers only. -/
theorem round17_sub : (round17 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round17` determines its result. -/
theorem round17_fresh : ∀ op ∈ (round17 (F := F)), op.fresh = ∅ := by
  intro _ h; (repeat (cases h with | head => rfl | tail _ h => ?_)); exact nomatch h

/-- The operations 225 to 233 of the line. -/
def round18 : List (HloOp τ sig (Elt F)) := [
  StableHlo.binary main_call0_call0_v142 main_call0_call0_v148 main_call0_call0_v149 (addi : C F ⟨S32x1000000, .i32⟩ → C F ⟨S32x1000000, .i32⟩ → C F ⟨S32x1000000, .i32⟩),
  StableHlo.nullary main_call0_call0_c_38 ((constantI S_ 32 15#32) : C F ⟨S_, .i32⟩),
  StableHlo.unary main_call0_call0_c_38 main_call0_call0_v150 ((broadcastInDim S32x1000000 ![] bcast_S_S32x1000000) : C F ⟨S_, .i32⟩ → C F ⟨S32x1000000, .i32⟩),
  StableHlo.binary main_call0_call0_v148 main_call0_call0_v150 main_call0_call0_v151 (Host.shli : C F ⟨S32x1000000, .i32⟩ → C F ⟨S32x1000000, .i32⟩ → C F ⟨S32x1000000, .i32⟩),
  StableHlo.nullary main_call0_call0_c_39 ((constantI S_ 32 17#32) : C F ⟨S_, .i32⟩),
  StableHlo.unary main_call0_call0_c_39 main_call0_call0_v152 ((broadcastInDim S32x1000000 ![] bcast_S_S32x1000000) : C F ⟨S_, .i32⟩ → C F ⟨S32x1000000, .i32⟩),
  StableHlo.binary main_call0_call0_v148 main_call0_call0_v152 main_call0_call0_v153 (Host.shrui : C F ⟨S32x1000000, .i32⟩ → C F ⟨S32x1000000, .i32⟩ → C F ⟨S32x1000000, .i32⟩),
  StableHlo.binary main_call0_call0_v151 main_call0_call0_v153 main_call0_call0_v154 (ori : C F ⟨S32x1000000, .i32⟩ → C F ⟨S32x1000000, .i32⟩ → C F ⟨S32x1000000, .i32⟩),
  StableHlo.binary main_call0_call0_v149 main_call0_call0_v154 main_call0_call0_v155 (xori : C F ⟨S32x1000000, .i32⟩ → C F ⟨S32x1000000, .i32⟩ → C F ⟨S32x1000000, .i32⟩)]

/-- What the operations of `round18` write, in order. -/
abbrev round18_W : List (Ref sig .tc) := [main_call0_call0_v149, main_call0_call0_c_38, main_call0_call0_v150, main_call0_call0_v151, main_call0_call0_c_39, main_call0_call0_v152, main_call0_call0_v153, main_call0_call0_v154, main_call0_call0_v155]

/-- The operations of `round18` write the buffers of that list. -/
theorem round18_writes : (round18 (F := F)).map HloOp.writes = round18_W.map fun w => {Proc.devRef (τ := τ) .tc w} := rfl

/-- The operations of `round18` touch TensorCore buffers only. -/
theorem round18_sub : (round18 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round18` determines its result. -/
theorem round18_fresh : ∀ op ∈ (round18 (F := F)), op.fresh = ∅ := by
  intro _ h; (repeat (cases h with | head => rfl | tail _ h => ?_)); exact nomatch h

/-- The operations 234 to 242 of the line. -/
def round19 : List (HloOp τ sig (Elt F)) := [
  StableHlo.binary main_call0_call0_v149 main_call0_call0_v155 main_call0_call0_v156 (addi : C F ⟨S32x1000000, .i32⟩ → C F ⟨S32x1000000, .i32⟩ → C F ⟨S32x1000000, .i32⟩),
  StableHlo.nullary main_call0_call0_c_40 ((constantI S_ 32 26#32) : C F ⟨S_, .i32⟩),
  StableHlo.unary main_call0_call0_c_40 main_call0_call0_v157 ((broadcastInDim S32x1000000 ![] bcast_S_S32x1000000) : C F ⟨S_, .i32⟩ → C F ⟨S32x1000000, .i32⟩),
  StableHlo.binary main_call0_call0_v155 main_call0_call0_v157 main_call0_call0_v158 (Host.shli : C F ⟨S32x1000000, .i32⟩ → C F ⟨S32x1000000, .i32⟩ → C F ⟨S32x1000000, .i32⟩),
  StableHlo.nullary main_call0_call0_c_41 ((constantI S_ 32 6#32) : C F ⟨S_, .i32⟩),
  StableHlo.unary main_call0_call0_c_41 main_call0_call0_v159 ((broadcastInDim S32x1000000 ![] bcast_S_S32x1000000) : C F ⟨S_, .i32⟩ → C F ⟨S32x1000000, .i32⟩),
  StableHlo.binary main_call0_call0_v155 main_call0_call0_v159 main_call0_call0_v160 (Host.shrui : C F ⟨S32x1000000, .i32⟩ → C F ⟨S32x1000000, .i32⟩ → C F ⟨S32x1000000, .i32⟩),
  StableHlo.binary main_call0_call0_v158 main_call0_call0_v160 main_call0_call0_v161 (ori : C F ⟨S32x1000000, .i32⟩ → C F ⟨S32x1000000, .i32⟩ → C F ⟨S32x1000000, .i32⟩),
  StableHlo.binary main_call0_call0_v156 main_call0_call0_v161 main_call0_call0_v162 (xori : C F ⟨S32x1000000, .i32⟩ → C F ⟨S32x1000000, .i32⟩ → C F ⟨S32x1000000, .i32⟩)]

/-- What the operations of `round19` write, in order. -/
abbrev round19_W : List (Ref sig .tc) := [main_call0_call0_v156, main_call0_call0_c_40, main_call0_call0_v157, main_call0_call0_v158, main_call0_call0_c_41, main_call0_call0_v159, main_call0_call0_v160, main_call0_call0_v161, main_call0_call0_v162]

/-- The operations of `round19` write the buffers of that list. -/
theorem round19_writes : (round19 (F := F)).map HloOp.writes = round19_W.map fun w => {Proc.devRef (τ := τ) .tc w} := rfl

/-- The operations of `round19` touch TensorCore buffers only. -/
theorem round19_sub : (round19 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round19` determines its result. -/
theorem round19_fresh : ∀ op ∈ (round19 (F := F)), op.fresh = ∅ := by
  intro _ h; (repeat (cases h with | head => rfl | tail _ h => ?_)); exact nomatch h

/-- The operations 243 to 251 of the line. -/
def round20 : List (HloOp τ sig (Elt F)) := [
  StableHlo.binary main_call0_call0_v156 main_call0_call0_v162 main_call0_call0_v163 (addi : C F ⟨S32x1000000, .i32⟩ → C F ⟨S32x1000000, .i32⟩ → C F ⟨S32x1000000, .i32⟩),
  StableHlo.nullary main_call0_call0_c_42 ((constantI S_ 32 6#32) : C F ⟨S_, .i32⟩),
  StableHlo.unary main_call0_call0_c_42 main_call0_call0_v164 ((broadcastInDim S32x1000000 ![] bcast_S_S32x1000000) : C F ⟨S_, .i32⟩ → C F ⟨S32x1000000, .i32⟩),
  StableHlo.binary main_call0_call0_v162 main_call0_call0_v164 main_call0_call0_v165 (Host.shli : C F ⟨S32x1000000, .i32⟩ → C F ⟨S32x1000000, .i32⟩ → C F ⟨S32x1000000, .i32⟩),
  StableHlo.nullary main_call0_call0_c_43 ((constantI S_ 32 26#32) : C F ⟨S_, .i32⟩),
  StableHlo.unary main_call0_call0_c_43 main_call0_call0_v166 ((broadcastInDim S32x1000000 ![] bcast_S_S32x1000000) : C F ⟨S_, .i32⟩ → C F ⟨S32x1000000, .i32⟩),
  StableHlo.binary main_call0_call0_v162 main_call0_call0_v166 main_call0_call0_v167 (Host.shrui : C F ⟨S32x1000000, .i32⟩ → C F ⟨S32x1000000, .i32⟩ → C F ⟨S32x1000000, .i32⟩),
  StableHlo.binary main_call0_call0_v165 main_call0_call0_v167 main_call0_call0_v168 (ori : C F ⟨S32x1000000, .i32⟩ → C F ⟨S32x1000000, .i32⟩ → C F ⟨S32x1000000, .i32⟩),
  StableHlo.binary main_call0_call0_v163 main_call0_call0_v168 main_call0_call0_v169 (xori : C F ⟨S32x1000000, .i32⟩ → C F ⟨S32x1000000, .i32⟩ → C F ⟨S32x1000000, .i32⟩)]

/-- What the operations of `round20` write, in order. -/
abbrev round20_W : List (Ref sig .tc) := [main_call0_call0_v163, main_call0_call0_c_42, main_call0_call0_v164, main_call0_call0_v165, main_call0_call0_c_43, main_call0_call0_v166, main_call0_call0_v167, main_call0_call0_v168, main_call0_call0_v169]

/-- The operations of `round20` write the buffers of that list. -/
theorem round20_writes : (round20 (F := F)).map HloOp.writes = round20_W.map fun w => {Proc.devRef (τ := τ) .tc w} := rfl

/-- The operations of `round20` touch TensorCore buffers only. -/
theorem round20_sub : (round20 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- Each operation of `round20` determines its result. -/
theorem round20_fresh : ∀ op ∈ (round20 (F := F)), op.fresh = ∅ := by
  intro _ h; (repeat (cases h with | head => rfl | tail _ h => ?_)); exact nomatch h

/-- The operations 252 to 258 of the line. -/
def inject5 : List (HloOp τ sig (Elt F)) := [
  StableHlo.unary main_call0_call0_v1 main_call0_call0_v170 ((broadcastInDim S32x1000000 ![] bcast_S_S32x1000000) : C F ⟨S_, .i32⟩ → C F ⟨S32x1000000, .i32⟩),
  StableHlo.binary main_call0_call0_v163 main_call0_call0_v170 main_call0_v19_0 (addi : C F ⟨S32x1000000, .i32⟩ → C F ⟨S32x1000000, .i32⟩ → C F ⟨S32x1000000, .i32⟩),
  StableHlo.unary main_call0_v5 main_call0_call0_v172 ((broadcastInDim S32x1000000 ![] bcast_S_S32x1000000) : C F ⟨S_, .i32⟩ → C F ⟨S32x1000000, .i32⟩),
  StableHlo.binary main_call0_call0_v169 main_call0_call0_v172 main_call0_call0_v173 (addi : C F ⟨S32x1000000, .i32⟩ → C F ⟨S32x1000000, .i32⟩ → C F ⟨S32x1000000, .i32⟩),
  StableHlo.nullary main_call0_call0_c_44 ((constantI S_ 32 5#32) : C F ⟨S_, .i32⟩),
  StableHlo.unary main_call0_call0_c_44 main_call0_call0_v174 ((broadcastInDim S32x1000000 ![] bcast_S_S32x1000000) : C F ⟨S_, .i32⟩ → C F ⟨S32x1000000, .i32⟩),
  StableHlo.binary main_call0_call0_v173 main_call0_call0_v174 main_call0_v19_1 (addi : C F ⟨S32x1000000, .i32⟩ → C F ⟨S32x1000000, .i32⟩ → C F ⟨S32x1000000, .i32⟩)]

/-- What the operations of `inject5` write, in order. -/
abbrev inject5_W : List (Ref sig .tc) := [main_call0_call0_v170, main_call0_v19_0, main_call0_call0_v172, main_call0_call0_v173, main_call0_call0_c_44, main_call0_call0_v174, main_call0_v19_1]

/-- The operations of `inject5` write the buffers of that list. -/
theorem inject5_writes : (inject5 (F := F)).map HloOp.writes = inject5_W.map fun w => {Proc.devRef (τ := τ) .tc w} := rfl

/-- The operations of `inject5` touch TensorCore buffers only. -/
theorem inject5_sub : (inject5 (F := F)).Forall fun op => op.bufs ⊆ StableHlo.tcRefs τ sig := ⟨StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- Each operation of `inject5` determines its result. -/
theorem inject5_fresh : ∀ op ∈ (inject5 (F := F)), op.fresh = ∅ := by
  intro _ h; (repeat (cases h with | head => rfl | tail _ h => ?_)); exact nomatch h

/-- The operations 259 to 276 of the line. -/
def uniform0 : List (HloOp τ sig (Elt F)) := [
  StableHlo.binary main_call0_v19_0 main_call0_v19_1 main_call0_v20 (xori : C F ⟨S32x1000000, .i32⟩ → C F ⟨S32x1000000, .i32⟩ → C F ⟨S32x1000000, .i32⟩),
  StableHlo.nullary main_call0_c_2 ((constantI S_ 32 9#32) : C F ⟨S_, .i32⟩),
  StableHlo.unary main_call0_c_2 main_call0_v21 ((broadcastInDim S32x1000000 ![] bcast_S_S32x1000000) : C F ⟨S_, .i32⟩ → C F ⟨S32x1000000, .i32⟩),
  StableHlo.binary main_call0_v20 main_call0_v21 main_call0_v22 (Host.shrui : C F ⟨S32x1000000, .i32⟩ → C F ⟨S32x1000000, .i32⟩ → C F ⟨S32x1000000, .i32⟩),
  StableHlo.nullary main_call0_c_3 ((constantI S_ 32 1065353216#32) : C F ⟨S_, .i32⟩),
  StableHlo.unary main_call0_c_3 main_call0_v23 ((broadcastInDim S32x1000000 ![] bcast_S_S32x1000000) : C F ⟨S_, .i32⟩ → C F ⟨S32x1000000, .i32⟩),
  StableHlo.binary main_call0_v22 main_call0_v23 main_call0_v24 (ori : C F ⟨S32x1000000, .i32⟩ → C F ⟨S32x1000000, .i32⟩ → C F ⟨S32x1000000, .i32⟩),
  StableHlo.unary main_call0_v24 main_call0_v25 ((bitcastToFloat .f32) : C F ⟨S32x1000000, .i32⟩ → C F ⟨S32x1000000, .f32⟩),
  StableHlo.nullary main_call0_cst ((constant S_ .f32 0x3F800000#32) : C F ⟨S_, .f32⟩),
  StableHlo.unary main_call0_cst main_call0_v26 ((broadcastInDim S32x1000000 ![] bcast_S_S32x1000000) : C F ⟨S_, .f32⟩ → C F ⟨S32x1000000, .f32⟩),
  StableHlo.binary main_call0_v25 main_call0_v26 main_call0_v27 (subf : C F ⟨S32x1000000, .f32⟩ → C F ⟨S32x1000000, .f32⟩ → C F ⟨S32x1000000, .f32⟩),
  StableHlo.binary main_call0_v3 main_call0_v2 main_call0_v28 (subf : C F ⟨S1x1, .f32⟩ → C F ⟨S1x1, .f32⟩ → C F ⟨S1x1, .f32⟩),
  StableHlo.unary main_call0_v28 main_call0_v29 ((broadcastInDim S32x1000000 ![0, 1] bcast_S1x1_S32x1000000_0_1) : C F ⟨S1x1, .f32⟩ → C F ⟨S32x1000000, .f32⟩),
  StableHlo.binary main_call0_v27 main_call0_v29 main_call0_v30 (mulf : C F ⟨S32x1000000, .f32⟩ → C F ⟨S32x1000000, .f32⟩ → C F ⟨S32x1000000, .f32⟩),
  StableHlo.unary main_call0_v2 main_call0_v31 ((broadcastInDim S32x1000000 ![0, 1] bcast_S1x1_S32x1000000_0_1) : C F ⟨S1x1, .f32⟩ → C F ⟨S32x1000000, .f32⟩),
  StableHlo.binary main_call0_v30 main_call0_v31 main_call0_v32 (addf : C F ⟨S32x1000000, .f32⟩ → C F ⟨S32x1000000, .f32⟩ → C F ⟨S32x1000000, .f32⟩),
  StableHlo.unary main_call0_v2 main_call0_v33 ((broadcastInDim S32x1000000 ![0, 1] bcast_S1x1_S32x1000000_0_1) : C F ⟨S1x1, .f32⟩ → C F ⟨S32x1000000, .f32⟩),
  StableHlo.binary main_call0_v33 main_call0_v32 main_v9 (maximumf : C F ⟨S32x1000000, .f32⟩ → C F ⟨S32x1000000, .f32⟩ → C F ⟨S32x1000000, .f32⟩)]

/-- What the operations of `uniform0` write, in order. -/
abbrev uniform0_W : List (Ref sig .tc) := [main_call0_v20, main_call0_c_2, main_call0_v21, main_call0_v22, main_call0_c_3, main_call0_v23, main_call0_v24, main_call0_v25, main_call0_cst, main_call0_v26, main_call0_v27, main_call0_v28, main_call0_v29, main_call0_v30, main_call0_v31, main_call0_v32, main_call0_v33, main_v9]

/-- The operations of `uniform0` write the buffers of that list. -/
theorem uniform0_writes : (uniform0 (F := F)).map HloOp.writes = uniform0_W.map fun w => {Proc.devRef (τ := τ) .tc w} := rfl

/-- The operations of `uniform0` touch TensorCore buffers only. -/
theorem uniform0_sub : (uniform0 (F := F)).Forall fun op => op.bufs ⊆ StableHlo.tcRefs τ sig := ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- Each operation of `uniform0` determines its result. -/
theorem uniform0_fresh : ∀ op ∈ (uniform0 (F := F)), op.fresh = ∅ := by
  intro _ h; (repeat (cases h with | head => rfl | tail _ h => ?_)); exact nomatch h

/-- The operations 277 to 284 of the line. -/
def noise0 : List (HloOp τ sig (Elt F)) := [
  StableHlo.nullary main_cst_4 ((constant S_ .f32 0x00800000#32) : C F ⟨S_, .f32⟩),
  StableHlo.unary main_cst_4 main_v10 (broadcastInDim S32x1000000 ![] bcast_S_S32x1000000 : C F ⟨S_, .f32⟩ → C F ⟨S32x1000000, .f32⟩),
  StableHlo.binary main_v9 main_v10 main_v11 (maximumf : C F ⟨S32x1000000, .f32⟩ → C F ⟨S32x1000000, .f32⟩ → C F ⟨S32x1000000, .f32⟩),
  StableHlo.unary main_v11 main_v12 (Host.log : C F ⟨S32x1000000, .f32⟩ → C F ⟨S32x1000000, .f32⟩),
  StableHlo.unary main_v12 main_v13 (Host.negf : C F ⟨S32x1000000, .f32⟩ → C F ⟨S32x1000000, .f32⟩),
  StableHlo.unary main_v13 main_v14 (Host.log : C F ⟨S32x1000000, .f32⟩ → C F ⟨S32x1000000, .f32⟩),
  StableHlo.unary main_v14 main_v15 (Host.negf : C F ⟨S32x1000000, .f32⟩ → C F ⟨S32x1000000, .f32⟩),
  StableHlo.binary main_v15 main_v1 main_v16 (addf : C F ⟨S32x1000000, .f32⟩ → C F ⟨S32x1000000, .f32⟩ → C F ⟨S32x1000000, .f32⟩)]

/-- What the operations of `noise0` write, in order. -/
abbrev noise0_W : List (Ref sig .tc) := [main_cst_4, main_v10, main_v11, main_v12, main_v13, main_v14, main_v15, main_v16]

/-- The operations of `noise0` write the buffers of that list. -/
theorem noise0_writes : (noise0 (F := F)).map HloOp.writes = noise0_W.map fun w => {Proc.devRef (τ := τ) .tc w} := rfl

/-- The operations of `noise0` touch TensorCore buffers only. -/
theorem noise0_sub : (noise0 (F := F)).Forall fun op => op.bufs ⊆ StableHlo.tcRefs τ sig := ⟨StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub ..⟩

/-- Each operation of `noise0` determines its result. -/
theorem noise0_fresh : ∀ op ∈ (noise0 (F := F)), op.fresh = ∅ := by
  intro _ h; (repeat (cases h with | head => rfl | tail _ h => ?_)); exact nomatch h

/-- The operations 285 to 289 of the line. -/
def argmax0 : List (HloOp τ sig (Elt F)) := [
  StableHlo.nullary main_call1_v0 ((iotaInDim S32x1000000 32 1) : C F ⟨S32x1000000, .i32⟩),
  StableHlo.nullary main_call1_cst ((constant S_ .f32 0xFF800000#32) : C F ⟨S_, .f32⟩),
  StableHlo.nullary main_call1_c ((constantI S_ 32 0#32) : C F ⟨S_, .i32⟩),
  StableHlo.quaternary main_v16 main_call1_v0 main_call1_cst main_call1_c main_call1_v1_0 ((fun x y u v j => (Host.argReduce reducer_argmax_f32_i32 x y u v reducesTo_S32x1000000_S32_d1 h_S_ j).1) : C F ⟨S32x1000000, .f32⟩ → C F ⟨S32x1000000, .i32⟩ → C F ⟨S_, .f32⟩ → C F ⟨S_, .i32⟩ → C F ⟨S32, .f32⟩),
  StableHlo.quaternary main_v16 main_call1_v0 main_call1_cst main_call1_c main_v17 ((fun x y u v j => (Host.argReduce reducer_argmax_f32_i32 x y u v reducesTo_S32x1000000_S32_d1 h_S_ j).2) : C F ⟨S32x1000000, .f32⟩ → C F ⟨S32x1000000, .i32⟩ → C F ⟨S_, .f32⟩ → C F ⟨S_, .i32⟩ → C F ⟨S32, .i32⟩)]

/-- What the operations of `argmax0` write, in order. -/
abbrev argmax0_W : List (Ref sig .tc) := [main_call1_v0, main_call1_cst, main_call1_c, main_call1_v1_0, main_v17]

/-- The operations of `argmax0` write the buffers of that list. -/
theorem argmax0_writes : (argmax0 (F := F)).map HloOp.writes = argmax0_W.map fun w => {Proc.devRef (τ := τ) .tc w} := rfl

/-- The operations of `argmax0` touch TensorCore buffers only. -/
theorem argmax0_sub : (argmax0 (F := F)).Forall fun op => op.bufs ⊆ StableHlo.tcRefs τ sig := ⟨StableHlo.nullary_bufs_sub .., StableHlo.nullary_bufs_sub .., StableHlo.nullary_bufs_sub .., StableHlo.quaternary_bufs_sub .., StableHlo.quaternary_bufs_sub ..⟩

/-- Each operation of `argmax0` determines its result. -/
theorem argmax0_fresh : ∀ op ∈ (argmax0 (F := F)), op.fresh = ∅ := by
  intro _ h; (repeat (cases h with | head => rfl | tail _ h => ?_)); exact nomatch h

/-- The operations 290 to 303 of the line. -/
def soft0 : List (HloOp τ sig (Elt F)) := [
  StableHlo.nullary main_cst_5 ((constant S_ .f32 0xFF800000#32) : C F ⟨S_, .f32⟩),
  StableHlo.binary main_v1 main_cst_5 main_v18 ((fun x v => Host.reduce FloatOps.maximumf x v reducesTo_S32x1000000_S32_d1 h_S_) : C F ⟨S32x1000000, .f32⟩ → C F ⟨S_, .f32⟩ → C F ⟨S32, .f32⟩),
  StableHlo.nullary main_cst_6 ((constant S_ .f32 0xFF800000#32) : C F ⟨S_, .f32⟩),
  StableHlo.unary main_cst_6 main_v19 (broadcastInDim S32 ![] bcast_S_S32 : C F ⟨S_, .f32⟩ → C F ⟨S32, .f32⟩),
  StableHlo.binary main_v19 main_v18 main_v20 (maximumf : C F ⟨S32, .f32⟩ → C F ⟨S32, .f32⟩ → C F ⟨S32, .f32⟩),
  StableHlo.unary main_v20 main_v21 (broadcastInDim S32x1 ![0] bcast_S32_S32x1_0 : C F ⟨S32, .f32⟩ → C F ⟨S32x1, .f32⟩),
  StableHlo.unary main_v21 main_v22 (broadcastInDim S32x1000000 ![0, 1] bcast_S32x1_S32x1000000_0_1 : C F ⟨S32x1, .f32⟩ → C F ⟨S32x1000000, .f32⟩),
  StableHlo.binary main_v1 main_v22 main_v23 (subf : C F ⟨S32x1000000, .f32⟩ → C F ⟨S32x1000000, .f32⟩ → C F ⟨S32x1000000, .f32⟩),
  StableHlo.unary main_v23 main_v24 (Host.exp : C F ⟨S32x1000000, .f32⟩ → C F ⟨S32x1000000, .f32⟩),
  StableHlo.nullary main_cst_7 ((constant S_ .f32 0x00000000#32) : C F ⟨S_, .f32⟩),
  StableHlo.binary main_v24 main_cst_7 main_v25 ((fun x v => Host.reduceAdd x v reducesTo_S32x1000000_S32_d1 h_S_) : C F ⟨S32x1000000, .f32⟩ → C F ⟨S_, .f32⟩ → C F ⟨S32, .f32⟩),
  StableHlo.unary main_v25 main_v26 (broadcastInDim S32x1 ![0] bcast_S32_S32x1_0 : C F ⟨S32, .f32⟩ → C F ⟨S32x1, .f32⟩),
  StableHlo.unary main_v26 main_v27 (broadcastInDim S32x1000000 ![0, 1] bcast_S32x1_S32x1000000_0_1 : C F ⟨S32x1, .f32⟩ → C F ⟨S32x1000000, .f32⟩),
  StableHlo.binary main_v24 main_v27 main_v28 (Host.divf : C F ⟨S32x1000000, .f32⟩ → C F ⟨S32x1000000, .f32⟩ → C F ⟨S32x1000000, .f32⟩)]

/-- What the operations of `soft0` write, in order. -/
abbrev soft0_W : List (Ref sig .tc) := [main_cst_5, main_v18, main_cst_6, main_v19, main_v20, main_v21, main_v22, main_v23, main_v24, main_cst_7, main_v25, main_v26, main_v27, main_v28]

/-- The operations of `soft0` write the buffers of that list. -/
theorem soft0_writes : (soft0 (F := F)).map HloOp.writes = soft0_W.map fun w => {Proc.devRef (τ := τ) .tc w} := rfl

/-- The operations of `soft0` touch TensorCore buffers only. -/
theorem soft0_sub : (soft0 (F := F)).Forall fun op => op.bufs ⊆ StableHlo.tcRefs τ sig := ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- Each operation of `soft0` determines its result. -/
theorem soft0_fresh : ∀ op ∈ (soft0 (F := F)), op.fresh = ∅ := by
  intro _ h; (repeat (cases h with | head => rfl | tail _ h => ?_)); exact nomatch h

/-- The operations 304 to 324 of the line. -/
def entropy0 : List (HloOp τ sig (Elt F)) := [
  StableHlo.unary main_v28 main_v29 ((extractStridedSlice S1x1000000 ![0, 0] · slices_S32x1000000_S1x1000000_0_0) : C F ⟨S32x1000000, .f32⟩ → C F ⟨S1x1000000, .f32⟩),
  StableHlo.reshape main_v29 main_v30 (rfl : (.f32 : EltTy) = .f32) shapeCasts_S1x1000000_S1000000,
  StableHlo.nullary main_cst_8 ((constant S_ .f32 0x00000000#32) : C F ⟨S_, .f32⟩),
  StableHlo.unary main_cst_8 main_v31 (broadcastInDim S1000000 ![] bcast_S_S1000000 : C F ⟨S_, .f32⟩ → C F ⟨S1000000, .f32⟩),
  StableHlo.binary main_v30 main_v31 main_v32 (cmpf .ogt : C F ⟨S1000000, .f32⟩ → C F ⟨S1000000, .f32⟩ → C F ⟨S1000000, .i1⟩),
  StableHlo.nullary main_cst_9 ((constant S_ .f32 0x00000000#32) : C F ⟨S_, .f32⟩),
  StableHlo.unary main_cst_9 main_v33 (broadcastInDim S1000000 ![] bcast_S_S1000000 : C F ⟨S_, .f32⟩ → C F ⟨S1000000, .f32⟩),
  StableHlo.binary main_v30 main_v33 main_v34 (cmpf .ogt : C F ⟨S1000000, .f32⟩ → C F ⟨S1000000, .f32⟩ → C F ⟨S1000000, .i1⟩),
  StableHlo.nullary main_cst_10 ((constant S_ .f32 0x3F800000#32) : C F ⟨S_, .f32⟩),
  StableHlo.unary main_cst_10 main_call2_v0 (id : C F ⟨S_, .f32⟩ → C F ⟨S_, .f32⟩),
  StableHlo.unary main_call2_v0 main_call2_v1 ((broadcastInDim S1000000 ![] bcast_S_S1000000) : C F ⟨S_, .f32⟩ → C F ⟨S1000000, .f32⟩),
  StableHlo.ternary main_v34 main_v30 main_call2_v1 main_v35 (select : C F ⟨S1000000, .i1⟩ → C F ⟨S1000000, .f32⟩ → C F ⟨S1000000, .f32⟩ → C F ⟨S1000000, .f32⟩),
  StableHlo.unary main_v35 main_v36 (Host.log : C F ⟨S1000000, .f32⟩ → C F ⟨S1000000, .f32⟩),
  StableHlo.binary main_v30 main_v36 main_v37 (mulf : C F ⟨S1000000, .f32⟩ → C F ⟨S1000000, .f32⟩ → C F ⟨S1000000, .f32⟩),
  StableHlo.nullary main_cst_11 ((constant S_ .f32 0x00000000#32) : C F ⟨S_, .f32⟩),
  StableHlo.unary main_cst_11 main_call3_v0 (id : C F ⟨S_, .f32⟩ → C F ⟨S_, .f32⟩),
  StableHlo.unary main_call3_v0 main_call3_v1 ((broadcastInDim S1000000 ![] bcast_S_S1000000) : C F ⟨S_, .f32⟩ → C F ⟨S1000000, .f32⟩),
  StableHlo.ternary main_v32 main_v37 main_call3_v1 main_v38 (select : C F ⟨S1000000, .i1⟩ → C F ⟨S1000000, .f32⟩ → C F ⟨S1000000, .f32⟩ → C F ⟨S1000000, .f32⟩),
  StableHlo.nullary main_cst_12 ((constant S_ .f32 0x00000000#32) : C F ⟨S_, .f32⟩),
  StableHlo.binary main_v38 main_cst_12 main_v39 ((fun x v => Host.reduceAdd x v reducesTo_S1000000_S_d0 h_S_) : C F ⟨S1000000, .f32⟩ → C F ⟨S_, .f32⟩ → C F ⟨S_, .f32⟩),
  StableHlo.unary main_v39 main_v40 (Host.negf : C F ⟨S_, .f32⟩ → C F ⟨S_, .f32⟩)]

/-- What the operations of `entropy0` write, in order. -/
abbrev entropy0_W : List (Ref sig .tc) := [main_v29, main_v30, main_cst_8, main_v31, main_v32, main_cst_9, main_v33, main_v34, main_cst_10, main_call2_v0, main_call2_v1, main_v35, main_v36, main_v37, main_cst_11, main_call3_v0, main_call3_v1, main_v38, main_cst_12, main_v39, main_v40]

/-- The operations of `entropy0` write the buffers of that list. -/
theorem entropy0_writes : (entropy0 (F := F)).map HloOp.writes = entropy0_W.map fun w => {Proc.devRef (τ := τ) .tc w} := rfl

/-- The operations of `entropy0` touch TensorCore buffers only. -/
theorem entropy0_sub : (entropy0 (F := F)).Forall fun op => op.bufs ⊆ StableHlo.tcRefs τ sig := ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub ..⟩

/-- Each operation of `entropy0` determines its result. -/
theorem entropy0_fresh : ∀ op ∈ (entropy0 (F := F)), op.fresh = ∅ := by
  intro _ h; (repeat (cases h with | head => rfl | tail _ h => ?_)); exact nomatch h

/-- The whole line, by stretches. -/
def parts : List (List (HloOp τ sig (Elt F))) := [host0, keys0, init0, round1, round2, round3, round4, inject1, round5, round6, round7, round8, inject2, round9, round10, round11, round12, inject3, round13, round14, round15, round16, inject4, round17, round18, round19, round20, inject5, uniform0, noise0, argmax0, soft0, entropy0]

/-- The whole line. -/
def ops : List (HloOp τ sig (Elt F)) := (parts (F := F)).flatten

/-- The main function is the line. -/
theorem main_eq (c : Dev nD) : main (F := F) c = StableHlo.seq ops := by
  chain_rfl

/-- Every operation of the line touches TensorCore buffers only. -/
theorem ops_sub : (ops (F := F)).Forall fun op => op.bufs ⊆ StableHlo.tcRefs τ sig := by
  rw [List.forall_iff_forall_mem]
  intro op h
  obtain ⟨l, hl, ho⟩ := List.mem_flatten.mp h
  simp only [parts, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact List.forall_iff_forall_mem.mp host0_sub op ho
  · exact List.forall_iff_forall_mem.mp keys0_sub op ho
  · exact List.forall_iff_forall_mem.mp init0_sub op ho
  · exact List.forall_iff_forall_mem.mp round1_sub op ho
  · exact List.forall_iff_forall_mem.mp round2_sub op ho
  · exact List.forall_iff_forall_mem.mp round3_sub op ho
  · exact List.forall_iff_forall_mem.mp round4_sub op ho
  · exact List.forall_iff_forall_mem.mp inject1_sub op ho
  · exact List.forall_iff_forall_mem.mp round5_sub op ho
  · exact List.forall_iff_forall_mem.mp round6_sub op ho
  · exact List.forall_iff_forall_mem.mp round7_sub op ho
  · exact List.forall_iff_forall_mem.mp round8_sub op ho
  · exact List.forall_iff_forall_mem.mp inject2_sub op ho
  · exact List.forall_iff_forall_mem.mp round9_sub op ho
  · exact List.forall_iff_forall_mem.mp round10_sub op ho
  · exact List.forall_iff_forall_mem.mp round11_sub op ho
  · exact List.forall_iff_forall_mem.mp round12_sub op ho
  · exact List.forall_iff_forall_mem.mp inject3_sub op ho
  · exact List.forall_iff_forall_mem.mp round13_sub op ho
  · exact List.forall_iff_forall_mem.mp round14_sub op ho
  · exact List.forall_iff_forall_mem.mp round15_sub op ho
  · exact List.forall_iff_forall_mem.mp round16_sub op ho
  · exact List.forall_iff_forall_mem.mp inject4_sub op ho
  · exact List.forall_iff_forall_mem.mp round17_sub op ho
  · exact List.forall_iff_forall_mem.mp round18_sub op ho
  · exact List.forall_iff_forall_mem.mp round19_sub op ho
  · exact List.forall_iff_forall_mem.mp round20_sub op ho
  · exact List.forall_iff_forall_mem.mp inject5_sub op ho
  · exact List.forall_iff_forall_mem.mp uniform0_sub op ho
  · exact List.forall_iff_forall_mem.mp noise0_sub op ho
  · exact List.forall_iff_forall_mem.mp argmax0_sub op ho
  · exact List.forall_iff_forall_mem.mp soft0_sub op ho
  · exact List.forall_iff_forall_mem.mp entropy0_sub op ho

/-- Every operation of the line determines its result. -/
theorem ops_fresh : ∀ op ∈ (ops (F := F)), op.fresh = ∅ := by
  intro op h
  obtain ⟨l, hl, ho⟩ := List.mem_flatten.mp h
  simp only [parts, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact host0_fresh op ho
  · exact keys0_fresh op ho
  · exact init0_fresh op ho
  · exact round1_fresh op ho
  · exact round2_fresh op ho
  · exact round3_fresh op ho
  · exact round4_fresh op ho
  · exact inject1_fresh op ho
  · exact round5_fresh op ho
  · exact round6_fresh op ho
  · exact round7_fresh op ho
  · exact round8_fresh op ho
  · exact inject2_fresh op ho
  · exact round9_fresh op ho
  · exact round10_fresh op ho
  · exact round11_fresh op ho
  · exact round12_fresh op ho
  · exact inject3_fresh op ho
  · exact round13_fresh op ho
  · exact round14_fresh op ho
  · exact round15_fresh op ho
  · exact round16_fresh op ho
  · exact inject4_fresh op ho
  · exact round17_fresh op ho
  · exact round18_fresh op ho
  · exact round19_fresh op ho
  · exact round20_fresh op ho
  · exact inject5_fresh op ho
  · exact uniform0_fresh op ho
  · exact noise0_fresh op ho
  · exact argmax0_fresh op ho
  · exact soft0_fresh op ho
  · exact entropy0_fresh op ho

/-- Every run of the reference leaves each buffer at what the line leaves there from the launch contents, and all
    semaphores at zero. -/
theorem run_line (m : (ℓ : Loc nD τ sig) → Buf (Elt F) ℓ) (ρ : Dev nD → PrngReg) :
    θ_run (defs (F := F)) (onTc (τ := τ) main) ⟨m, fun _ => 0, ρ⟩ fun r =>
      (∀ (d : Dev nD) (b : Ref sig .tc), r.2.mem ((d.tc : Thread nD τ).loc b)
          = StableHlo.after ops (StableHlo.launchContents m d) (Proc.devRef .tc b)) ∧ r.2.sem = fun _ => 0 := by
  have h := StableHlo.run_seq (by decide) (by decide) (defs (F := F)) main (fun _ => ops) main_eq (fun _ => ops_sub) m ρ (fun _ => ops_fresh)
  refine (θ_run _ _ _).mono (fun r hr => ⟨hr, ?_⟩) h
  funext x
  rcases x with ⟨_, i | i⟩ <;> exact i.elim0

end

end Cert.ReferenceIdeal.Ref
-- ==== Proof.Bodies.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Regions
public import Idealize.ShloMosaic.Lib.Tactic
public import Idealize.ShloMosaic.Lib.Pipeline.Value
public import Idealize.ShloMosaic.Lib.WritesUnit

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The offset of a whole block of rank three is zero. -/
theorem off3_zero : (![0, 0, 0] : Fin 3 → Nat) = fun _ => 0 := funext fun a => by fin_cases a <;> rfl

theorem off2_zero : (![0, 0] : Fin 2 → Nat) = fun _ => 0 := funext fun a => by fin_cases a <;> rfl

/-- A load of a whole buffer reads its contents. -/
theorem readAt_whole {s : Shape} {e : EltTy} (M : Memref sig .tc .vmem s e) {off : Fin s.rank → Nat} (h : off = fun _ => 0)
    (inb : ∀ a, off a + s.size a ≤ s.size a) (f : BufTy.Contents (Elt F) M.view.ty) :
    M.view.readAt (Elt F) (Rect.unit off s.size inb).toLoadRect f = M.view.read (Elt F) f :=
  View.ld_unit_zero h inb (M.view.read (Elt F) f)

/-- A store of a whole buffer leaves its payload. -/
theorem read_write_whole {s : Shape} {e : EltTy} (M : Memref sig .tc .vmem s e) {off : Fin s.rank → Nat} (h : off = fun _ => 0)
    (inb : ∀ a, off a + s.size a ≤ s.size a) (f : BufTy.Contents (Elt F) M.view.ty) (x : s.Idx → Elt F e) :
    M.view.read (Elt F) (View.write (Elt F) (M.access (Rect.unit off s.size inb)) f x Finset.univ) = x := by
  subst h
  funext y
  have h := View.read_writes_cons_emb M.view f (Rect.whole s) x [] y
  rwa [Rect.emb_whole_apply] at h

set_option maxRecDepth 65536 in
theorem probs_body (c : Dev nD) (E : Set ℕ) (i : grid3.Coords) (M1 : Memref sig .tc .vmem S32x65536 .f32) (h1 : M1.IsWhole) (M2 : Memref sig .tc .vmem S32x1 .f32) (h2 : M2.IsWhole)
    (M3 : Memref sig .tc .vmem S32x1 .f32) (h3 : M3.IsWhole) (M4 : Memref sig .tc .vmem S32x65536 .f32) (h4 : M4.IsWhole)
    (X1 X4 : S32x65536.Idx → Elt F .f32) (X2 X3 : S32x1.Idx → Elt F .f32) (Q : PUnit → sProp 𝕄) :
      iprop(owns (c : Thread nD τ) M1 fullShare X1 ∗ owns (c : Thread nD τ) M2 fullShare X2
        ∗ owns (c : Thread nD τ) M3 fullShare X3 ∗ owns (c : Thread nD τ) M4 fullShare X4
        ∗ (iprop(owns (c : Thread nD τ) M1 fullShare X1 ∗ owns (c : Thread nD τ) M2 fullShare X2
        ∗ owns (c : Thread nD τ) M3 fullShare X3 ∗ owns (c : Thread nD τ) M4 fullShare (k3_pay1 X1 X2 X3)) -∗ Q ⟨⟩))
      ⊢ wp frame (wpE (defs₀ (F := F)) Variants.none c none) E (cc3__probs_kernel i M1 h1 M2 h2 M3 h3 M4 h4) Q := by
  rw [cc3__probs_kernel_eq_skeleton]
  unfold cc3__probs_kernel_skel
  simp only [Prog.lift, Prog.bind_op, Prog.bind_ret, Prog.pure_eq_ret]
  unfold owns
  iintro ⟨⟨%f1, %hf1, H1⟩, ⟨%f2, %hf2, H2⟩, ⟨%f3, %hf3, H3⟩, ⟨%f4, %hf4, H4⟩, Hk⟩
  sl_steps
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists _; isplitr; swap; · iexact H4
    ipureintro
    subst hf1 hf2 hf3
    refine (read_write_whole M4 off2_zero _ _ _).trans ?_
    refine congr (congr (congrArg k3_pay1 ?_) ?_) ?_
    · exact readAt_whole M1 off2_zero _ _
    · exact readAt_whole M2 off2_zero _ _
    · exact readAt_whole M3 off2_zero _ _

set_option maxRecDepth 65536 in
theorem stats_body (c : Dev nD) (E : Set ℕ) (i : grid1.Coords) (M1 : Memref sig .tc .vmem S32x65536 .f32) (h1 : M1.IsWhole) (M2 : Memref sig .tc .vmem S32x65536 .f32) (h2 : M2.IsWhole) (M3 : Memref sig .tc .vmem S1x32x1 .f32) (h3 : M3.IsWhole) (M4 : Memref sig .tc .vmem S1x32x1 .f32) (h4 : M4.IsWhole) (M5 : Memref sig .tc .vmem S1x32x1 .f32) (h5 : M5.IsWhole) (M6 : Memref sig .tc .vmem S1x32x1 .f32) (h6 : M6.IsWhole) (M7 : Memref sig .tc .vmem S1x32x1 .i32) (h7 : M7.IsWhole)
    (X1 : S32x65536.Idx → Elt F .f32) (X2 : S32x65536.Idx → Elt F .f32) (X3 : S1x32x1.Idx → Elt F .f32) (X4 : S1x32x1.Idx → Elt F .f32) (X5 : S1x32x1.Idx → Elt F .f32) (X6 : S1x32x1.Idx → Elt F .f32) (X7 : S1x32x1.Idx → Elt F .i32) (Q : PUnit → sProp 𝕄) :
      iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
        ∗ (iprop(owns (c : Thread nD τ) M1 fullShare X1 ∗ owns (c : Thread nD τ) M2 fullShare X2 ∗ owns (c : Thread nD τ) M3 fullShare (k1_pay1 (k1_pay12 i X1)) ∗ owns (c : Thread nD τ) M4 fullShare (k1_pay2 (k1_pay14 i X1)) ∗ owns (c : Thread nD τ) M5 fullShare (k1_pay3 (k1_pay15 i X1)) ∗ owns (c : Thread nD τ) M6 fullShare (k1_pay4 (k1_pay9 i X1 X2)) ∗ owns (c : Thread nD τ) M7 fullShare (k1_pay5 (k1_pay10 i X1 X2))) -∗ Q ⟨⟩))
      ⊢ wp frame (wpE (defs₀ (F := F)) Variants.none c none) E (cc1__stats_kernel i M1 h1 M2 h2 M3 h3 M4 h4 M5 h5 M6 h6 M7 h7) Q := by
  rw [cc1__stats_kernel_eq_skeleton]
  unfold cc1__stats_kernel_skel
  rw [k1_part1_eq_skeleton]
  unfold k1_part1_skel
  simp only [Prog.lift, Prog.bind_op, Prog.bind_ret, Prog.pure_eq_ret]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  sl_steps
  iapply Hk
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    refine (read_write_whole M3 off3_zero _ _ _).trans ?_
    refine congrArg k1_pay1 (congrArg (k1_pay12 i) ?_)
    · exact (readAt_whole M1 off2_zero _ f1).trans hf1
  isplitl [H4]
  · iexists _; isplitr; swap; · iexact H4
    ipureintro
    refine (read_write_whole M4 off3_zero _ _ _).trans ?_
    refine congrArg k1_pay2 (congrArg (k1_pay14 i) ?_)
    · exact (readAt_whole M1 off2_zero _ f1).trans hf1
  isplitl [H5]
  · iexists _; isplitr; swap; · iexact H5
    ipureintro
    refine (read_write_whole M5 off3_zero _ _ _).trans ?_
    refine congrArg k1_pay3 (congrArg (k1_pay15 i) ?_)
    · exact (readAt_whole M1 off2_zero _ f1).trans hf1
  isplitl [H6]
  · iexists _; isplitr; swap; · iexact H6
    ipureintro
    refine (read_write_whole M6 off3_zero _ _ _).trans ?_
    refine congrArg k1_pay4 (congr (congrArg (k1_pay9 i) ?_) ?_)
    · exact (readAt_whole M1 off2_zero _ f1).trans hf1
    · exact (readAt_whole M2 off2_zero _ f2).trans hf2
  · iexists _; isplitr; swap; · iexact H7
    ipureintro
    refine (read_write_whole M7 off3_zero _ _ _).trans ?_
    refine congrArg k1_pay5 (congr (congrArg (k1_pay10 i) ?_) ?_)
    · exact (readAt_whole M1 off2_zero _ f1).trans hf1
    · exact (readAt_whole M2 off2_zero _ f2).trans hf2

set_option maxRecDepth 65536 in
theorem combine_body (c : Dev nD) (E : Set ℕ) (M0 : Memref sig .tc .vmem S16x32x1 .f32) (h0 : M0.IsWhole) (M1 : Memref sig .tc .vmem S16x32x1 .f32) (h1 : M1.IsWhole) (M2 : Memref sig .tc .vmem S16x32x1 .f32) (h2 : M2.IsWhole) (M3 : Memref sig .tc .vmem S16x32x1 .f32) (h3 : M3.IsWhole) (M4 : Memref sig .tc .vmem S16x32x1 .i32) (h4 : M4.IsWhole) (M5 : Memref sig .tc .vmem S32x1 .f32) (h5 : M5.IsWhole) (M6 : Memref sig .tc .vmem S32x1 .f32) (h6 : M6.IsWhole) (M7 : Memref sig .tc .vmem S32x1 .i32) (h7 : M7.IsWhole) (M8 : Memref sig .tc .vmem S32x1 .f32) (h8 : M8.IsWhole)
    (X0 : S16x32x1.Idx → Elt F .f32) (X1 : S16x32x1.Idx → Elt F .f32) (X2 : S16x32x1.Idx → Elt F .f32) (X3 : S16x32x1.Idx → Elt F .f32) (X4 : S16x32x1.Idx → Elt F .i32) (X5 : S32x1.Idx → Elt F .f32) (X6 : S32x1.Idx → Elt F .f32) (X7 : S32x1.Idx → Elt F .i32) (X8 : S32x1.Idx → Elt F .f32) (Q : PUnit → sProp 𝕄) :
      iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (k2_pay4 X0) ∗ owns (c : Thread nD τ) M6 fullShare (k2_pay1 (k2_pay6 X0 X1)) ∗ owns (c : Thread nD τ) M7 fullShare (k2_pay8 X3 X4) ∗ owns (c : Thread nD τ) M8 fullShare (k2_pay2 (k2_pay4 X0) (k2_pay6 X0 X1) (k2_pay7 X0 X2))) -∗ Q ⟨⟩))
      ⊢ wp frame (wpE (defs₀ (F := F)) Variants.none c none) E (cc2__combine_kernel M0 h0 M1 h1 M2 h2 M3 h3 M4 h4 M5 h5 M6 h6 M7 h7 M8 h8) Q := by
  rw [cc2__combine_kernel_eq_skeleton]
  unfold cc2__combine_kernel_skel
  rw [k2_part1_eq_skeleton]
  unfold k2_part1_skel
  simp only [Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr; swap; · iexact H5
    ipureintro
    refine (read_write_whole M5 off2_zero _ _ _).trans ?_
    refine congrArg k2_pay4 ?_
    · exact (readAt_whole M0 off3_zero _ f0).trans hf0
  isplitl [H6]
  · iexists _; isplitr; swap; · iexact H6
    ipureintro
    refine (read_write_whole M6 off2_zero _ _ _).trans ?_
    refine congrArg k2_pay1 (congr (congrArg k2_pay6 ?_) ?_)
    · exact (readAt_whole M0 off3_zero _ f0).trans hf0
    · exact (readAt_whole M1 off3_zero _ f1).trans hf1
  isplitl [H7]
  · iexists _; isplitr; swap; · iexact H7
    ipureintro
    refine (read_write_whole M7 off2_zero _ _ _).trans ?_
    refine congr (congrArg k2_pay8 ?_) ?_
    · exact (readAt_whole M3 off3_zero _ f3).trans hf3
    · exact (readAt_whole M4 off3_zero _ f4).trans hf4
  · iexists _; isplitr; swap; · iexact H8
    ipureintro
    refine (read_write_whole M8 off2_zero _ _ _).trans ?_
    refine congr (congr (congrArg k2_pay2 (congrArg k2_pay4 ?_)) (congr (congrArg k2_pay6 ?_) ?_)) (congr (congrArg k2_pay7 ?_) ?_)
    · exact (readAt_whole M0 off3_zero _ f0).trans hf0
    · exact (readAt_whole M0 off3_zero _ f0).trans hf0
    · exact (readAt_whole M1 off3_zero _ f1).trans hf1
    · exact (readAt_whole M0 off3_zero _ f0).trans hf0
    · exact (readAt_whole M2 off3_zero _ f2).trans hf2

/-- The words one trip of the table's loop works on: the counters' low words, hashed. -/
def tripVal (i : grid0.Coords) (k : Fin k0_t1_loop.trips) : FVec F S32x512 .f32 :=
  have v0 := Scalar.muli (BitVec.ofNat 32 (i 0).val) 65536#32
  have a := k0_pay11 v0 k0_pay1 0#32 1#32 k
  have b := k0_pay12 v0 k0_pay1 0#32 1#32 k
  have a' := k0_pay23 a b
  have b' := k0_pay24 a b
  k0_pay36 (k0_pay33 a' b') (k0_pay34 a' b') (k0_pay35 a' b')

/-- The table's loop makes 128 trips. -/
theorem trips_eq : k0_t1_loop.trips = 128 := by decide +kernel

/-- What the table's loop leaves in its block: column `j` is trip `j / 512`'s column `j % 512`. -/
def tblOut (i : grid0.Coords) : S32x65536.Idx → Elt F .f32 := fun y =>
  tripVal i ⟨(y 1).val / 512, by rw [trips_eq]; have := (y 1).isLt; exact (Nat.div_lt_iff_lt_mul (by decide)).2 this⟩
    (fun a => match a with | ⟨0, _⟩ => y 0 | ⟨1, _⟩ => ⟨(y 1).val % 512, Nat.mod_lt _ (by decide)⟩)

/-- A trip stores once: its chunk of 512 columns. -/
theorem tripL_eq (c : Dev nD) (i : grid0.Coords) (M1 : Memref sig .tc .vmem S32x65536 .f32) (h1 : M1.IsWhole) (k : Fin k0_t1_loop.trips) :
    tripL_k0_t1 (F := F) Variants.none c none i M1 h1 (Scalar.muli (BitVec.ofNat 32 (i 0).val) 65536#32) k
      = [⟨Rect.unit (s := S32x65536) (k0_off1 k) S32x512.size (k0_off1_inb k), tripVal i k⟩] := by
  unfold tripL_k0_t1 trip_k0_t1
  rfl

/-- After `k` trips every column before `512 * k` holds the table's number. -/
theorem table_read (c : Dev nD) (i : grid0.Coords) (M1 : Memref sig .tc .vmem S32x65536 .f32) (h1 : M1.IsWhole)
    (f : BufTy.Contents (Elt F) M1.view.ty) (k : ℕ) (hk : k ≤ k0_t1_loop.trips) (y : S32x65536.Idx) (hy : (y 1).val < 512 * k) :
    M1.view.read (Elt F) (M1.view.writes (Elt F) f
      (pb_k0_t1 (F := F) Variants.none c none i M1 h1 (Scalar.muli (BitVec.ofNat 32 (i 0).val) 65536#32) k)) y = tblOut i y := by
  induction k with
  | zero => omega
  | succ k ih =>
    have e := pb_k0_t1_succ (F := F) Variants.none c none i M1 h1 (Scalar.muli (BitVec.ofNat 32 (i 0).val) 65536#32) ⟨k, hk⟩
    simp only at e
    rw [e, tripL_eq, List.singleton_append]
    by_cases hlt : (y 1).val < 512 * k
    · rw [View.read_writes_cons_unit_of_not_mem M1.view f _ _ _ y (k0_off1_eq ⟨k, hk⟩) 1 (Or.inl hlt)]
      exact ih (Nat.le_of_succ_le hk) hlt
    · have hd : (y 1).val / 512 = k := by omega
      refine (View.read_writes_cons_unit_of_mem M1.view f _ _ _ y
        (fun a => match a with | ⟨0, _⟩ => y 0 | ⟨1, _⟩ => ⟨(y 1).val % 512, Nat.mod_lt _ (by decide)⟩) (k0_off1_eq ⟨k, hk⟩) ?_).trans ?_
      · intro a
        fin_cases a
        · exact (Nat.zero_add _).symm
        · show (y 1).val = 512 * k + (y 1).val % 512
          omega
      · exact congrFun (congrArg (tripVal i) (Fin.ext hd.symm)) _

set_option maxRecDepth 65536 in
theorem table_body (c : Dev nD) (E : Set ℕ) (i : grid0.Coords) (M1 : Memref sig .tc .vmem S32x65536 .f32) (h1 : M1.IsWhole)
    (X1 : S32x65536.Idx → Elt F .f32) (Q : PUnit → sProp 𝕄) :
      iprop(owns (c : Thread nD τ) M1 fullShare X1 ∗ (iprop(owns (c : Thread nD τ) M1 fullShare (tblOut i)) -∗ Q ⟨⟩))
      ⊢ wp frame (wpE (defs₀ (F := F)) Variants.none c none) E (cc0__table_kernel i M1 h1) Q := by
  rw [cc0__table_kernel_eq_skeleton]
  unfold cc0__table_kernel_skel
  unfold owns
  iintro ⟨⟨%f1, %hf1, H1⟩, Hk⟩
  sl_exec
  sl_step
  iapply Hk
  iexists _; isplitr; swap; · iexact H1
  ipureintro
  funext y
  exact table_read c i M1 h1 f1 _ le_rfl y (by rw [trips_eq]; exact (y 1).isLt)

end Cert.KernelIdeal.Body
-- ==== Proof.Dats.lean ====
module

public import proofs.«01_k».proof.Proof.Bodies
public import Idealize.ShloMosaic.Lib.Pipeline.FrameBody

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The statistics read nothing past the array's end -/

/-- A column counts if its global number is below the row's length. -/
theorem valid_iff (i : grid1.Coords) (j : S32x65536.Idx) :
    k1_pay7 i j = 1 ↔ (i 0).val * 65536 + (j 1).val < 1000000 := by
  have hi : (i 0).val < 16 := (i 0).isLt
  have hj : (j 1).val < 65536 := (j 1).isLt
  show IntOp.cmpi .slt (IntOp.addi (BitVec.ofNat 32 (0 * 65536 + (j 1).val)) (IntOp.muli (BitVec.ofNat 32 (i 0).val) 65536#32)) 1000000#32 = 1 ↔ _
  unfold IntOp.cmpi IntOp.addi IntOp.muli
  have e : (BitVec.ofNat 32 (0 * 65536 + (j 1).val) + BitVec.ofNat 32 (i 0).val * 65536#32) = BitVec.ofNat 32 ((i 0).val * 65536 + (j 1).val) := by
    apply BitVec.eq_of_toNat_eq
    simp only [BitVec.toNat_add, BitVec.toNat_mul, BitVec.toNat_ofNat]
    omega
  rw [e]
  have e2 : (BitVec.ofNat 32 ((i 0).val * 65536 + (j 1).val)).slt 1000000#32 = decide ((i 0).val * 65536 + (j 1).val < 1000000) := by
    rw [BitVec.slt_eq_decide, BitVec.toInt_eq_toNat_of_lt, BitVec.toInt_eq_toNat_of_lt]
    · simp only [BitVec.toNat_ofNat]
      rw [Nat.mod_eq_of_lt (by omega)]
      norm_cast
    · simp
    · simp only [BitVec.toNat_ofNat]; omega
  simp only [e2]
  by_cases h : (i 0).val * 65536 + (j 1).val < 1000000 <;> simp [h]

/-- A selection reads its first array only where the condition holds. -/
theorem select_congr {s : Shape} {α : Type} (c : IVec s 1) (a a' b : s.Idx → α) (h : ∀ j, c j = 1 → a j = a' j) :
    select c a b = select c a' b := by
  funext j
  show (if c j = 1 then a j else b j) = if c j = 1 then a' j else b j
  split
  · exact h j ‹_›
  · rfl

variable {i : grid1.Coords} {X X' Y Y' : S32x65536.Idx → Elt F .f32}

/-- The masked scores depend on the counted columns alone. -/
theorem pay8_congr (h : ∀ j, k1_pay7 i j = 1 → X j = X' j) (h' : ∀ j, k1_pay7 i j = 1 → Y j = Y' j) :
    k1_pay8 i X Y = k1_pay8 i X' Y' := by
  unfold k1_pay8
  refine select_congr _ _ _ _ fun j hj => ?_
  rw [shapeCast_self, shapeCast_self]
  show FloatOps.addf (X j) (Y j) = FloatOps.addf (X' j) (Y' j)
  rw [h j hj, h' j hj]

/-- The masked logits depend on the counted columns alone. -/
theorem pay11_congr (h : ∀ j, k1_pay7 i j = 1 → X j = X' j) : k1_pay11 i X = k1_pay11 i X' := by
  unfold k1_pay11
  exact select_congr _ _ _ _ h

/-- So does the block's greatest logit. -/
theorem pay12_congr (h : ∀ j, k1_pay7 i j = 1 → X j = X' j) : k1_pay12 i X = k1_pay12 i X' := by
  unfold k1_pay12; rw [pay11_congr h]

/-- So do the exponentials. -/
theorem pay13_congr (h : ∀ j, k1_pay7 i j = 1 → X j = X' j) : k1_pay13 i X = k1_pay13 i X' := by
  unfold k1_pay13; rw [pay11_congr h, pay12_congr h]

/-- So does their sum. -/
theorem pay14_congr (h : ∀ j, k1_pay7 i j = 1 → X j = X' j) : k1_pay14 i X = k1_pay14 i X' := by
  unfold k1_pay14; rw [pay13_congr h]

/-- So does the sum weighted by the logits. -/
theorem pay15_congr (h : ∀ j, k1_pay7 i j = 1 → X j = X' j) : k1_pay15 i X = k1_pay15 i X' := by
  have hs : ∀ (hv : S32x65536.Slices ![0, 0] S8x65536) (b : S8x65536.Idx → Elt F .f32),
      select (extractStridedSlice S8x65536 ![0, 0] (k1_pay7 i) hv) (extractStridedSlice S8x65536 ![0, 0] X hv) b
        = select (extractStridedSlice S8x65536 ![0, 0] (k1_pay7 i) hv) (extractStridedSlice S8x65536 ![0, 0] X' hv) b :=
    fun hv b => select_congr _ _ _ _ fun j hj => h _ hj
  have key : ∀ A A' : FVec F S8x65536 .f32, A = A' →
      concatenate S32x1 0 [⟨S8x1, shapeCast S8x1 (multiReduction .add [1] S8 A 0x00000000#32 reduces_S8x65536_S8 (.inl rfl) rfl) shapeCasts_S8_S8x1⟩,
          ⟨S24x1, broadcast S24x1 (Scalar.ofBits .f32 0x00000000#32 : F .f32)⟩] concatenates_S8x1_S24x1_S32x1_d0
        = concatenate S32x1 0 [⟨S8x1, shapeCast S8x1 (multiReduction .add [1] S8 A' 0x00000000#32 reduces_S8x65536_S8 (.inl rfl) rfl) shapeCasts_S8_S8x1⟩,
          ⟨S24x1, broadcast S24x1 (Scalar.ofBits .f32 0x00000000#32 : F .f32)⟩] concatenates_S8x1_S24x1_S32x1_d0 := by
    rintro _ _ rfl; rfl
  exact key _ _ (by rw [pay13_congr h, hs])

/-- So does the greatest score. -/
theorem pay9_congr (h : ∀ j, k1_pay7 i j = 1 → X j = X' j) (h' : ∀ j, k1_pay7 i j = 1 → Y j = Y' j) :
    k1_pay9 i X Y = k1_pay9 i X' Y' := by
  unfold k1_pay9; rw [pay8_congr h h']

/-- So does the column at which the score is greatest. -/
theorem pay10_congr (h : ∀ j, k1_pay7 i j = 1 → X j = X' j) (h' : ∀ j, k1_pay7 i j = 1 → Y j = Y' j) :
    k1_pay10 i X Y = k1_pay10 i X' Y' := by
  unfold k1_pay10; rw [pay8_congr h h', pay9_congr h h']

/-- A counted column is one the block's transfer moves. -/
theorem moved_of_valid (i : grid1.Coords) (j : S32x65536.Idx) (h : k1_pay7 i j = 1) : win1_0.moved i j = true := by
  rw [valid_iff] at h
  have hi : (i 0).val < 16 := (i 0).isLt
  rw [win1_0.moved_iff]
  intro a
  fin_cases a
  · exact (j 0).isLt
  · show (j 1).val < (Pipeline.Clip.of (BitVec.ofNat 32 (i 0).val).toNat 65536 1000000).extent 65536
    rw [BitVec.toNat_ofNat, Nat.mod_eq_of_lt (by omega)]
    unfold Pipeline.Clip.of
    split
    · exact (j 1).isLt
    · show (j 1).val < 1000000 - (i 0).val * 65536
      omega

/-- At a counted column a staged block holds the transferred number, whatever it held before. -/
theorem fill_congr_valid (i : grid1.Coords) (d d' : S32x65536.Idx → Elt F .f32) (g : (win1_0.xblock i).Idx → Elt F .f32) (j : S32x65536.Idx) (h : k1_pay7 i j = 1) :
    win1_0.fill i d g j = win1_0.fill i d' g j := by
  have hm := moved_of_valid i j h
  unfold Window.fill
  rw [dif_pos hm, dif_pos hm]

/-! ## The proof data, at an entry valuation -/

variable (W : Dev nD → Valuation τ sig (Elt F))

/-- The word a staging buffer is taken to hold past the array's end: any would do. -/
def pad : S32x65536.Idx → Elt F .f32 := fun _ => Scalar.ofBits .f32 0#32

/-- The logits' block, as the statistics' and the probabilities' calls fetch it. -/
def xin (c : Dev nD) (t : Fin cfg1.N) : S32x65536.Idx → Elt F .f32 :=
  win1_0.fill (grid1.coords t) pad ((win1_0.blk t).view.read (Elt F) (W c main_arg0))
/-- The noise's block. -/
def gin (c : Dev nD) (t : Fin cfg1.N) : S32x65536.Idx → Elt F .f32 :=
  win1_1.fill (grid1.coords t) pad ((win1_1.blk t).view.read (Elt F) (W c main_v0))
/-- The logits' block, as the probabilities' call fetches it. -/
def xin3 (c : Dev nD) (t : Fin cfg3.N) : S32x65536.Idx → Elt F .f32 :=
  win3_0.fill (grid3.coords t) pad ((win3_0.blk t).view.read (Elt F) (W c main_arg0))

/-- What a call holds besides its windows: the core's other scoped buffers. -/
abbrev Φc {gr W} (spec : Fin W → Pipeline.WinSpec sig gr) (c : Dev nD) : sProp 𝕄 :=
  Pipeline.scopedRest (Ix := Unit) (Name := ℕ) (U := UR sig nD τ) (Lvl := ℕ) (Val := Elt F) spec c

/-- The proof data of the table's call: what each window holds after a step. -/
def dat0 (c : Dev nD) : Dat τ (Elt F) Unit ℕ (UR sig nD τ) ℕ cfg0 c where
  A w := W c (Pipeline.arrRef spec0 w)
  after w t := match w with
    | ⟨0, _⟩ => tblOut (grid0.coords t)
  Φ _ := Φc spec0 c
  q _ := fullShare
  owed _ := 0

/-- The proof data of the statistics' call. -/
def dat1 (c : Dev nD) : Dat τ (Elt F) Unit ℕ (UR sig nD τ) ℕ cfg1 c where
  A w := W c (Pipeline.arrRef spec1 w)
  after w t := match w with
    | ⟨0, _⟩ => xin W c t
    | ⟨1, _⟩ => gin W c t
    | ⟨2, _⟩ => k1_pay1 (k1_pay12 (grid1.coords t) (xin W c t))
    | ⟨3, _⟩ => k1_pay2 (k1_pay14 (grid1.coords t) (xin W c t))
    | ⟨4, _⟩ => k1_pay3 (k1_pay15 (grid1.coords t) (xin W c t))
    | ⟨5, _⟩ => k1_pay4 (k1_pay9 (grid1.coords t) (xin W c t) (gin W c t))
    | ⟨6, _⟩ => k1_pay5 (k1_pay10 (grid1.coords t) (xin W c t) (gin W c t))
  Φ _ := Φc spec1 c
  q _ := fullShare
  owed _ := 0

/-- The proof data of the combining call. -/
def dat2 (c : Dev nD) : Dat τ (Elt F) Unit ℕ (UR sig nD τ) ℕ cfg2 c where
  A w := W c (Pipeline.arrRef spec2 w)
  after w t := match w with
    | ⟨0, _⟩ => (win2_0.blk t).view.read (Elt F) (W c main_v1_0)
    | ⟨1, _⟩ => (win2_1.blk t).view.read (Elt F) (W c main_v1_1)
    | ⟨2, _⟩ => (win2_2.blk t).view.read (Elt F) (W c main_v1_2)
    | ⟨3, _⟩ => (win2_3.blk t).view.read (Elt F) (W c main_v1_3)
    | ⟨4, _⟩ => (win2_4.blk t).view.read (Elt F) (W c main_v1_4)
    | ⟨5, _⟩ => k2_pay4 ((win2_0.blk t).view.read (Elt F) (W c main_v1_0))
    | ⟨6, _⟩ => k2_pay1 (k2_pay6 ((win2_0.blk t).view.read (Elt F) (W c main_v1_0)) ((win2_1.blk t).view.read (Elt F) (W c main_v1_1)))
    | ⟨7, _⟩ => k2_pay8 ((win2_3.blk t).view.read (Elt F) (W c main_v1_3)) ((win2_4.blk t).view.read (Elt F) (W c main_v1_4))
    | ⟨8, _⟩ => k2_pay2 (k2_pay4 ((win2_0.blk t).view.read (Elt F) (W c main_v1_0)))
        (k2_pay6 ((win2_0.blk t).view.read (Elt F) (W c main_v1_0)) ((win2_1.blk t).view.read (Elt F) (W c main_v1_1)))
        (k2_pay7 ((win2_0.blk t).view.read (Elt F) (W c main_v1_0)) ((win2_2.blk t).view.read (Elt F) (W c main_v1_2)))
  Φ _ := Φc spec2 c
  q _ := fullShare
  owed _ := 0

/-- The proof data of the probabilities' call. -/
def dat3 (c : Dev nD) : Dat τ (Elt F) Unit ℕ (UR sig nD τ) ℕ cfg3 c where
  A w := W c (Pipeline.arrRef spec3 w)
  after w t := match w with
    | ⟨0, _⟩ => xin3 W c t
    | ⟨1, _⟩ => (win3_1.blk t).view.read (Elt F) (W c main_v2_0)
    | ⟨2, _⟩ => (win3_2.blk t).view.read (Elt F) (W c main_v2_1)
    | ⟨3, _⟩ => k3_pay1 (xin3 W c t) ((win3_1.blk t).view.read (Elt F) (W c main_v2_0)) ((win3_2.blk t).view.read (Elt F) (W c main_v2_1))
  Φ _ := Φc spec3 c
  q _ := fullShare
  owed _ := 0

/-! ## What the bodies find -/

/-- A buffer whose window is written back at every point holds anything when the body runs. -/
theorem before_out {Λ₀} {cfg : Cfg sig Λ₀} {c : Dev nD} (dat : Dat τ (Elt F) Unit ℕ (UR sig nD τ) ℕ cfg c) (w : Fin cfg.W)
    (hw : (cfg.win w).isOut = true) (hf : ∀ t, (cfg.win w).flush t = true) (t : Fin cfg.N) (d) : dat.before w t d = d := by
  refine dat.before_out_reset w hw t ?_ d
  by_cases h : t.val = 0
  · exact .inl h
  · exact .inr ⟨h, hf _⟩

/-- Before a step of the statistics' call, the logits' window holds the fetched block. -/
theorem before1_0 (c : Dev nD) (t : Fin cfg1.N) (d) : (dat1 W c).before (0 : Fin 7) t d
    = win1_0.fill (grid1.coords t) d ((win1_0.blk t).view.read (Elt F) (W c main_arg0)) := by
  unfold Dat.before; rw [if_pos (fetch1_0 t)]; rfl
/-- Before a step of the statistics' call, the noise's window holds the fetched block. -/
theorem before1_1 (c : Dev nD) (t : Fin cfg1.N) (d) : (dat1 W c).before (1 : Fin 7) t d
    = win1_1.fill (grid1.coords t) d ((win1_1.blk t).view.read (Elt F) (W c main_v0)) := by
  unfold Dat.before; rw [if_pos (fetch1_1 t)]; rfl
/-- Before the combining step, the window holds the blocks' greatest logits. -/
theorem before2_0 (c : Dev nD) (t : Fin cfg2.N) (d) : (dat2 W c).before (0 : Fin 9) t d = (win2_0.blk t).view.read (Elt F) (W c main_v1_0) := by
  unfold Dat.before; rw [if_pos (fetch2_0 t)]; rfl
/-- Before the combining step, the window holds the blocks' sums. -/
theorem before2_1 (c : Dev nD) (t : Fin cfg2.N) (d) : (dat2 W c).before (1 : Fin 9) t d = (win2_1.blk t).view.read (Elt F) (W c main_v1_1) := by
  unfold Dat.before; rw [if_pos (fetch2_1 t)]; rfl
/-- Before the combining step, the window holds the blocks' weighted sums. -/
theorem before2_2 (c : Dev nD) (t : Fin cfg2.N) (d) : (dat2 W c).before (2 : Fin 9) t d = (win2_2.blk t).view.read (Elt F) (W c main_v1_2) := by
  unfold Dat.before; rw [if_pos (fetch2_2 t)]; rfl
/-- Before the combining step, the window holds the blocks' greatest scores. -/
theorem before2_3 (c : Dev nD) (t : Fin cfg2.N) (d) : (dat2 W c).before (3 : Fin 9) t d = (win2_3.blk t).view.read (Elt F) (W c main_v1_3) := by
  unfold Dat.before; rw [if_pos (fetch2_3 t)]; rfl
/-- Before the combining step, the window holds the blocks' columns. -/
theorem before2_4 (c : Dev nD) (t : Fin cfg2.N) (d) : (dat2 W c).before (4 : Fin 9) t d = (win2_4.blk t).view.read (Elt F) (W c main_v1_4) := by
  unfold Dat.before; rw [if_pos (fetch2_4 t)]; rfl
/-- Before a step of the probabilities' call, the logits' window holds the fetched block. -/
theorem before3_0 (c : Dev nD) (t : Fin cfg3.N) (d) : (dat3 W c).before (0 : Fin 4) t d
    = win3_0.fill (grid3.coords t) d ((win3_0.blk t).view.read (Elt F) (W c main_arg0)) := by
  unfold Dat.before; rw [if_pos (fetch3_0 t)]; rfl
/-- Before a step of the probabilities' call, the window holds the rows' greatest logits. -/
theorem before3_1 (c : Dev nD) (t : Fin cfg3.N) (d) : (dat3 W c).before (1 : Fin 4) t d = (win3_1.blk t).view.read (Elt F) (W c main_v2_0) :=
  ((dat3 W c).before_in_eq_fetched 1 rfl (fun _ => rfl) (fun _ _ _ => rfl) (fun _ => rfl) t d).trans rfl
/-- Before a step of the probabilities' call, the window holds the sums' inverses. -/
theorem before3_2 (c : Dev nD) (t : Fin cfg3.N) (d) : (dat3 W c).before (2 : Fin 4) t d = (win3_2.blk t).view.read (Elt F) (W c main_v2_1) :=
  ((dat3 W c).before_in_eq_fetched 2 rfl (fun _ => rfl) (fun _ _ _ => rfl) (fun _ => rfl) t d).trans rfl

/-! What the bodies leave, window by window. -/

theorem after1_2 (c : Dev nD) (t : Fin cfg1.N) : (dat1 W c).after (2 : Fin 7) t = k1_pay1 (k1_pay12 (grid1.coords t) (xin W c t)) := by dsimp only [dat1]
theorem after1_3 (c : Dev nD) (t : Fin cfg1.N) : (dat1 W c).after (3 : Fin 7) t = k1_pay2 (k1_pay14 (grid1.coords t) (xin W c t)) := by dsimp only [dat1]
theorem after1_4 (c : Dev nD) (t : Fin cfg1.N) : (dat1 W c).after (4 : Fin 7) t = k1_pay3 (k1_pay15 (grid1.coords t) (xin W c t)) := by dsimp only [dat1]
theorem after1_5 (c : Dev nD) (t : Fin cfg1.N) : (dat1 W c).after (5 : Fin 7) t = k1_pay4 (k1_pay9 (grid1.coords t) (xin W c t) (gin W c t)) := by dsimp only [dat1]
theorem after1_6 (c : Dev nD) (t : Fin cfg1.N) : (dat1 W c).after (6 : Fin 7) t = k1_pay5 (k1_pay10 (grid1.coords t) (xin W c t) (gin W c t)) := by dsimp only [dat1]
theorem after3_3 (c : Dev nD) (t : Fin cfg3.N) : (dat3 W c).after (3 : Fin 4) t
    = k3_pay1 (xin3 W c t) ((win3_1.blk t).view.read (Elt F) (W c main_v2_0)) ((win3_2.blk t).view.read (Elt F) (W c main_v2_1)) := by dsimp only [dat3]

/-! ## The body obligations -/

theorem body_obligation0 (c : Dev nD) : BodyObligationLoose (dat0 W c) (defs₀ (F := F)) Variants.none () Set.univ := fun t => by
  rw [bigSep_W0, bigSep_W0]
  simp only
  rw [show (dat0 W c).Φ t.succ = (dat0 W c).Φ t.castSucc from rfl,
    show (dat0 W c).owesAt () t.succ = (dat0 W c).owesAt () t.castSucc from rfl]
  iintro ⟨HΦ, Ho, ⟨%d0, H0⟩⟩
  iapply (table_body (F := F) c Set.univ (grid0.coords t) _ (hstage0_0 ((cfg0.slots t 0).cast nbuf0_0)) ((dat0 W c).before (0 : Fin 1) t d0) _)
  isplitl [H0]; · iexact H0
  iintro H0
  isplitl [HΦ]; · iexact HΦ
  isplitl [Ho]; · iexact Ho
  iexists (tblOut (grid0.coords t))
  change _ ⊢ owns (c : Thread nD τ) (st0_0 t) fullShare (win0_0.fill (grid0.coords t) (tblOut (grid0.coords t)) (win0_0.cut (grid0.coords t) (tblOut (grid0.coords t))))
  rw [win0_0.fill_cut]
  exact .rfl

set_option maxRecDepth 65536 in
theorem body_obligation1 (c : Dev nD) : BodyObligationLoose (dat1 W c) (defs₀ (F := F)) Variants.none () Set.univ := fun t => by
  rw [bigSep_W1, bigSep_W1]
  simp only
  rw [show (dat1 W c).Φ t.succ = (dat1 W c).Φ t.castSucc from rfl,
    show (dat1 W c).owesAt () t.succ = (dat1 W c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 W c t d0, before1_1 W c t d1]
  iapply (stats_body (F := F) c Set.univ (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6))
    (win1_0.fill (grid1.coords t) d0 ((win1_0.blk t).view.read (Elt F) (W c main_arg0)))
    (win1_1.fill (grid1.coords t) d1 ((win1_1.blk t).view.read (Elt F) (W c main_v0))) _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  have hx : win1_0.cut (grid1.coords t) (xin W c t) = (win1_0.blk t).view.read (Elt F) (W c main_arg0) := win1_0.cut_fill _ _ _
  have hg : win1_1.cut (grid1.coords t) (gin W c t) = (win1_1.blk t).view.read (Elt F) (W c main_v0) := win1_1.cut_fill _ _ _
  have hX : ∀ j, k1_pay7 (grid1.coords t) j = 1 → win1_0.fill (grid1.coords t) d0 ((win1_0.blk t).view.read (Elt F) (W c main_arg0)) j = xin W c t j :=
    fun j hj => fill_congr_valid (grid1.coords t) d0 pad _ j hj
  have hG : ∀ j, k1_pay7 (grid1.coords t) j = 1 → win1_1.fill (grid1.coords t) d1 ((win1_1.blk t).view.read (Elt F) (W c main_v0)) j = gin W c t j :=
    fun j hj => fill_congr_valid (grid1.coords t) d1 pad ((win1_1.blk t).view.read (Elt F) (W c main_v0)) j hj
  rw [after1_2, after1_3, after1_4, after1_5, after1_6, pay12_congr hX, pay14_congr hX, pay15_congr hX, pay9_congr hX hG, pay10_congr hX hG]
  isplitl [H0]
  · iexists d0
    change _ ⊢ owns (c : Thread nD τ) (st1_0 t) fullShare (win1_0.fill (grid1.coords t) d0 (win1_0.cut (grid1.coords t) (xin W c t)))
    rw [hx]
    exact .rfl
  isplitl [H1]
  · iexists d1
    change _ ⊢ owns (c : Thread nD τ) (st1_1 t) fullShare (win1_1.fill (grid1.coords t) d1 (win1_1.cut (grid1.coords t) (gin W c t)))
    rw [hg]
    exact .rfl
  isplitl [H2]; · iexact H2
  isplitl [H3]; · iexact H3
  isplitl [H4]; · iexact H4
  isplitl [H5]; · iexact H5
  iexact H6

set_option maxRecDepth 65536 in
theorem body_obligation2 (c : Dev nD) : BodyObligationLoose (dat2 W c) (defs₀ (F := F)) Variants.none () Set.univ := fun t => by
  rw [bigSep_W2, bigSep_W2]
  simp only
  rw [show (dat2 W c).Φ t.succ = (dat2 W c).Φ t.castSucc from rfl,
    show (dat2 W c).owesAt () t.succ = (dat2 W c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0 W c t d0, before2_1 W c t d1, before2_2 W c t d2, before2_3 W c t d3, before2_4 W c t d4]
  iapply (combine_body (F := F) c Set.univ _ (hstage2_0 0) _ (hstage2_1 0) _ (hstage2_2 0) _ (hstage2_3 0) _ (hstage2_4 0)
    _ (hstage2_5 0) _ (hstage2_6 0) _ (hstage2_7 0) _ (hstage2_8 0)
    ((win2_0.blk t).view.read (Elt F) (W c main_v1_0)) ((win2_1.blk t).view.read (Elt F) (W c main_v1_1)) ((win2_2.blk t).view.read (Elt F) (W c main_v1_2))
    ((win2_3.blk t).view.read (Elt F) (W c main_v1_3)) ((win2_4.blk t).view.read (Elt F) (W c main_v1_4)) _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A probability reads its own logit only: what the buffer holds past the array's end touches nothing inside. -/
theorem probs_cut (t : Fin cfg3.N) (d d' : S32x65536.Idx → Elt F .f32) (g : (win3_0.xblock (grid3.coords t)).Idx → Elt F .f32) (a b : S32x1.Idx → Elt F .f32) :
    win3_3.cut (grid3.coords t) (k3_pay1 (win3_0.fill (grid3.coords t) d g) a b) = win3_3.cut (grid3.coords t) (k3_pay1 (win3_0.fill (grid3.coords t) d' g) a b) := by
  funext j
  have e : ∀ d, win3_0.fill (grid3.coords t) d g (win3_3.xinj (grid3.coords t) j) = g j := fun d => win3_0.fill_xinj (grid3.coords t) d g j
  unfold k3_pay1
  show FloatOps.mulf (FloatOps.exp (FloatOps.subf (win3_0.fill (grid3.coords t) d g (win3_3.xinj (grid3.coords t) j)) _)) _
    = FloatOps.mulf (FloatOps.exp (FloatOps.subf (win3_0.fill (grid3.coords t) d' g (win3_3.xinj (grid3.coords t) j)) _)) _
  rw [e, e]

set_option maxRecDepth 65536 in
theorem body_obligation3 (c : Dev nD) : BodyObligationLoose (dat3 W c) (defs₀ (F := F)) Variants.none () Set.univ := fun t => by
  rw [bigSep_W3, bigSep_W3]
  simp only
  rw [show (dat3 W c).Φ t.succ = (dat3 W c).Φ t.castSucc from rfl,
    show (dat3 W c).owesAt () t.succ = (dat3 W c).owesAt () t.castSucc from rfl]
  iintro ⟨HΦ, Ho, ⟨%d0, H0⟩, ⟨%d1, H1⟩, ⟨%d2, H2⟩, ⟨%d3, H3⟩⟩
  rw [before3_0 W c t d0, before3_1 W c t d1, before3_2 W c t d2]
  iapply (probs_body (F := F) c Set.univ (grid3.coords t) _ (hstage3_0 ((cfg3.slots t 0).cast nbuf3_0)) _ (hstage3_1 ((cfg3.slots t 1).cast nbuf3_1))
    _ (hstage3_2 ((cfg3.slots t 2).cast nbuf3_2)) _ (hstage3_3 ((cfg3.slots t 3).cast nbuf3_3))
    (win3_0.fill (grid3.coords t) d0 ((win3_0.blk t).view.read (Elt F) (W c main_arg0))) _
    ((win3_1.blk t).view.read (Elt F) (W c main_v2_0)) ((win3_2.blk t).view.read (Elt F) (W c main_v2_1)) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  have hx : win3_0.cut (grid3.coords t) (xin3 W c t) = (win3_0.blk t).view.read (Elt F) (W c main_arg0) := win3_0.cut_fill _ _ _
  isplitl [H0]
  · iexists d0
    change _ ⊢ owns (c : Thread nD τ) (st3_0 t) fullShare (win3_0.fill (grid3.coords t) d0 (win3_0.cut (grid3.coords t) (xin3 W c t)))
    rw [hx]
    exact .rfl
  isplitl [H1]; · iexact H1
  isplitl [H2]; · iexact H2
  have e := win3_3.fill_congr_cut (grid3.coords t) (probs_cut (F := F) t d0 pad ((win3_0.blk t).view.read (Elt F) (W c main_arg0))
    ((win3_1.blk t).view.read (Elt F) (W c main_v2_0)) ((win3_2.blk t).view.read (Elt F) (W c main_v2_1)))
  rw [after3_3]
  iexists (k3_pay1 (win3_0.fill (grid3.coords t) d0 ((win3_0.blk t).view.read (Elt F) (W c main_arg0))) ((win3_1.blk t).view.read (Elt F) (W c main_v2_0)) ((win3_2.blk t).view.read (Elt F) (W c main_v2_1)))
  exact .of_eq (congrArg (owns (c : Thread nD τ) (st3_3 t) fullShare) e.symm)

end Cert.KernelIdeal.Body
-- ==== Proof.Whole.lean ====
module

public import proofs.«01_k».proof.Proof.Dats
public import Idealize.ShloMosaic.Lib.Pipeline.RegionArraysS
public import Idealize.ShloMosaic.Lib.Pipeline.Kit

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the calls -/

/-- The unscoped buffers at launch, -/
def A0 (c : Dev nD) : Valuation τ sig (Elt F) := fun b => m (c, b)
/-- after the table's call, -/
def A1 (c : Dev nD) : Valuation τ sig (Elt F) := Pipeline.afterRegion (dat0 (A0 m) c) (A0 m c)
/-- after the statistics' call, -/
def A2 (c : Dev nD) : Valuation τ sig (Elt F) := Pipeline.afterRegion (dat1 (A1 m) c) (A1 m c)
/-- after the combining call, -/
def A3 (c : Dev nD) : Valuation τ sig (Elt F) := Pipeline.afterRegion (dat2 (A2 m) c) (A2 m c)
/-- after the probabilities' call. -/
def A4 (c : Dev nD) : Valuation τ sig (Elt F) := Pipeline.afterRegion (dat3 (A3 m) c) (A3 m c)

/-- The proof data of the four calls. -/
def pdats : (p : Fin 4) → (c : Dev nD) → Dat τ (Elt F) Unit ℕ (UR sig nD τ) ℕ (cfgs p) c
  | ⟨0, _⟩ => fun c => dat0 (A0 m) c
  | ⟨1, _⟩ => fun c => dat1 (A1 m) c
  | ⟨2, _⟩ => fun c => dat2 (A2 m) c
  | ⟨3, _⟩ => fun c => dat3 (A3 m) c

/-- The one token waits at every TensorCore's counters, at level zero. -/
def L : GSem nD τ sig → Finset Unit := fun g => if g.1.2 = .tc then {()} else ∅
/-- Every wait is at level zero. -/
def lv : GSem nD τ sig → Unit → ℕ := fun _ _ => 0
/-- Threads other than TensorCores wait for nothing. -/
theorem hL (g : GSem nD τ sig) (h : g.1.2 ≠ .tc) : L g = ∅ := if_neg h

theorem cut (p : Fin 4) : Pipeline.LevelCut (pcfgs (F := F)) adm () L lv p (fun _ => 0) (fun _ => 0) where
  hι c w s := by unfold L; rw [if_pos rfl]; exact Finset.mem_singleton_self _
  hιb _ _ _ := le_rfl
  hD _ _ _ h := absurd h (lt_irrefl _)

/-- The unscoped buffers. -/
abbrev S := Pipeline.ucRefs τ sig

/-- A call starts with its scoped buffers alone. -/
theorem enter {gr W} (spec : Fin W → Pipeline.WinSpec sig gr) (c : Dev nD) : iprop(Φc (F := F) spec c ∗ emp) ⊢ Φc spec c := by
  iintro ⟨H, -⟩; iexact H
/-- A call gives its scoped buffers back. -/
theorem leave {gr W} (spec : Fin W → Pipeline.WinSpec sig gr) (c : Dev nD) : Φc (F := F) spec c ⊢ iprop(Φc spec c ∗ emp) := by
  iintro H; isplitl [H]; (· iexact H); iempintro

set_option backward.isDefEq.respectTransparency.types false in
/-- Call 0, entered from the unscoped buffers at `A0`. -/
def R0 : RegionSeg (pcfgs (F := F)) adm (pdats m) () defs₀ Variants.none L lv 0 :=
  RegionSeg.ofHeldIn (pcfgs (F := F)) adm (pdats m) () defs₀ Variants.none L lv 0 (fun _ => 0) S (fun _ => iprop(emp)) (fun _ => iprop(emp))
    launch0.toP rfl (fun c => body_obligation0 (A0 m) c) (fun _ _ => rfl) (fun _ => rfl)
    (fun c w => by unfold Dat.share; split <;> rfl) (fun c => enter spec0 c) (fun c => leave spec0 c)
    (fun _ => 0) (cut 0) (fun _ => iprop(emp)) (A0 m) (fun _ _ => rfl)

set_option backward.isDefEq.respectTransparency.types false in
/-- Call 1, entered from the unscoped buffers at `A1`. -/
def R1 : RegionSeg (pcfgs (F := F)) adm (pdats m) () defs₀ Variants.none L lv 1 :=
  RegionSeg.ofHeldIn (pcfgs (F := F)) adm (pdats m) () defs₀ Variants.none L lv 1 (fun _ => 0) S (fun _ => iprop(emp)) (fun _ => iprop(emp))
    launch1.toP rfl (fun c => body_obligation1 (A1 m) c) (fun _ _ => rfl) (fun _ => rfl)
    (fun c w => by unfold Dat.share; split <;> rfl) (fun c => enter spec1 c) (fun c => leave spec1 c)
    (fun _ => 0) (cut 1) (fun _ => iprop(emp)) (A1 m) (fun _ _ => rfl)

set_option backward.isDefEq.respectTransparency.types false in
/-- Call 2, entered from the unscoped buffers at `A2`. -/
def R2 : RegionSeg (pcfgs (F := F)) adm (pdats m) () defs₀ Variants.none L lv 2 :=
  RegionSeg.ofHeldIn (pcfgs (F := F)) adm (pdats m) () defs₀ Variants.none L lv 2 (fun _ => 0) S (fun _ => iprop(emp)) (fun _ => iprop(emp))
    launch2.toP rfl (fun c => body_obligation2 (A2 m) c) (fun _ _ => rfl) (fun _ => rfl)
    (fun c w => by unfold Dat.share; split <;> rfl) (fun c => enter spec2 c) (fun c => leave spec2 c)
    (fun _ => 0) (cut 2) (fun _ => iprop(emp)) (A2 m) (fun _ _ => rfl)

set_option backward.isDefEq.respectTransparency.types false in
/-- Call 3, entered from the unscoped buffers at `A3`. -/
def R3 : RegionSeg (pcfgs (F := F)) adm (pdats m) () defs₀ Variants.none L lv 3 :=
  RegionSeg.ofHeldIn (pcfgs (F := F)) adm (pdats m) () defs₀ Variants.none L lv 3 (fun _ => 0) S (fun _ => iprop(emp)) (fun _ => iprop(emp))
    launch3.toP rfl (fun c => body_obligation3 (A3 m) c) (fun _ _ => rfl) (fun _ => rfl)
    (fun c w => by unfold Dat.share; split <;> rfl) (fun c => enter spec3 c) (fun c => leave spec3 c)
    (fun _ => 0) (cut 3) (fun _ => iprop(emp)) (A3 m) (fun _ _ => rfl)

/-- What rides beside the buffers: the core owes nothing. -/
abbrev Eo (c : Dev nD) : sProp 𝕄 := iprop(∃ W, owes (c : Thread nD τ) (0 : CellTallies nD τ sig Unit) W)

/-- A call's arrays are among the unscoped buffers. -/
theorem arrs_sub {gr W} (spec : Fin W → Pipeline.WinSpec sig gr) (h : ∀ w, (Pipeline.arrRef spec w).isScoped = false) :
    (Pipeline.arrRefs (τ := τ) spec) ⊆ S := by
  intro b hb
  unfold Pipeline.arrRefs at hb
  simp only [Finset.mem_map, Finset.mem_image, Finset.mem_univ, true_and] at hb
  obtain ⟨r, ⟨w, rfl⟩, rfl⟩ := hb
  exact Pipeline.devRef_mem_ucRefs (h w)

/-- So are the arrays of the table's call. -/
theorem sub0 : Pipeline.arrRefs (τ := τ) (pcfgs (F := F) 0).spec ⊆ S := arrs_sub spec0 (by decide)
set_option backward.isDefEq.respectTransparency.types false in
theorem pre0 (c : Dev nD) : iprop(StableHlo.held (c : Thread nD τ) S (A0 m c) ∗ Eo (F := F) c) ⊢ (R0 m).pre c := by
  have h := RegionSeg.ofHeldIn_pre (pcs := pcfgs (F := F)) (a := adm) (pdats := pdats m) (ι := ()) (defs₀ := defs₀) (𝒱₀ := Variants.none) (L := L) (lv := lv) (p := 0)
    (D := fun _ => 0) (sub0 (F := F)) (X := fun _ => iprop(emp)) (Y := fun _ => iprop(emp)) (kit := launch0.toP) (hK := rfl)
    (hbody := fun c => body_obligation0 (A0 m) c) (howed := fun _ _ => rfl) (hrec := fun _ => rfl)
    (hshare := fun c w => by unfold Dat.share; split <;> rfl) (hin := fun c => enter spec0 c) (hout := fun c => leave spec0 c)
    (b := fun _ => 0) (hcut := cut 0) (R := fun _ => iprop(emp)) (W := A0 m) (hW := fun _ _ => rfl) c
  refine .trans ?_ h
  iintro ⟨H, Ho⟩
  isplitl [H]; · iexact H
  isplitl [Ho]; · iexact Ho
  isplitr <;> iempintro
set_option backward.isDefEq.respectTransparency.types false in
theorem post0 (c : Dev nD) : (R0 m).post c ⊢ iprop(StableHlo.held (c : Thread nD τ) S (A1 m c) ∗ Eo (F := F) c) := by
  have h := RegionSeg.ofHeldIn_post (pcs := pcfgs (F := F)) (a := adm) (pdats := pdats m) (ι := ()) (defs₀ := defs₀) (𝒱₀ := Variants.none) (L := L) (lv := lv) (p := 0)
    (D := fun _ => 0) (sub0 (F := F)) (X := fun _ => iprop(emp)) (Y := fun _ => iprop(emp)) (kit := launch0.toP) (hK := rfl)
    (hbody := fun c => body_obligation0 (A0 m) c) (howed := fun _ _ => rfl) (hrec := fun _ => rfl)
    (hshare := fun c w => by unfold Dat.share; split <;> rfl) (hin := fun c => enter spec0 c) (hout := fun c => leave spec0 c)
    (b := fun _ => 0) (hcut := cut 0) (R := fun _ => iprop(emp)) (W := A0 m) (hW := fun _ _ => rfl) c
  refine .trans h ?_
  change iprop(StableHlo.held (c : Thread nD τ) S (A1 m c) ∗ (Eo (F := F) c ∗ emp ∗ emp)) ⊢ _
  iintro ⟨H, Ho, -⟩
  isplitl [H]; · iexact H
  iexact Ho

/-- So are the arrays of the statistics' call. -/
theorem sub1 : Pipeline.arrRefs (τ := τ) (pcfgs (F := F) 1).spec ⊆ S := arrs_sub spec1 (by decide)
set_option backward.isDefEq.respectTransparency.types false in
theorem pre1 (c : Dev nD) : iprop(StableHlo.held (c : Thread nD τ) S (A1 m c) ∗ Eo (F := F) c) ⊢ (R1 m).pre c := by
  have h := RegionSeg.ofHeldIn_pre (pcs := pcfgs (F := F)) (a := adm) (pdats := pdats m) (ι := ()) (defs₀ := defs₀) (𝒱₀ := Variants.none) (L := L) (lv := lv) (p := 1)
    (D := fun _ => 0) (sub1 (F := F)) (X := fun _ => iprop(emp)) (Y := fun _ => iprop(emp)) (kit := launch1.toP) (hK := rfl)
    (hbody := fun c => body_obligation1 (A1 m) c) (howed := fun _ _ => rfl) (hrec := fun _ => rfl)
    (hshare := fun c w => by unfold Dat.share; split <;> rfl) (hin := fun c => enter spec1 c) (hout := fun c => leave spec1 c)
    (b := fun _ => 0) (hcut := cut 1) (R := fun _ => iprop(emp)) (W := A1 m) (hW := fun _ _ => rfl) c
  refine .trans ?_ h
  iintro ⟨H, Ho⟩
  isplitl [H]; · iexact H
  isplitl [Ho]; · iexact Ho
  isplitr <;> iempintro
set_option backward.isDefEq.respectTransparency.types false in
theorem post1 (c : Dev nD) : (R1 m).post c ⊢ iprop(StableHlo.held (c : Thread nD τ) S (A2 m c) ∗ Eo (F := F) c) := by
  have h := RegionSeg.ofHeldIn_post (pcs := pcfgs (F := F)) (a := adm) (pdats := pdats m) (ι := ()) (defs₀ := defs₀) (𝒱₀ := Variants.none) (L := L) (lv := lv) (p := 1)
    (D := fun _ => 0) (sub1 (F := F)) (X := fun _ => iprop(emp)) (Y := fun _ => iprop(emp)) (kit := launch1.toP) (hK := rfl)
    (hbody := fun c => body_obligation1 (A1 m) c) (howed := fun _ _ => rfl) (hrec := fun _ => rfl)
    (hshare := fun c w => by unfold Dat.share; split <;> rfl) (hin := fun c => enter spec1 c) (hout := fun c => leave spec1 c)
    (b := fun _ => 0) (hcut := cut 1) (R := fun _ => iprop(emp)) (W := A1 m) (hW := fun _ _ => rfl) c
  refine .trans h ?_
  change iprop(StableHlo.held (c : Thread nD τ) S (A2 m c) ∗ (Eo (F := F) c ∗ emp ∗ emp)) ⊢ _
  iintro ⟨H, Ho, -⟩
  isplitl [H]; · iexact H
  iexact Ho

/-- So are the arrays of the combining call. -/
theorem sub2 : Pipeline.arrRefs (τ := τ) (pcfgs (F := F) 2).spec ⊆ S := arrs_sub spec2 (by decide)
set_option backward.isDefEq.respectTransparency.types false in
theorem pre2 (c : Dev nD) : iprop(StableHlo.held (c : Thread nD τ) S (A2 m c) ∗ Eo (F := F) c) ⊢ (R2 m).pre c := by
  have h := RegionSeg.ofHeldIn_pre (pcs := pcfgs (F := F)) (a := adm) (pdats := pdats m) (ι := ()) (defs₀ := defs₀) (𝒱₀ := Variants.none) (L := L) (lv := lv) (p := 2)
    (D := fun _ => 0) (sub2 (F := F)) (X := fun _ => iprop(emp)) (Y := fun _ => iprop(emp)) (kit := launch2.toP) (hK := rfl)
    (hbody := fun c => body_obligation2 (A2 m) c) (howed := fun _ _ => rfl) (hrec := fun _ => rfl)
    (hshare := fun c w => by unfold Dat.share; split <;> rfl) (hin := fun c => enter spec2 c) (hout := fun c => leave spec2 c)
    (b := fun _ => 0) (hcut := cut 2) (R := fun _ => iprop(emp)) (W := A2 m) (hW := fun _ _ => rfl) c
  refine .trans ?_ h
  iintro ⟨H, Ho⟩
  isplitl [H]; · iexact H
  isplitl [Ho]; · iexact Ho
  isplitr <;> iempintro
set_option backward.isDefEq.respectTransparency.types false in
theorem post2 (c : Dev nD) : (R2 m).post c ⊢ iprop(StableHlo.held (c : Thread nD τ) S (A3 m c) ∗ Eo (F := F) c) := by
  have h := RegionSeg.ofHeldIn_post (pcs := pcfgs (F := F)) (a := adm) (pdats := pdats m) (ι := ()) (defs₀ := defs₀) (𝒱₀ := Variants.none) (L := L) (lv := lv) (p := 2)
    (D := fun _ => 0) (sub2 (F := F)) (X := fun _ => iprop(emp)) (Y := fun _ => iprop(emp)) (kit := launch2.toP) (hK := rfl)
    (hbody := fun c => body_obligation2 (A2 m) c) (howed := fun _ _ => rfl) (hrec := fun _ => rfl)
    (hshare := fun c w => by unfold Dat.share; split <;> rfl) (hin := fun c => enter spec2 c) (hout := fun c => leave spec2 c)
    (b := fun _ => 0) (hcut := cut 2) (R := fun _ => iprop(emp)) (W := A2 m) (hW := fun _ _ => rfl) c
  refine .trans h ?_
  change iprop(StableHlo.held (c : Thread nD τ) S (A3 m c) ∗ (Eo (F := F) c ∗ emp ∗ emp)) ⊢ _
  iintro ⟨H, Ho, -⟩
  isplitl [H]; · iexact H
  iexact Ho

/-- So are the arrays of the probabilities' call. -/
theorem sub3 : Pipeline.arrRefs (τ := τ) (pcfgs (F := F) 3).spec ⊆ S := arrs_sub spec3 (by decide)
set_option backward.isDefEq.respectTransparency.types false in
theorem pre3 (c : Dev nD) : iprop(StableHlo.held (c : Thread nD τ) S (A3 m c) ∗ Eo (F := F) c) ⊢ (R3 m).pre c := by
  have h := RegionSeg.ofHeldIn_pre (pcs := pcfgs (F := F)) (a := adm) (pdats := pdats m) (ι := ()) (defs₀ := defs₀) (𝒱₀ := Variants.none) (L := L) (lv := lv) (p := 3)
    (D := fun _ => 0) (sub3 (F := F)) (X := fun _ => iprop(emp)) (Y := fun _ => iprop(emp)) (kit := launch3.toP) (hK := rfl)
    (hbody := fun c => body_obligation3 (A3 m) c) (howed := fun _ _ => rfl) (hrec := fun _ => rfl)
    (hshare := fun c w => by unfold Dat.share; split <;> rfl) (hin := fun c => enter spec3 c) (hout := fun c => leave spec3 c)
    (b := fun _ => 0) (hcut := cut 3) (R := fun _ => iprop(emp)) (W := A3 m) (hW := fun _ _ => rfl) c
  refine .trans ?_ h
  iintro ⟨H, Ho⟩
  isplitl [H]; · iexact H
  isplitl [Ho]; · iexact Ho
  isplitr <;> iempintro
set_option backward.isDefEq.respectTransparency.types false in
theorem post3 (c : Dev nD) : (R3 m).post c ⊢ iprop(StableHlo.held (c : Thread nD τ) S (A4 m c) ∗ Eo (F := F) c) := by
  have h := RegionSeg.ofHeldIn_post (pcs := pcfgs (F := F)) (a := adm) (pdats := pdats m) (ι := ()) (defs₀ := defs₀) (𝒱₀ := Variants.none) (L := L) (lv := lv) (p := 3)
    (D := fun _ => 0) (sub3 (F := F)) (X := fun _ => iprop(emp)) (Y := fun _ => iprop(emp)) (kit := launch3.toP) (hK := rfl)
    (hbody := fun c => body_obligation3 (A3 m) c) (howed := fun _ _ => rfl) (hrec := fun _ => rfl)
    (hshare := fun c w => by unfold Dat.share; split <;> rfl) (hin := fun c => enter spec3 c) (hout := fun c => leave spec3 c)
    (b := fun _ => 0) (hcut := cut 3) (R := fun _ => iprop(emp)) (W := A3 m) (hW := fun _ _ => rfl) c
  refine .trans h ?_
  change iprop(StableHlo.held (c : Thread nD τ) S (A4 m c) ∗ (Eo (F := F) c ∗ emp ∗ emp)) ⊢ _
  iintro ⟨H, Ho, -⟩
  isplitl [H]; · iexact H
  iexact Ho

/-- The host stretch after the calls. -/
def hostSeg : HostSeg (Ix := Unit) (Name := ℕ) (U := UR sig nD τ) (Lvl := ℕ) (pcfgs (F := F)) defs₀ Variants.none L lv :=
  HostSeg.ofOps _ _ _ _ _ S hostOps4
    (fun op h => Pipeline.sub_ucRefs op ((List.forall_iff_forall_mem.mp hostOps4_sub) op h))
    (fun op h => (List.forall_iff_forall_mem.mp hostOps4_fresh) op h) (A4 m) Eo

/-- The program's items. -/
abbrev items : List (Seg (pcfgs (F := F)) adm (pdats m) () defs₀ Variants.none L lv) :=
  [.region (R0 m), .region (R1 m), .region (R2 m), .region (R3 m), .host (hostSeg m)]

set_option backward.isDefEq.respectTransparency.types false in
/-- The whole run: from any memory with every counter at zero the program terminates under any fair schedule, each unscoped
    buffer ends at the host stretch's values of what the four calls leave, and every counter is at zero. -/
theorem run_whole (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = StableHlo.after hostOps4 (A4 m c) (Proc.devRef .tc b)) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          Prog.lift (.customCall (Pipeline.entry 0) ()), Prog.lift (.customCall (Pipeline.entry 1) ()),
          Prog.lift (.customCall (Pipeline.entry 2) ()), Prog.lift (.customCall (Pipeline.entry 3) ()),
          StableHlo.seq hostOps4] from rfl]
      dsimp (config := { failIfUnchanged := false }) only
      exact .rfl)
    (fun c => by simp only [items, Seg.pipes_host, Seg.pipes_region, Seg.pipes_nil]; decide) (fun _ => 0) hL (fun _ => iprop(emp))
    (initOf (Pipeline.cells cfgs cellOf_inj) (Pipeline.launchToks cfgs cellOf_inj)) ?_
    (T₀ := fun c => iprop(StableHlo.held (c : Thread nD τ) S (A0 m c) ∗ Eo (F := F) c))
    (Tₙ := fun c => StableHlo.held (c : Thread nD τ) S (StableHlo.after hostOps4 (A4 m c)))
    (hch := fun c => ⟨pre0 m c, (post0 m c).trans (pre1 m c), (post1 m c).trans (pre2 m c), (post2 m c).trans (pre3 m c), post3 m c, .rfl⟩)
    (hinit := ?_)
    (QY := fun c s => ∀ b : Ref sig .tc, b.isScoped = false →
      s.mem ((c.tc : Thread nD τ).loc b) = StableHlo.after hostOps4 (A4 m c) (Proc.devRef .tc b))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) S (A0 m c) ∗ Eo c) : sProp 𝕄) :=
      bigSep_mono fun c _ => by
        rw [← Pipeline.unscopedBufs_held (Ix := Unit) (Name := ℕ) (U := UR sig nD τ) (Lvl := ℕ) c (A0 m c)]
        change iprop(unscopedBufs c (fun b => A0 m c (Proc.devRef .tc b)) ∗ unscopedSems0 c ∗ owes (c.tc : Thread nD τ) (0 : CellTallies nD τ sig Unit) ∅
          ∗ Pipeline.launchCred (fun _ => 0) c ∗ prngReg c (ρ c) ∗ emp) ⊢ iprop(unscopedBufs c (fun b => A0 m c (Proc.devRef .tc b)) ∗ Eo c)
        iintro ⟨H, -, Ho, -⟩
        isplitl [H]; · iexact H
        iexists ∅; iexact Ho
    iintro ⟨H, -⟩
    imodintro
    iapply hsplit; iexact H
  · unfold StableHlo.held
    iintro ⟨Hh, HSI⟩
    ihave Hr := (pointsTo_read_all S (fun b => ((c : Thread nD τ).1, b)) (StableHlo.after hostOps4 (A4 m c)) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

end Cert.KernelIdeal.Body
-- ==== Proof.Frames.lean ====
/- The three frame claims: every run of the kernel, of its ideal reading and of the reference ends with the argument
   as it was and no semaphore raised. -/
module

public import proofs.«01_k».proof.Proof.RefRun
public import proofs.«01_k».proof.Proof.Whole
public import proofs.«01_k».proof.Proof.KernelWhole

@[expose] public section

noncomputable section

open Idealize.ShloMosaic Idealize.ShloMosaic.TcCoe Idealize.SL.Sem

namespace Cert.ReferenceIdeal.Ref

open Cert.ReferenceIdeal Cert.ReferenceIdeal.Gen

variable {F : FTy → Type} [FloatOps F]

/-- The reference's line writes its argument nowhere. -/
theorem arg0_kept (V : Valuation τ sig (Elt F)) :
    StableHlo.after (ops (F := F)) V (Proc.devRef .tc main_arg0) = V (Proc.devRef .tc main_arg0) := by
  rw [ops, parts]
  simp only [List.flatten_cons, List.flatten_nil, List.append_nil, StableHlo.after_append]
  rw [StableHlo.after_unwritten entropy0_W entropy0_writes (by decide)]
  rw [StableHlo.after_unwritten soft0_W soft0_writes (by decide)]
  rw [StableHlo.after_unwritten argmax0_W argmax0_writes (by decide)]
  rw [StableHlo.after_unwritten noise0_W noise0_writes (by decide)]
  rw [StableHlo.after_unwritten uniform0_W uniform0_writes (by decide)]
  rw [StableHlo.after_unwritten inject5_W inject5_writes (by decide)]
  rw [StableHlo.after_unwritten round20_W round20_writes (by decide)]
  rw [StableHlo.after_unwritten round19_W round19_writes (by decide)]
  rw [StableHlo.after_unwritten round18_W round18_writes (by decide)]
  rw [StableHlo.after_unwritten round17_W round17_writes (by decide)]
  rw [StableHlo.after_unwritten inject4_W inject4_writes (by decide)]
  rw [StableHlo.after_unwritten round16_W round16_writes (by decide)]
  rw [StableHlo.after_unwritten round15_W round15_writes (by decide)]
  rw [StableHlo.after_unwritten round14_W round14_writes (by decide)]
  rw [StableHlo.after_unwritten round13_W round13_writes (by decide)]
  rw [StableHlo.after_unwritten inject3_W inject3_writes (by decide)]
  rw [StableHlo.after_unwritten round12_W round12_writes (by decide)]
  rw [StableHlo.after_unwritten round11_W round11_writes (by decide)]
  rw [StableHlo.after_unwritten round10_W round10_writes (by decide)]
  rw [StableHlo.after_unwritten round9_W round9_writes (by decide)]
  rw [StableHlo.after_unwritten inject2_W inject2_writes (by decide)]
  rw [StableHlo.after_unwritten round8_W round8_writes (by decide)]
  rw [StableHlo.after_unwritten round7_W round7_writes (by decide)]
  rw [StableHlo.after_unwritten round6_W round6_writes (by decide)]
  rw [StableHlo.after_unwritten round5_W round5_writes (by decide)]
  rw [StableHlo.after_unwritten inject1_W inject1_writes (by decide)]
  rw [StableHlo.after_unwritten round4_W round4_writes (by decide)]
  rw [StableHlo.after_unwritten round3_W round3_writes (by decide)]
  rw [StableHlo.after_unwritten round2_W round2_writes (by decide)]
  rw [StableHlo.after_unwritten round1_W round1_writes (by decide)]
  rw [StableHlo.after_unwritten init0_W init0_writes (by decide)]
  rw [StableHlo.after_unwritten keys0_W keys0_writes (by decide)]
  rw [StableHlo.after_unwritten host0_W host0_writes (by decide)]

/-- Every run of the reference ends with the argument as it was and no semaphore raised. -/
theorem frame (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem (c.tc.loc main_arg0) = m (c.tc.loc main_arg0)) ∧ r.2.sem = fun _ => 0 :=
  (θ_run _ _ _).mono (fun r hr => ⟨fun c => (hr.1 c main_arg0).trans (arg0_kept _), hr.2⟩) (run_line m ρ)

end Cert.ReferenceIdeal.Ref

namespace Cert.KernelIdeal.Body

open Cert.KernelIdeal Cert.KernelIdeal.Gen

variable {F : FTy → Type} [FloatOps F]

/-- A buffer that is no output of the table's call is kept by it. -/
theorem keep0 (V : Dev nD → Valuation τ sig (Elt F)) (c : Dev nD) (r : Ref sig .tc)
    (h : ∀ w, Pipeline.arrRef spec0 w = r → (cfg0.win w).isOut = false) :
    Pipeline.afterRegion (dat0 V c) (V c) (Proc.devRef .tc r) = V c (Proc.devRef .tc r) :=
  Pipeline.afterRegion_keeps _ _ launch0.win.arr_inj (fun _ => rfl) r h

/-- A buffer that is no output of the statistics' call is kept by it. -/
theorem keep1 (V : Dev nD → Valuation τ sig (Elt F)) (c : Dev nD) (r : Ref sig .tc)
    (h : ∀ w, Pipeline.arrRef spec1 w = r → (cfg1.win w).isOut = false) :
    Pipeline.afterRegion (dat1 V c) (V c) (Proc.devRef .tc r) = V c (Proc.devRef .tc r) :=
  Pipeline.afterRegion_keeps _ _ launch1.win.arr_inj (fun _ => rfl) r h

/-- A buffer that is no output of the combining call is kept by it. -/
theorem keep2 (V : Dev nD → Valuation τ sig (Elt F)) (c : Dev nD) (r : Ref sig .tc)
    (h : ∀ w, Pipeline.arrRef spec2 w = r → (cfg2.win w).isOut = false) :
    Pipeline.afterRegion (dat2 V c) (V c) (Proc.devRef .tc r) = V c (Proc.devRef .tc r) :=
  Pipeline.afterRegion_keeps _ _ launch2.win.arr_inj (fun _ => rfl) r h

/-- A buffer that is no output of the probabilities' call is kept by it. -/
theorem keep3 (V : Dev nD → Valuation τ sig (Elt F)) (c : Dev nD) (r : Ref sig .tc)
    (h : ∀ w, Pipeline.arrRef spec3 w = r → (cfg3.win w).isOut = false) :
    Pipeline.afterRegion (dat3 V c) (V c) (Proc.devRef .tc r) = V c (Proc.devRef .tc r) :=
  Pipeline.afterRegion_keeps _ _ launch3.win.arr_inj (fun _ => rfl) r h

/-- No region and no host operation of the program writes its argument. -/
theorem arg0_kept (m : (ℓ : Loc nD τ sig) → Buf (Elt F) ℓ) (c : Dev nD) :
    StableHlo.after hostOps4 (A4 m c) (Proc.devRef .tc main_arg0) = m (c.tc.loc main_arg0) := by
  rw [StableHlo.after_of_writes_sub hostOps4 _ hostOps4_writes (by decide)]
  rw [A4, keep3 _ _ _ (by decide), A3, keep2 _ _ _ (by decide), A2, keep1 _ _ _ (by decide), A1, keep0 _ _ _ (by decide)]
  rfl

/-- Every run ends with the argument as it was and no semaphore raised. -/
theorem frame (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem (c.tc.loc main_arg0) = m (c.tc.loc main_arg0)) ∧ r.2.sem = fun _ => 0 :=
  (θ_run _ _ _).mono (fun r hr => ⟨fun c => (hr.1 c main_arg0 (by decide)).trans (arg0_kept m c), hr.2⟩) (run_whole m ρ)

end Cert.KernelIdeal.Body

namespace Cert.Kernel.Body

open Cert.Kernel Cert.Kernel.Gen

variable {F : FTy → Type} [FloatOps F]

/-- A buffer that is no output of the table's call is kept by it. -/
theorem keep0 (V : Dev nD → Valuation τ sig (Elt F)) (c : Dev nD) (r : Ref sig .tc)
    (h : ∀ w, Pipeline.arrRef spec0 w = r → (cfg0.win w).isOut = false) :
    Pipeline.afterRegion (dat0 V c) (V c) (Proc.devRef .tc r) = V c (Proc.devRef .tc r) :=
  Pipeline.afterRegion_keeps _ _ launch0.win.arr_inj (fun _ => rfl) r h

/-- A buffer that is no output of the statistics' call is kept by it. -/
theorem keep1 (V : Dev nD → Valuation τ sig (Elt F)) (c : Dev nD) (r : Ref sig .tc)
    (h : ∀ w, Pipeline.arrRef spec1 w = r → (cfg1.win w).isOut = false) :
    Pipeline.afterRegion (dat1 V c) (V c) (Proc.devRef .tc r) = V c (Proc.devRef .tc r) :=
  Pipeline.afterRegion_keeps _ _ launch1.win.arr_inj (fun _ => rfl) r h

/-- A buffer that is no output of the combining call is kept by it. -/
theorem keep2 (V : Dev nD → Valuation τ sig (Elt F)) (c : Dev nD) (r : Ref sig .tc)
    (h : ∀ w, Pipeline.arrRef spec2 w = r → (cfg2.win w).isOut = false) :
    Pipeline.afterRegion (dat2 V c) (V c) (Proc.devRef .tc r) = V c (Proc.devRef .tc r) :=
  Pipeline.afterRegion_keeps _ _ launch2.win.arr_inj (fun _ => rfl) r h

/-- A buffer that is no output of the probabilities' call is kept by it. -/
theorem keep3 (V : Dev nD → Valuation τ sig (Elt F)) (c : Dev nD) (r : Ref sig .tc)
    (h : ∀ w, Pipeline.arrRef spec3 w = r → (cfg3.win w).isOut = false) :
    Pipeline.afterRegion (dat3 V c) (V c) (Proc.devRef .tc r) = V c (Proc.devRef .tc r) :=
  Pipeline.afterRegion_keeps _ _ launch3.win.arr_inj (fun _ => rfl) r h

/-- No region and no host operation of the program writes its argument. -/
theorem arg0_kept (m : (ℓ : Loc nD τ sig) → Buf (Elt F) ℓ) (c : Dev nD) :
    StableHlo.after hostOps4 (A4 m c) (Proc.devRef .tc main_arg0) = m (c.tc.loc main_arg0) := by
  rw [StableHlo.after_of_writes_sub hostOps4 _ hostOps4_writes (by decide)]
  rw [A4, keep3 _ _ _ (by decide), A3, keep2 _ _ _ (by decide), A2, keep1 _ _ _ (by decide), A1, keep0 _ _ _ (by decide)]
  rfl

/-- Every run ends with the argument as it was and no semaphore raised. -/
theorem frame (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem (c.tc.loc main_arg0) = m (c.tc.loc main_arg0)) ∧ r.2.sem = fun _ => 0 :=
  (θ_run _ _ _).mono (fun r hr => ⟨fun c => (hr.1 c main_arg0 (by decide)).trans (arg0_kept m c), hr.2⟩) (run_whole m ρ)

end Cert.Kernel.Body

end
-- ==== Proof.Draw.lean ====
/- The random words: the twenty rounds of the threefry hash on a pair of 32-bit words under the key (0, 42), and the
   Gumbel noise made of a hashed word, over the extended reals. -/
module

public import Idealize.ShloMosaic.PureOps.Ideal
public import Idealize.ShloMosaic.PureOps.Ideal.Laws
public import Idealize.ShloMosaic.Lib.IdealHost

@[expose] public section

namespace Cert.Draw

open Idealize.ShloMosaic

noncomputable section

/-- A word turned left by `a` bits, `b` being what is left of its 32. -/
def rot (x a b : BitVec 32) : BitVec 32 := (x <<< a) ||| (x >>> b)

/-- One round: the first word takes the sum, the second is turned and takes the exclusive or with the sum. -/
def rnd (a b : BitVec 32) (p : BitVec 32 × BitVec 32) : BitVec 32 × BitVec 32 :=
  (p.1 + p.2, (p.1 + p.2) ^^^ rot p.2 a b)

/-- Two key words added to the pair. -/
def inj (k k' : BitVec 32) (p : BitVec 32 × BitVec 32) : BitVec 32 × BitVec 32 := (p.1 + k, p.2 + k')

/-- Four rounds with the odd groups' turns. -/
def odd4 (p : BitVec 32 × BitVec 32) : BitVec 32 × BitVec 32 :=
  rnd 6 26 (rnd 26 6 (rnd 15 17 (rnd 13 19 p)))
/-- Four rounds with the even groups' turns. -/
def even4 (p : BitVec 32 × BitVec 32) : BitVec 32 × BitVec 32 :=
  rnd 24 8 (rnd 16 16 (rnd 29 3 (rnd 17 15 p)))

/-- The pair after the first group and its key words. -/
def g1 (p : BitVec 32 × BitVec 32) := inj 42 466689009 (odd4 p)
/-- The pair after the second group and its key words. -/
def g2 (p : BitVec 32 × BitVec 32) := inj 466689008 2 (even4 p)
/-- The pair after the third group and its key words. -/
def g3 (p : BitVec 32 × BitVec 32) := inj 0 45 (odd4 p)
/-- The pair after the fourth group and its key words. -/
def g4 (p : BitVec 32 × BitVec 32) := inj 42 466689012 (even4 p)
/-- The pair after the fifth group and its key words. -/
def g5 (p : BitVec 32 × BitVec 32) := inj 466689008 5 (odd4 p)

/-- The hashed word of the counter `n`. -/
def word (n : BitVec 32) : BitVec 32 :=
  let q := g5 (g4 (g3 (g2 (g1 (0#32, n + 42)))))
  q.1 ^^^ q.2

/-- The uniform number of a hashed word, raised to the least normal number. -/
def unif (w : BitVec 32) : EReal :=
  max (Ideal.ofBits .f32 ((w >>> (9 : BitVec 32)) ||| 1065353216) - 1) (Ideal.ofBits .f32 0x00800000#32)

/-- The Gumbel noise of a hashed word. -/
def gum (w : BitVec 32) : EReal := - Ideal.log (- Ideal.log (unif w))

/-- The least normal number is above zero. -/
theorem tiny_nonneg : (0 : EReal) ≤ Ideal.ofBits .f32 0x00800000#32 := by
  have h : Ideal.ofBits .f32 0x00800000#32 = ((8388608 * (2 ^ 149)⁻¹ : ℝ) : EReal) := by
    simp [Ideal.ofBits, Ideal.ieee]
  rw [h]
  exact EReal.coe_nonneg.2 (by positivity)

/-- Raising to zero before raising to the least normal number changes nothing. -/
theorem max_zero_tiny (v : EReal) : max (max 0 v) (Ideal.ofBits .f32 0x00800000#32) = max v (Ideal.ofBits .f32 0x00800000#32) := by
  rw [max_comm 0 v, max_assoc, max_eq_right tiny_nonneg]

/-- One round on arrays, read at an index: `X` holds the second word, `S` the sum of the two. -/
theorem step {s : Shape} {S X X' S' : IVec s 32} {j : s.Idx} {p : BitVec 32 × BitVec 32} {a b : BitVec 32}
    (h : X j = p.2 ∧ S j = p.1 + p.2) (hX' : X' j = S j ^^^ rot (X j) a b) (hS' : S' j = S j + X' j) :
    X' j = (rnd a b p).2 ∧ S' j = (rnd a b p).1 + (rnd a b p).2 := by
  have e : X' j = (rnd a b p).2 := by rw [hX', h.1, h.2]; rfl
  exact ⟨e, by rw [hS', e, h.2]; rfl⟩

/-- One round and the key words after it. -/
theorem stepInj {s : Shape} {S X X' S' : IVec s 32} {j : s.Idx} {p : BitVec 32 × BitVec 32} {a b k k' : BitVec 32}
    (h : X j = p.2 ∧ S j = p.1 + p.2) (hX' : X' j = (S j ^^^ rot (X j) a b) + k') (hS' : S' j = (S j + k) + X' j) :
    X' j = (inj k k' (rnd a b p)).2 ∧ S' j = (inj k k' (rnd a b p)).1 + (inj k k' (rnd a b p)).2 := by
  have e : X' j = (inj k k' (rnd a b p)).2 := by rw [hX', h.1, h.2]; rfl
  exact ⟨e, by rw [hS', e, h.2]; rfl⟩

end

end Cert.Draw
-- ==== Proof.RefLines.lean ====
/- Two patterns of host lines read at what they leave: a round of the hash (nine operations) and the key words after a
   group of rounds (seven). -/
module

public import proofs.«01_k».proof.Proof.RefRun
public import proofs.«01_k».proof.Proof.Draw
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.StableHlo
open Cert.Draw

variable {F : FTy → Type} [FloatOps F]

/-- What a round's nine operations leave at the sum and at the second word. -/
theorem nine_reads {s a m c t u d v w o x : Ref sig .tc} (hn : [s, a, m, c, t, u, d, v, w, o, x].Nodup)
    (f1 : s.ty.Contents (Elt F) → a.ty.Contents (Elt F) → m.ty.Contents (Elt F)) (v2 : c.ty.Contents (Elt F))
    (f3 : c.ty.Contents (Elt F) → t.ty.Contents (Elt F)) (f4 : a.ty.Contents (Elt F) → t.ty.Contents (Elt F) → u.ty.Contents (Elt F))
    (v5 : d.ty.Contents (Elt F)) (f6 : d.ty.Contents (Elt F) → v.ty.Contents (Elt F))
    (f7 : a.ty.Contents (Elt F) → v.ty.Contents (Elt F) → w.ty.Contents (Elt F))
    (f8 : u.ty.Contents (Elt F) → w.ty.Contents (Elt F) → o.ty.Contents (Elt F))
    (f9 : m.ty.Contents (Elt F) → o.ty.Contents (Elt F) → x.ty.Contents (Elt F))
    (h1 h2 h3 h4 h5 h6 h7 h8 h9 h10 h11 h12 h13 h14 h15 h16 h17 h18 h19 h20 h21)
    (V : Valuation τ sig (Elt F)) :
    StableHlo.after [StableHlo.binary (τ := τ) s a m f1 h1 h2 h3, StableHlo.nullary c v2 h4, StableHlo.unary c t f3 h5 h6,
        StableHlo.binary a t u f4 h7 h8 h9, StableHlo.nullary d v5 h10, StableHlo.unary d v f6 h11 h12,
        StableHlo.binary a v w f7 h13 h14 h15, StableHlo.binary u w o f8 h16 h17 h18, StableHlo.binary m o x f9 h19 h20 h21] V (Proc.devRef .tc m)
          = f1 (V (Proc.devRef .tc s)) (V (Proc.devRef .tc a))
    ∧ StableHlo.after [StableHlo.binary (τ := τ) s a m f1 h1 h2 h3, StableHlo.nullary c v2 h4, StableHlo.unary c t f3 h5 h6,
        StableHlo.binary a t u f4 h7 h8 h9, StableHlo.nullary d v5 h10, StableHlo.unary d v f6 h11 h12,
        StableHlo.binary a v w f7 h13 h14 h15, StableHlo.binary u w o f8 h16 h17 h18, StableHlo.binary m o x f9 h19 h20 h21] V (Proc.devRef .tc x)
          = f9 (f1 (V (Proc.devRef .tc s)) (V (Proc.devRef .tc a)))
              (f8 (f4 (V (Proc.devRef .tc a)) (f3 v2)) (f7 (V (Proc.devRef .tc a)) (f6 v5))) := by
  have hr := List.nodup_reverse.2 hn
  simp only [List.reverse_cons, List.reverse_nil, List.nil_append, List.cons_append, List.nodup_cons, List.mem_cons, not_or,
    List.not_mem_nil, not_false_eq_true, List.nodup_nil, and_true] at hn hr
  simp only [StableHlo.after_cons, StableHlo.after_nil]
  constructor <;>
    simp only [ne_eq, hn, hr, not_false_eq_true, nullary_result_ne', unary_result_ne', binary_result_ne', nullary_result', unary_result', binary_result']

/-- What the seven operations adding the key words leave at the two words. -/
theorem seven_reads {k p s m l q x t c u y : Ref sig .tc} (hn : [k, p, s, m, l, q, x, t, c, u, y].Nodup)
    (f1 : k.ty.Contents (Elt F) → p.ty.Contents (Elt F)) (f2 : s.ty.Contents (Elt F) → p.ty.Contents (Elt F) → m.ty.Contents (Elt F))
    (f3 : l.ty.Contents (Elt F) → q.ty.Contents (Elt F)) (f4 : x.ty.Contents (Elt F) → q.ty.Contents (Elt F) → t.ty.Contents (Elt F))
    (v5 : c.ty.Contents (Elt F)) (f6 : c.ty.Contents (Elt F) → u.ty.Contents (Elt F))
    (f7 : t.ty.Contents (Elt F) → u.ty.Contents (Elt F) → y.ty.Contents (Elt F))
    (h1 h2 h3 h4 h5 h6 h7 h8 h9 h10 h11 h12 h13 h14 h15 h16)
    (V : Valuation τ sig (Elt F)) :
    StableHlo.after [StableHlo.unary (τ := τ) k p f1 h1 h2, StableHlo.binary s p m f2 h3 h4 h5, StableHlo.unary l q f3 h6 h7,
        StableHlo.binary x q t f4 h8 h9 h10, StableHlo.nullary c v5 h11, StableHlo.unary c u f6 h12 h13,
        StableHlo.binary t u y f7 h14 h15 h16] V (Proc.devRef .tc m)
          = f2 (V (Proc.devRef .tc s)) (f1 (V (Proc.devRef .tc k)))
    ∧ StableHlo.after [StableHlo.unary (τ := τ) k p f1 h1 h2, StableHlo.binary s p m f2 h3 h4 h5, StableHlo.unary l q f3 h6 h7,
        StableHlo.binary x q t f4 h8 h9 h10, StableHlo.nullary c v5 h11, StableHlo.unary c u f6 h12 h13,
        StableHlo.binary t u y f7 h14 h15 h16] V (Proc.devRef .tc y)
          = f7 (f4 (V (Proc.devRef .tc x)) (f3 (V (Proc.devRef .tc l)))) (f6 v5) := by
  have hr := List.nodup_reverse.2 hn
  simp only [List.reverse_cons, List.reverse_nil, List.nil_append, List.cons_append, List.nodup_cons, List.mem_cons, not_or,
    List.not_mem_nil, not_false_eq_true, List.nodup_nil, and_true] at hn hr
  simp only [StableHlo.after_cons, StableHlo.after_nil]
  constructor <;>
    simp only [ne_eq, hn, hr, not_false_eq_true, nullary_result_ne', unary_result_ne', binary_result_ne', nullary_result', unary_result', binary_result']

/-- The whole array that one word fills. -/
abbrev full (d : BitVec 32) : IVec S32x1000000 32 := broadcastInDim S32x1000000 ![] bcast_S_S32x1000000 (constantI S_ 32 d)

/-- A round on whole arrays, read at every index. -/
theorem rnd_arr {X0 X1 S Y : IVec S32x1000000 32} {p : S32x1000000.Idx → BitVec 32 × BitVec 32} {d e : BitVec 32}
    (hd : d.toNat < 32) (he : e.toNat < 32) (h : (∀ j, X0 j = (p j).1) ∧ ∀ j, X1 j = (p j).2)
    (hS : S = addi X0 X1) (hY : Y = xori (addi X0 X1) (ori (Host.shli X1 (full d)) (Host.shrui X1 (full e)))) :
    (∀ j, S j = (rnd d e (p j)).1) ∧ ∀ j, Y j = (rnd d e (p j)).2 := by
  have e1 : ∀ j, Host.shli X1 (full d) j = (p j).2 <<< d := fun j => by
    show (if d.toNat < 32 then X1 j <<< d else _) = _
    rw [if_pos hd, h.2]
  have e2 : ∀ j, Host.shrui X1 (full e) j = (p j).2 >>> e := fun j => by
    show (if e.toNat < 32 then X1 j >>> e else _) = _
    rw [if_pos he, h.2]
  refine ⟨fun j => ?_, fun j => ?_⟩
  · rw [hS]; show X0 j + X1 j = _; rw [h.1, h.2]; rfl
  · rw [hY]; show (X0 j + X1 j) ^^^ (Host.shli X1 (full d) j ||| Host.shrui X1 (full e) j) = _
    rw [h.1, h.2, e1, e2]; rfl

/-- The key words added on whole arrays, read at every index. -/
theorem inj_arr {X0 X1 S Y : IVec S32x1000000 32} {A B : IVec S_ 32} {p : S32x1000000.Idx → BitVec 32 × BitVec 32} {a b n k : BitVec 32}
    (hA : A = fun _ => a) (hB : B = fun _ => b) (hk : b + n = k) (h : (∀ j, X0 j = (p j).1) ∧ ∀ j, X1 j = (p j).2)
    (hS : S = addi X0 (broadcastInDim S32x1000000 ![] bcast_S_S32x1000000 A))
    (hY : Y = addi (addi X1 (broadcastInDim S32x1000000 ![] bcast_S_S32x1000000 B)) (full n)) :
    (∀ j, S j = (inj a k (p j)).1) ∧ ∀ j, Y j = (inj a k (p j)).2 := by
  subst hA hB
  refine ⟨fun j => ?_, fun j => ?_⟩
  · rw [hS]; show X0 j + a = _; rw [h.1]; rfl
  · rw [hY]; show (X1 j + b) + n = _
    rw [h.2, BitVec.add_assoc, hk]; rfl

/-- The buffers the hash leaves as they are and that are read in it or after it. -/
def keepL : List (Ref sig .tc) :=
  [main_v1, main_call0_v2, main_call0_v3, main_call0_v5, main_call0_v7, main_call0_call0_v1]

/-- Those buffers hold in `V` what they hold in `V₀`. -/
def Kept (V₀ V : Valuation τ sig (Elt F)) : Prop := ∀ r ∈ keepL, V (Proc.devRef .tc r) = V₀ (Proc.devRef .tc r)

/-- A line that writes none of them keeps them. -/
theorem Kept.after {V₀ V : Valuation τ sig (Elt F)} (h : Kept V₀ V) {ops : List (HloOp τ sig (Elt F))} (W : List (Ref sig .tc))
    (hW : ops.map HloOp.writes = W.map fun w => {Proc.devRef (τ := τ) .tc w}) (hd : ∀ r ∈ keepL, r ∉ W) :
    Kept V₀ (StableHlo.after ops V) := fun r hr =>
  (StableHlo.after_unwritten W hW (hd r hr) V).trans (h r hr)

/-- The three key words. -/
structure Keys (V : Valuation τ sig (Elt F)) : Prop where
  k0 : V (Proc.devRef .tc main_call0_v5) = fun _ => (0 : BitVec 32)
  k1 : V (Proc.devRef .tc main_call0_v7) = fun _ => (42 : BitVec 32)
  k2 : V (Proc.devRef .tc main_call0_call0_v1) = fun _ => (466689008 : BitVec 32)

/-- Two buffers hold the pair of words `p` gives at every index. -/
def Pair (V : Valuation τ sig (Elt F)) (a b : Ref sig .tc) (ha : a.ty.Contents (Elt F) = IVec S32x1000000 32)
    (hb : b.ty.Contents (Elt F) = IVec S32x1000000 32) (p : S32x1000000.Idx → BitVec 32 × BitVec 32) : Prop :=
  (∀ j, cast ha (V (Proc.devRef .tc a)) j = (p j).1) ∧ ∀ j, cast hb (V (Proc.devRef .tc b)) j = (p j).2

/-- Round 1 read off the line. -/
theorem round1_at {V₀ V : Valuation τ sig (Elt F)} {p : S32x1000000.Idx → BitVec 32 × BitVec 32}
    (h : Kept V₀ V ∧ Pair V main_call0_call0_v3 main_call0_call0_v5 rfl rfl p) :
    Kept V₀ (StableHlo.after round1 V) ∧ Pair (StableHlo.after round1 V) main_call0_call0_v6 main_call0_call0_v12 rfl rfl fun j => rnd 13 19 (p j) :=
  have e := nine_reads (by decide) _ _ _ _ _ _ _ _ _ _ _ _ _ _ _ _ _ _ _ _ _ _ _ _ _ _ _ _ _ _ V
  ⟨h.1.after _ round1_writes (by decide), rnd_arr (by decide) (by decide) h.2 e.1 e.2⟩

/-- Round 2 read off the line. -/
theorem round2_at {V₀ V : Valuation τ sig (Elt F)} {p : S32x1000000.Idx → BitVec 32 × BitVec 32}
    (h : Kept V₀ V ∧ Pair V main_call0_call0_v6 main_call0_call0_v12 rfl rfl p) :
    Kept V₀ (StableHlo.after round2 V) ∧ Pair (StableHlo.after round2 V) main_call0_call0_v13 main_call0_call0_v19 rfl rfl fun j => rnd 15 17 (p j) :=
  have e := nine_reads (by decide) _ _ _ _ _ _ _ _ _ _ _ _ _ _ _ _ _ _ _ _ _ _ _ _ _ _ _ _ _ _ V
  ⟨h.1.after _ round2_writes (by decide), rnd_arr (by decide) (by decide) h.2 e.1 e.2⟩

/-- Round 3 read off the line. -/
theorem round3_at {V₀ V : Valuation τ sig (Elt F)} {p : S32x1000000.Idx → BitVec 32 × BitVec 32}
    (h : Kept V₀ V ∧ Pair V main_call0_call0_v13 main_call0_call0_v19 rfl rfl p) :
    Kept V₀ (StableHlo.after round3 V) ∧ Pair (StableHlo.after round3 V) main_call0_call0_v20 main_call0_call0_v26 rfl rfl fun j => rnd 26 6 (p j) :=
  have e := nine_reads (by decide) _ _ _ _ _ _ _ _ _ _ _ _ _ _ _ _ _ _ _ _ _ _ _ _ _ _ _ _ _ _ V
  ⟨h.1.after _ round3_writes (by decide), rnd_arr (by decide) (by decide) h.2 e.1 e.2⟩

/-- Round 4 read off the line. -/
theorem round4_at {V₀ V : Valuation τ sig (Elt F)} {p : S32x1000000.Idx → BitVec 32 × BitVec 32}
    (h : Kept V₀ V ∧ Pair V main_call0_call0_v20 main_call0_call0_v26 rfl rfl p) :
    Kept V₀ (StableHlo.after round4 V) ∧ Pair (StableHlo.after round4 V) main_call0_call0_v27 main_call0_call0_v33 rfl rfl fun j => rnd 6 26 (p j) :=
  have e := nine_reads (by decide) _ _ _ _ _ _ _ _ _ _ _ _ _ _ _ _ _ _ _ _ _ _ _ _ _ _ _ _ _ _ V
  ⟨h.1.after _ round4_writes (by decide), rnd_arr (by decide) (by decide) h.2 e.1 e.2⟩

/-- The key words after round 4 read off the line. -/
theorem inject1_at {V₀ V : Valuation τ sig (Elt F)} (hk : Keys V₀) {p : S32x1000000.Idx → BitVec 32 × BitVec 32}
    (h : Kept V₀ V ∧ Pair V main_call0_call0_v27 main_call0_call0_v33 rfl rfl p) :
    Kept V₀ (StableHlo.after inject1 V) ∧ Pair (StableHlo.after inject1 V) main_call0_call0_v35 main_call0_call0_v39 rfl rfl fun j => inj 42 466689009 (p j) :=
  have e := seven_reads (by decide) _ _ _ _ _ _ _ _ _ _ _ _ _ _ _ _ _ _ _ _ _ _ _ V
  ⟨h.1.after _ inject1_writes (by decide),
    inj_arr ((h.1 main_call0_v7 (by decide)).trans hk.k1) ((h.1 main_call0_call0_v1 (by decide)).trans hk.k2) (by decide) h.2 e.1 e.2⟩

/-- Round 5 read off the line. -/
theorem round5_at {V₀ V : Valuation τ sig (Elt F)} {p : S32x1000000.Idx → BitVec 32 × BitVec 32}
    (h : Kept V₀ V ∧ Pair V main_call0_call0_v35 main_call0_call0_v39 rfl rfl p) :
    Kept V₀ (StableHlo.after round5 V) ∧ Pair (StableHlo.after round5 V) main_call0_call0_v40 main_call0_call0_v46 rfl rfl fun j => rnd 17 15 (p j) :=
  have e := nine_reads (by decide) _ _ _ _ _ _ _ _ _ _ _ _ _ _ _ _ _ _ _ _ _ _ _ _ _ _ _ _ _ _ V
  ⟨h.1.after _ round5_writes (by decide), rnd_arr (by decide) (by decide) h.2 e.1 e.2⟩

/-- Round 6 read off the line. -/
theorem round6_at {V₀ V : Valuation τ sig (Elt F)} {p : S32x1000000.Idx → BitVec 32 × BitVec 32}
    (h : Kept V₀ V ∧ Pair V main_call0_call0_v40 main_call0_call0_v46 rfl rfl p) :
    Kept V₀ (StableHlo.after round6 V) ∧ Pair (StableHlo.after round6 V) main_call0_call0_v47 main_call0_call0_v53 rfl rfl fun j => rnd 29 3 (p j) :=
  have e := nine_reads (by decide) _ _ _ _ _ _ _ _ _ _ _ _ _ _ _ _ _ _ _ _ _ _ _ _ _ _ _ _ _ _ V
  ⟨h.1.after _ round6_writes (by decide), rnd_arr (by decide) (by decide) h.2 e.1 e.2⟩

/-- Round 7 read off the line. -/
theorem round7_at {V₀ V : Valuation τ sig (Elt F)} {p : S32x1000000.Idx → BitVec 32 × BitVec 32}
    (h : Kept V₀ V ∧ Pair V main_call0_call0_v47 main_call0_call0_v53 rfl rfl p) :
    Kept V₀ (StableHlo.after round7 V) ∧ Pair (StableHlo.after round7 V) main_call0_call0_v54 main_call0_call0_v60 rfl rfl fun j => rnd 16 16 (p j) :=
  have e := nine_reads (by decide) _ _ _ _ _ _ _ _ _ _ _ _ _ _ _ _ _ _ _ _ _ _ _ _ _ _ _ _ _ _ V
  ⟨h.1.after _ round7_writes (by decide), rnd_arr (by decide) (by decide) h.2 e.1 e.2⟩

/-- Round 8 read off the line. -/
theorem round8_at {V₀ V : Valuation τ sig (Elt F)} {p : S32x1000000.Idx → BitVec 32 × BitVec 32}
    (h : Kept V₀ V ∧ Pair V main_call0_call0_v54 main_call0_call0_v60 rfl rfl p) :
    Kept V₀ (StableHlo.after round8 V) ∧ Pair (StableHlo.after round8 V) main_call0_call0_v61 main_call0_call0_v67 rfl rfl fun j => rnd 24 8 (p j) :=
  have e := nine_reads (by decide) _ _ _ _ _ _ _ _ _ _ _ _ _ _ _ _ _ _ _ _ _ _ _ _ _ _ _ _ _ _ V
  ⟨h.1.after _ round8_writes (by decide), rnd_arr (by decide) (by decide) h.2 e.1 e.2⟩

/-- The key words after round 8 read off the line. -/
theorem inject2_at {V₀ V : Valuation τ sig (Elt F)} (hk : Keys V₀) {p : S32x1000000.Idx → BitVec 32 × BitVec 32}
    (h : Kept V₀ V ∧ Pair V main_call0_call0_v61 main_call0_call0_v67 rfl rfl p) :
    Kept V₀ (StableHlo.after inject2 V) ∧ Pair (StableHlo.after inject2 V) main_call0_call0_v69 main_call0_call0_v73 rfl rfl fun j => inj 466689008 2 (p j) :=
  have e := seven_reads (by decide) _ _ _ _ _ _ _ _ _ _ _ _ _ _ _ _ _ _ _ _ _ _ _ V
  ⟨h.1.after _ inject2_writes (by decide),
    inj_arr ((h.1 main_call0_call0_v1 (by decide)).trans hk.k2) ((h.1 main_call0_v5 (by decide)).trans hk.k0) (by decide) h.2 e.1 e.2⟩

/-- Round 9 read off the line. -/
theorem round9_at {V₀ V : Valuation τ sig (Elt F)} {p : S32x1000000.Idx → BitVec 32 × BitVec 32}
    (h : Kept V₀ V ∧ Pair V main_call0_call0_v69 main_call0_call0_v73 rfl rfl p) :
    Kept V₀ (StableHlo.after round9 V) ∧ Pair (StableHlo.after round9 V) main_call0_call0_v74 main_call0_call0_v80 rfl rfl fun j => rnd 13 19 (p j) :=
  have e := nine_reads (by decide) _ _ _ _ _ _ _ _ _ _ _ _ _ _ _ _ _ _ _ _ _ _ _ _ _ _ _ _ _ _ V
  ⟨h.1.after _ round9_writes (by decide), rnd_arr (by decide) (by decide) h.2 e.1 e.2⟩

/-- Round 10 read off the line. -/
theorem round10_at {V₀ V : Valuation τ sig (Elt F)} {p : S32x1000000.Idx → BitVec 32 × BitVec 32}
    (h : Kept V₀ V ∧ Pair V main_call0_call0_v74 main_call0_call0_v80 rfl rfl p) :
    Kept V₀ (StableHlo.after round10 V) ∧ Pair (StableHlo.after round10 V) main_call0_call0_v81 main_call0_call0_v87 rfl rfl fun j => rnd 15 17 (p j) :=
  have e := nine_reads (by decide) _ _ _ _ _ _ _ _ _ _ _ _ _ _ _ _ _ _ _ _ _ _ _ _ _ _ _ _ _ _ V
  ⟨h.1.after _ round10_writes (by decide), rnd_arr (by decide) (by decide) h.2 e.1 e.2⟩

/-- Round 11 read off the line. -/
theorem round11_at {V₀ V : Valuation τ sig (Elt F)} {p : S32x1000000.Idx → BitVec 32 × BitVec 32}
    (h : Kept V₀ V ∧ Pair V main_call0_call0_v81 main_call0_call0_v87 rfl rfl p) :
    Kept V₀ (StableHlo.after round11 V) ∧ Pair (StableHlo.after round11 V) main_call0_call0_v88 main_call0_call0_v94 rfl rfl fun j => rnd 26 6 (p j) :=
  have e := nine_reads (by decide) _ _ _ _ _ _ _ _ _ _ _ _ _ _ _ _ _ _ _ _ _ _ _ _ _ _ _ _ _ _ V
  ⟨h.1.after _ round11_writes (by decide), rnd_arr (by decide) (by decide) h.2 e.1 e.2⟩

/-- Round 12 read off the line. -/
theorem round12_at {V₀ V : Valuation τ sig (Elt F)} {p : S32x1000000.Idx → BitVec 32 × BitVec 32}
    (h : Kept V₀ V ∧ Pair V main_call0_call0_v88 main_call0_call0_v94 rfl rfl p) :
    Kept V₀ (StableHlo.after round12 V) ∧ Pair (StableHlo.after round12 V) main_call0_call0_v95 main_call0_call0_v101 rfl rfl fun j => rnd 6 26 (p j) :=
  have e := nine_reads (by decide) _ _ _ _ _ _ _ _ _ _ _ _ _ _ _ _ _ _ _ _ _ _ _ _ _ _ _ _ _ _ V
  ⟨h.1.after _ round12_writes (by decide), rnd_arr (by decide) (by decide) h.2 e.1 e.2⟩

/-- The key words after round 12 read off the line. -/
theorem inject3_at {V₀ V : Valuation τ sig (Elt F)} (hk : Keys V₀) {p : S32x1000000.Idx → BitVec 32 × BitVec 32}
    (h : Kept V₀ V ∧ Pair V main_call0_call0_v95 main_call0_call0_v101 rfl rfl p) :
    Kept V₀ (StableHlo.after inject3 V) ∧ Pair (StableHlo.after inject3 V) main_call0_call0_v103 main_call0_call0_v107 rfl rfl fun j => inj 0 45 (p j) :=
  have e := seven_reads (by decide) _ _ _ _ _ _ _ _ _ _ _ _ _ _ _ _ _ _ _ _ _ _ _ V
  ⟨h.1.after _ inject3_writes (by decide),
    inj_arr ((h.1 main_call0_v5 (by decide)).trans hk.k0) ((h.1 main_call0_v7 (by decide)).trans hk.k1) (by decide) h.2 e.1 e.2⟩

/-- Round 13 read off the line. -/
theorem round13_at {V₀ V : Valuation τ sig (Elt F)} {p : S32x1000000.Idx → BitVec 32 × BitVec 32}
    (h : Kept V₀ V ∧ Pair V main_call0_call0_v103 main_call0_call0_v107 rfl rfl p) :
    Kept V₀ (StableHlo.after round13 V) ∧ Pair (StableHlo.after round13 V) main_call0_call0_v108 main_call0_call0_v114 rfl rfl fun j => rnd 17 15 (p j) :=
  have e := nine_reads (by decide) _ _ _ _ _ _ _ _ _ _ _ _ _ _ _ _ _ _ _ _ _ _ _ _ _ _ _ _ _ _ V
  ⟨h.1.after _ round13_writes (by decide), rnd_arr (by decide) (by decide) h.2 e.1 e.2⟩

/-- Round 14 read off the line. -/
theorem round14_at {V₀ V : Valuation τ sig (Elt F)} {p : S32x1000000.Idx → BitVec 32 × BitVec 32}
    (h : Kept V₀ V ∧ Pair V main_call0_call0_v108 main_call0_call0_v114 rfl rfl p) :
    Kept V₀ (StableHlo.after round14 V) ∧ Pair (StableHlo.after round14 V) main_call0_call0_v115 main_call0_call0_v121 rfl rfl fun j => rnd 29 3 (p j) :=
  have e := nine_reads (by decide) _ _ _ _ _ _ _ _ _ _ _ _ _ _ _ _ _ _ _ _ _ _ _ _ _ _ _ _ _ _ V
  ⟨h.1.after _ round14_writes (by decide), rnd_arr (by decide) (by decide) h.2 e.1 e.2⟩

/-- Round 15 read off the line. -/
theorem round15_at {V₀ V : Valuation τ sig (Elt F)} {p : S32x1000000.Idx → BitVec 32 × BitVec 32}
    (h : Kept V₀ V ∧ Pair V main_call0_call0_v115 main_call0_call0_v121 rfl rfl p) :
    Kept V₀ (StableHlo.after round15 V) ∧ Pair (StableHlo.after round15 V) main_call0_call0_v122 main_call0_call0_v128 rfl rfl fun j => rnd 16 16 (p j) :=
  have e := nine_reads (by decide) _ _ _ _ _ _ _ _ _ _ _ _ _ _ _ _ _ _ _ _ _ _ _ _ _ _ _ _ _ _ V
  ⟨h.1.after _ round15_writes (by decide), rnd_arr (by decide) (by decide) h.2 e.1 e.2⟩

/-- Round 16 read off the line. -/
theorem round16_at {V₀ V : Valuation τ sig (Elt F)} {p : S32x1000000.Idx → BitVec 32 × BitVec 32}
    (h : Kept V₀ V ∧ Pair V main_call0_call0_v122 main_call0_call0_v128 rfl rfl p) :
    Kept V₀ (StableHlo.after round16 V) ∧ Pair (StableHlo.after round16 V) main_call0_call0_v129 main_call0_call0_v135 rfl rfl fun j => rnd 24 8 (p j) :=
  have e := nine_reads (by decide) _ _ _ _ _ _ _ _ _ _ _ _ _ _ _ _ _ _ _ _ _ _ _ _ _ _ _ _ _ _ V
  ⟨h.1.after _ round16_writes (by decide), rnd_arr (by decide) (by decide) h.2 e.1 e.2⟩

/-- The key words after round 16 read off the line. -/
theorem inject4_at {V₀ V : Valuation τ sig (Elt F)} (hk : Keys V₀) {p : S32x1000000.Idx → BitVec 32 × BitVec 32}
    (h : Kept V₀ V ∧ Pair V main_call0_call0_v129 main_call0_call0_v135 rfl rfl p) :
    Kept V₀ (StableHlo.after inject4 V) ∧ Pair (StableHlo.after inject4 V) main_call0_call0_v137 main_call0_call0_v141 rfl rfl fun j => inj 42 466689012 (p j) :=
  have e := seven_reads (by decide) _ _ _ _ _ _ _ _ _ _ _ _ _ _ _ _ _ _ _ _ _ _ _ V
  ⟨h.1.after _ inject4_writes (by decide),
    inj_arr ((h.1 main_call0_v7 (by decide)).trans hk.k1) ((h.1 main_call0_call0_v1 (by decide)).trans hk.k2) (by decide) h.2 e.1 e.2⟩

/-- Round 17 read off the line. -/
theorem round17_at {V₀ V : Valuation τ sig (Elt F)} {p : S32x1000000.Idx → BitVec 32 × BitVec 32}
    (h : Kept V₀ V ∧ Pair V main_call0_call0_v137 main_call0_call0_v141 rfl rfl p) :
    Kept V₀ (StableHlo.after round17 V) ∧ Pair (StableHlo.after round17 V) main_call0_call0_v142 main_call0_call0_v148 rfl rfl fun j => rnd 13 19 (p j) :=
  have e := nine_reads (by decide) _ _ _ _ _ _ _ _ _ _ _ _ _ _ _ _ _ _ _ _ _ _ _ _ _ _ _ _ _ _ V
  ⟨h.1.after _ round17_writes (by decide), rnd_arr (by decide) (by decide) h.2 e.1 e.2⟩

/-- Round 18 read off the line. -/
theorem round18_at {V₀ V : Valuation τ sig (Elt F)} {p : S32x1000000.Idx → BitVec 32 × BitVec 32}
    (h : Kept V₀ V ∧ Pair V main_call0_call0_v142 main_call0_call0_v148 rfl rfl p) :
    Kept V₀ (StableHlo.after round18 V) ∧ Pair (StableHlo.after round18 V) main_call0_call0_v149 main_call0_call0_v155 rfl rfl fun j => rnd 15 17 (p j) :=
  have e := nine_reads (by decide) _ _ _ _ _ _ _ _ _ _ _ _ _ _ _ _ _ _ _ _ _ _ _ _ _ _ _ _ _ _ V
  ⟨h.1.after _ round18_writes (by decide), rnd_arr (by decide) (by decide) h.2 e.1 e.2⟩

/-- Round 19 read off the line. -/
theorem round19_at {V₀ V : Valuation τ sig (Elt F)} {p : S32x1000000.Idx → BitVec 32 × BitVec 32}
    (h : Kept V₀ V ∧ Pair V main_call0_call0_v149 main_call0_call0_v155 rfl rfl p) :
    Kept V₀ (StableHlo.after round19 V) ∧ Pair (StableHlo.after round19 V) main_call0_call0_v156 main_call0_call0_v162 rfl rfl fun j => rnd 26 6 (p j) :=
  have e := nine_reads (by decide) _ _ _ _ _ _ _ _ _ _ _ _ _ _ _ _ _ _ _ _ _ _ _ _ _ _ _ _ _ _ V
  ⟨h.1.after _ round19_writes (by decide), rnd_arr (by decide) (by decide) h.2 e.1 e.2⟩

/-- Round 20 read off the line. -/
theorem round20_at {V₀ V : Valuation τ sig (Elt F)} {p : S32x1000000.Idx → BitVec 32 × BitVec 32}
    (h : Kept V₀ V ∧ Pair V main_call0_call0_v156 main_call0_call0_v162 rfl rfl p) :
    Kept V₀ (StableHlo.after round20 V) ∧ Pair (StableHlo.after round20 V) main_call0_call0_v163 main_call0_call0_v169 rfl rfl fun j => rnd 6 26 (p j) :=
  have e := nine_reads (by decide) _ _ _ _ _ _ _ _ _ _ _ _ _ _ _ _ _ _ _ _ _ _ _ _ _ _ _ _ _ _ V
  ⟨h.1.after _ round20_writes (by decide), rnd_arr (by decide) (by decide) h.2 e.1 e.2⟩

/-- The key words after round 20 read off the line. -/
theorem inject5_at {V₀ V : Valuation τ sig (Elt F)} (hk : Keys V₀) {p : S32x1000000.Idx → BitVec 32 × BitVec 32}
    (h : Kept V₀ V ∧ Pair V main_call0_call0_v163 main_call0_call0_v169 rfl rfl p) :
    Kept V₀ (StableHlo.after inject5 V) ∧ Pair (StableHlo.after inject5 V) main_call0_v19_0 main_call0_v19_1 rfl rfl fun j => inj 466689008 5 (p j) :=
  have e := seven_reads (by decide) _ _ _ _ _ _ _ _ _ _ _ _ _ _ _ _ _ _ _ _ _ _ _ V
  ⟨h.1.after _ inject5_writes (by decide),
    inj_arr ((h.1 main_call0_call0_v1 (by decide)).trans hk.k2) ((h.1 main_call0_v5 (by decide)).trans hk.k0) (by decide) h.2 e.1 e.2⟩

/-- The twenty rounds and five additions of key words, in order. -/
def hash (V : Valuation τ sig (Elt F)) : Valuation τ sig (Elt F) :=
  StableHlo.after inject5 (StableHlo.after round20 (StableHlo.after round19 (StableHlo.after round18 (StableHlo.after round17 (StableHlo.after inject4 (StableHlo.after round16 (StableHlo.after round15 (StableHlo.after round14 (StableHlo.after round13 (StableHlo.after inject3 (StableHlo.after round12 (StableHlo.after round11 (StableHlo.after round10 (StableHlo.after round9 (StableHlo.after inject2 (StableHlo.after round8 (StableHlo.after round7 (StableHlo.after round6 (StableHlo.after round5 (StableHlo.after inject1 (StableHlo.after round4 (StableHlo.after round3 (StableHlo.after round2 (StableHlo.after round1 V))))))))))))))))))))))))

/-- The whole hash read off the line. -/
theorem hash_at {V : Valuation τ sig (Elt F)} (hk : Keys V) {p : S32x1000000.Idx → BitVec 32 × BitVec 32}
    (h : Kept V V ∧ Pair V main_call0_call0_v3 main_call0_call0_v5 rfl rfl p) :
    Kept V (hash V) ∧ Pair (hash V) main_call0_v19_0 main_call0_v19_1 rfl rfl fun j => g5 (g4 (g3 (g2 (g1 (p j))))) :=
  inject5_at hk (round20_at (round19_at (round18_at (round17_at (inject4_at hk (round16_at (round15_at (round14_at (round13_at (inject3_at hk (round12_at (round11_at (round10_at (round9_at (inject2_at hk (round8_at (round7_at (round6_at (round5_at (inject1_at hk (round4_at (round3_at (round2_at (round1_at (h)))))))))))))))))))))))))

end Cert.ReferenceIdeal.Ref
-- ==== Proof.RefNoise.lean ====
/- The reference's scores: the numbers before its argmax are the Gumbel noise of the counter `row * 1000000 + column`
   added to the operand. -/
module

public import proofs.«01_k».proof.Proof.RefLines
public import Idealize.ShloMosaic.Lib.StableHlo.ReadAt

@[expose] public section

set_option maxRecDepth 16384

noncomputable section

namespace Cert.ReferenceIdeal.Ref

open Cert.ReferenceIdeal Cert.ReferenceIdeal.Gen
open Idealize.ShloMosaic Idealize.ShloMosaic.StableHlo
open Cert.Draw

/-- The counter of an index. -/
def cnt (j : S32x1000000.Idx) : BitVec 32 := BitVec.ofNat 32 ((j 0).val * 1000000 + (j 1).val)

variable (V : Valuation τ sig (Elt Ideal))

/-- Dividing by one changes nothing. -/
theorem div_one (x : EReal) : Ideal.div x 1 = x := by
  simp [Ideal.div]

/-- The logits divided by one are the logits. -/
theorem host0_v1 : StableHlo.after host0 V (Proc.devRef .tc main_v1) = V (Proc.devRef .tc main_arg0) := by
  have e : StableHlo.after host0 V (Proc.devRef .tc main_v1)
      = Host.divf (V (Proc.devRef .tc main_arg0)) (broadcastInDim S32x1000000 ![] bcast_S_S32x1000000 (constant (F := Ideal) S_ .f32 0x3F800000#32)) := by
    unfold host0; after_reads_simp
  rw [e]
  funext j
  show Ideal.div (V (Proc.devRef .tc main_arg0) j) (Ideal.ofBits .f32 0x3F800000#32) = _
  rw [Ideal.ofBits_one_f32]
  exact div_one _

/-- Two one-word arrays put together. -/
theorem two_words {a b : IVec S1 32} (ha : a = fun _ => 0) (hb : b = fun _ => 42) :
    concatenate S2 0 [⟨S1, a⟩, ⟨S1, b⟩] concatenates_S1_S1_S2_d0 = fun j : S2.Idx => if (j 0).val < 1 then (0 : BitVec 32) else 42 := by
  subst ha hb
  funext j
  idx_vars j
  pointwise
  rfl

/-- The pair of key words. -/
theorem host0_v8 : StableHlo.after host0 V (Proc.devRef .tc main_v8) = fun j : S2.Idx => if (j 0).val < 1 then (0 : BitVec 32) else 42 := by
  unfold host0; after_reads_simp
  refine two_words ?_ ?_
  · after_reads_simp
    funext j; rfl
  · after_reads_simp
    funext j
    show (42#32 &&& 4294967295#32 : BitVec 32) = 42
    decide

/-- The two bounds. -/
theorem host0_bounds : StableHlo.after host0 V (Proc.devRef .tc main_cst_2) = (fun _ => (0 : EReal))
    ∧ StableHlo.after host0 V (Proc.devRef .tc main_cst_3) = (fun _ => (1 : EReal)) := by
  unfold host0; after_reads_simp
  constructor
  · funext j; exact Ideal.ofBits_zero_f32
  · funext j; exact Ideal.ofBits_one_f32

/-- The key words and the bounds taken apart, and the counters. -/
theorem keys0_reads {V : Valuation τ sig (Elt Ideal)}
    (h8 : V (Proc.devRef .tc main_v8) = fun j : S2.Idx => if (j 0).val < 1 then (0 : BitVec 32) else 42)
    (h2 : V (Proc.devRef .tc main_cst_2) = (fun _ => (0 : EReal))) (h3 : V (Proc.devRef .tc main_cst_3) = (fun _ => (1 : EReal))) :
    StableHlo.after keys0 V (Proc.devRef .tc main_call0_v5) = (fun _ => (0 : BitVec 32))
    ∧ StableHlo.after keys0 V (Proc.devRef .tc main_call0_v7) = (fun _ => (42 : BitVec 32))
    ∧ StableHlo.after keys0 V (Proc.devRef .tc main_call0_v2) = (fun _ => (0 : EReal))
    ∧ StableHlo.after keys0 V (Proc.devRef .tc main_call0_v3) = (fun _ => (1 : EReal)) := by
  unfold keys0; after_reads_simp
  rw [h8, h2, h3]
  have one : ∀ k : S1.Idx, (k 0).val = 0 := fun k => by have : (k 0).val < 1 := (k 0).isLt; omega
  have r0 : ∀ k : S1.Idx, extractStridedSlice S1 ![0] (fun j : S2.Idx => if (j 0).val < 1 then (0 : BitVec 32) else 42) slices_S2_S1_0 k = 0 := fun k => by
    show (if 0 + (k 0).val < 1 then (0 : BitVec 32) else 42) = 0
    rw [one k]; rfl
  have r1 : ∀ k : S1.Idx, extractStridedSlice S1 ![1] (fun j : S2.Idx => if (j 0).val < 1 then (0 : BitVec 32) else 42) slices_S2_S1_1 k = 42 := fun k => by
    show (if 1 + (k 0).val < 1 then (0 : BitVec 32) else 42) = 42
    rw [one k]; rfl
  refine ⟨?_, ?_, ?_, ?_⟩
  · funext j; exact r0 _
  · funext j; exact r1 _
  · funext j; rfl
  · funext j; rfl

/-- The counter as a word of 64 bits. -/
def cnt64 (j : S32x1000000.Idx) : BitVec 64 := 1000000#64 * BitVec.ofNat 64 (j 0).val + 1#64 * BitVec.ofNat 64 (j 1).val

/-- Its number. -/
theorem cnt64_toNat (j : S32x1000000.Idx) : (cnt64 j).toNat = (j 0).val * 1000000 + (j 1).val := by
  have h0 : (j 0).val < 32 := (j 0).isLt
  have h1 : (j 1).val < 1000000 := (j 1).isLt
  unfold cnt64
  simp only [BitVec.toNat_add, BitVec.toNat_mul, BitVec.toNat_ofNat]
  omega

/-- The counters' two words. -/
theorem keys0_counts : (StableHlo.after keys0 V (Proc.devRef .tc main_call0_v17) = cnt)
    ∧ StableHlo.after keys0 V (Proc.devRef .tc main_call0_v18) = fun _ => (0 : BitVec 32) := by
  unfold keys0; after_reads_simp
  constructor
  · funext j
    show (cnt64 j).setWidth 32 = _
    apply BitVec.eq_of_toNat_eq
    rw [BitVec.toNat_setWidth, cnt64_toNat]
    exact (BitVec.toNat_ofNat _ _).symm
  · funext j
    have h0 : (j 0).val < 32 := (j 0).isLt
    have h1 : (j 1).val < 1000000 := (j 1).isLt
    show (cnt64 j >>> 32#64).setWidth 32 = _
    apply BitVec.eq_of_toNat_eq
    rw [BitVec.toNat_setWidth]
    have e : (cnt64 j >>> 32#64).toNat = 0 := by
      show ((cnt64 j) >>> (32#64).toNat).toNat = 0
      rw [BitVec.toNat_ushiftRight, cnt64_toNat, Nat.shiftRight_eq_div_pow]
      apply Nat.div_eq_of_lt
      show _ < 2 ^ 32
      omega
    rw [e]; rfl

/-- The hash's start. -/
theorem init0_reads {V : Valuation τ sig (Elt Ideal)}
    (h5 : V (Proc.devRef .tc main_call0_v5) = (fun _ => (0 : BitVec 32))) (h7 : V (Proc.devRef .tc main_call0_v7) = (fun _ => (42 : BitVec 32)))
    (h17 : V (Proc.devRef .tc main_call0_v17) = cnt) (h18 : V (Proc.devRef .tc main_call0_v18) = (fun _ => (0 : BitVec 32))) :
    Keys (StableHlo.after init0 V) ∧ Pair (StableHlo.after init0 V) main_call0_call0_v3 main_call0_call0_v5 rfl rfl
      fun j => (0#32, cnt j + 42) := by
  refine ⟨⟨?_, ?_, ?_⟩, ?_, ?_⟩
  · exact (StableHlo.after_unwritten init0_W init0_writes (by decide) V).trans h5
  · exact (StableHlo.after_unwritten init0_W init0_writes (by decide) V).trans h7
  · unfold init0; after_reads_simp; rw [h5, h7]; funext j; show (0#32 ^^^ 42#32 ^^^ 466688986#32 : BitVec 32) = 466689008; decide
  · unfold init0; after_reads_simp; rw [h18, h5]; intro j; rfl
  · unfold init0; after_reads_simp; rw [h17, h7]; intro j; rfl

/-- The scores: the noise and the logits. -/
theorem scores_reads {V : Valuation τ sig (Elt Ideal)} {p : S32x1000000.Idx → BitVec 32 × BitVec 32}
    (h : Pair V main_call0_v19_0 main_call0_v19_1 rfl rfl p)
    (h2 : V (Proc.devRef .tc main_call0_v2) = (fun _ => (0 : EReal))) (h3 : V (Proc.devRef .tc main_call0_v3) = (fun _ => (1 : EReal))) :
    StableHlo.after noise0 (StableHlo.after uniform0 V) (Proc.devRef .tc main_v16)
      = fun j => gum ((p j).1 ^^^ (p j).2) + V (Proc.devRef .tc main_v1) j := by
  have hu : StableHlo.after uniform0 V (Proc.devRef .tc main_v9)
      = fun j => max 0 (Ideal.ofBits .f32 ((((p j).1 ^^^ (p j).2) >>> (9 : BitVec 32)) ||| 1065353216) - 1) := by
    have e0 : V (Proc.devRef .tc main_call0_v19_0) = fun j => (p j).1 := funext h.1
    have e1 : V (Proc.devRef .tc main_call0_v19_1) = fun j => (p j).2 := funext h.2
    unfold uniform0; after_reads_simp
    rw [e0, e1, h2, h3]
    funext j
    show max (0 : EReal) ((Ideal.ofBits .f32 ((((p j).1 ^^^ (p j).2) >>> (9 : BitVec 32)) ||| 1065353216) - Ideal.ofBits .f32 0x3F800000#32) * (1 - 0) + 0) = _
    rw [Ideal.ofBits_one_f32, sub_zero, mul_one, add_zero]
  have hx : StableHlo.after uniform0 V (Proc.devRef .tc main_v1) = V (Proc.devRef .tc main_v1) :=
    StableHlo.after_unwritten uniform0_W uniform0_writes (by decide) V
  have e : StableHlo.after noise0 (StableHlo.after uniform0 V) (Proc.devRef .tc main_v16)
      = addf (Host.negf (Host.log (Host.negf (Host.log (maximumf (StableHlo.after uniform0 V (Proc.devRef .tc main_v9))
          (broadcastInDim S32x1000000 ![] bcast_S_S32x1000000 (constant (F := Ideal) S_ .f32 0x00800000#32)))))))
        (StableHlo.after uniform0 V (Proc.devRef .tc main_v1)) := by
    unfold noise0; after_reads_simp
  rw [e, hu, hx]
  funext j
  show - Ideal.log (- Ideal.log (max (max 0 (Ideal.ofBits .f32 ((((p j).1 ^^^ (p j).2) >>> (9 : BitVec 32)) ||| 1065353216) - 1))
    (Ideal.ofBits .f32 0x00800000#32))) + _ = _
  rw [max_zero_tiny]
  rfl

/-- The contents before the reference's argmax, softmax and entropy. -/
def scored : Valuation τ sig (Elt Ideal) :=
  StableHlo.after noise0 (StableHlo.after uniform0 (hash (StableHlo.after init0 (StableHlo.after keys0 (StableHlo.after host0 V)))))

/-- There the scores are the noise and the logits, and the logits are the operand. -/
theorem scored_reads : (scored V (Proc.devRef .tc main_v16)
      = fun j => gum (word (cnt j)) + V (Proc.devRef .tc main_arg0) j)
    ∧ scored V (Proc.devRef .tc main_v1) = V (Proc.devRef .tc main_arg0) := by
  obtain ⟨k5, k7, b2, b3⟩ := keys0_reads (V := StableHlo.after host0 V) (host0_v8 V) (host0_bounds V).1 (host0_bounds V).2
  have c := keys0_counts (StableHlo.after host0 V)
  obtain ⟨hk, hp⟩ := init0_reads k5 k7 c.1 c.2
  have hh := hash_at hk ⟨fun _ _ => rfl, hp⟩
  have hv : StableHlo.after init0 (StableHlo.after keys0 (StableHlo.after host0 V)) (Proc.devRef .tc main_v1) = V (Proc.devRef .tc main_arg0) :=
    (StableHlo.after_unwritten init0_W init0_writes (by decide) _).trans
      ((StableHlo.after_unwritten keys0_W keys0_writes (by decide) _).trans (host0_v1 V))
  have h2 := (hh.1 main_call0_v2 (by decide)).trans ((StableHlo.after_unwritten init0_W init0_writes (by decide) _).trans b2)
  have h3 := (hh.1 main_call0_v3 (by decide)).trans ((StableHlo.after_unwritten init0_W init0_writes (by decide) _).trans b3)
  have h1 := (hh.1 main_v1 (by decide)).trans hv
  refine ⟨?_, ?_⟩
  · refine (scores_reads hh.2 h2 h3).trans ?_
    rw [h1]
    rfl
  · exact (StableHlo.after_unwritten noise0_W noise0_writes (by decide) _).trans
      ((StableHlo.after_unwritten uniform0_W uniform0_writes (by decide) _).trans h1)

end Cert.ReferenceIdeal.Ref
-- ==== Proof.RefArgmax.lean ====
/- The reference's argmax: the first column at which a row's scores are greatest. -/
module

public import proofs.«01_k».proof.Proof.RefNoise

@[expose] public section

set_option maxRecDepth 16384

noncomputable section

namespace Cert.Draw

/-- `c` is the first column at which `f` is greatest. -/
structure Best {n : ℕ} (f : Fin n → EReal) (c : Fin n) : Prop where
  top : ∀ k, f k ≤ f c
  first : ∀ k, f k = f c → c ≤ k

/-- There is one such column at most. -/
theorem Best.unique {n : ℕ} {f : Fin n → EReal} {c d : Fin n} (hc : Best f c) (hd : Best f d) : c = d := by
  have e : f c = f d := le_antisymm (hd.top c) (hc.top d)
  exact le_antisymm (hc.first d e.symm) (hd.first c e)

end Cert.Draw

namespace Cert.ReferenceIdeal.Ref

open Cert.ReferenceIdeal Cert.ReferenceIdeal.Gen
open Idealize.ShloMosaic Idealize.ShloMosaic.StableHlo
open Cert.Draw

/-- The first pair is worse than the second, or the same: a smaller number, or the same number at a later place. -/
def Worse (p r : EReal × BitVec 32) : Prop := p.1 < r.1 ∨ (p.1 = r.1 ∧ r.2.toInt ≤ p.2.toInt)

/-- A pair is no better than itself. -/
theorem Worse.refl (p : EReal × BitVec 32) : Worse p p := Or.inr ⟨rfl, le_rfl⟩

/-- The order of pairs is transitive. -/
theorem Worse.trans {p q r : EReal × BitVec 32} (h : Worse p q) (h' : Worse q r) : Worse p r := by
  rcases h with h | ⟨h, h1⟩ <;> rcases h' with h' | ⟨h', h2⟩
  · exact Or.inl (h.trans h')
  · exact Or.inl (h' ▸ h)
  · exact Or.inl (h ▸ h')
  · exact Or.inr ⟨h.trans h', h2.trans h1⟩

/-- The reducer's two parts. -/
theorem reducer_eq (a b : EReal × BitVec 32) : reducer_argmax_f32_i32 (F := Ideal) a b
    = (Scalar.select (Ideal.cmp .ogt a.1 b.1 ||| Ideal.cmp .une a.1 a.1) a.1 b.1,
      Scalar.select ((Ideal.cmp .ogt a.1 b.1 ||| Ideal.cmp .une a.1 a.1) ||| (Ideal.cmp .oeq a.1 b.1 &&& IntOp.cmpi .slt a.2 b.2)) a.2 b.2) := rfl

/-- The reducer takes one of its two pairs, and the better one. -/
theorem reducer_best (a b : EReal × BitVec 32) :
    (reducer_argmax_f32_i32 (F := Ideal) a b = a ∨ reducer_argmax_f32_i32 (F := Ideal) a b = b)
      ∧ Worse a (reducer_argmax_f32_i32 (F := Ideal) a b) ∧ Worse b (reducer_argmax_f32_i32 (F := Ideal) a b) := by
  obtain ⟨x, i⟩ := a
  obtain ⟨y, j⟩ := b
  rcases lt_trichotomy x y with h | h | h
  · have e : reducer_argmax_f32_i32 (F := Ideal) (x, i) (y, j) = (y, j) := by
      simp [reducer_eq, Ideal.cmp, h.not_gt, h.ne, Scalar.select, IntOp.ori, IntOp.andi]
    rw [e]; exact ⟨Or.inr rfl, Or.inl h, Worse.refl _⟩
  · subst h
    by_cases hij : i.toInt < j.toInt
    · have e : reducer_argmax_f32_i32 (F := Ideal) (x, i) (x, j) = (x, i) := by
        simp [reducer_eq, Ideal.cmp, Scalar.select, IntOp.ori, IntOp.andi, IntOp.cmpi, BitVec.slt, hij]
      rw [e]; exact ⟨Or.inl rfl, Worse.refl _, Or.inr ⟨rfl, hij.le⟩⟩
    · have e : reducer_argmax_f32_i32 (F := Ideal) (x, i) (x, j) = (x, j) := by
        simp [reducer_eq, Ideal.cmp, Scalar.select, IntOp.ori, IntOp.andi, IntOp.cmpi, BitVec.slt, hij]
      rw [e]; exact ⟨Or.inr rfl, Or.inr ⟨rfl, not_lt.1 hij⟩, Worse.refl _⟩
  · have e : reducer_argmax_f32_i32 (F := Ideal) (x, i) (y, j) = (x, i) := by
      simp [reducer_eq, Ideal.cmp, h, h.ne', Scalar.select, IntOp.ori, IntOp.andi]
    rw [e]; exact ⟨Or.inl rfl, Worse.refl _, Or.inl h⟩

/-- A fold of the reducer takes one of the pairs it is given, and the best. -/
theorem fold_best (l : List (EReal × BitVec 32)) (a : EReal × BitVec 32) :
    l.foldl (reducer_argmax_f32_i32 (F := Ideal)) a ∈ a :: l
      ∧ ∀ p ∈ a :: l, Worse p (l.foldl (reducer_argmax_f32_i32 (F := Ideal)) a) := by
  induction l generalizing a with
  | nil => exact ⟨List.mem_singleton.2 rfl, fun p hp => by rw [List.mem_singleton.1 hp]; exact Worse.refl _⟩
  | cons b l ih =>
    obtain ⟨h1, h2⟩ := ih (reducer_argmax_f32_i32 (F := Ideal) a b)
    obtain ⟨hm, ha, hb⟩ := reducer_best a b
    refine ⟨?_, fun p hp => ?_⟩
    · rw [List.foldl_cons]
      rcases List.mem_cons.1 h1 with h | h
      · rw [h]; rcases hm with e | e <;> rw [e] <;> simp
      · exact List.mem_cons_of_mem _ (List.mem_cons_of_mem _ h)
    · rw [List.foldl_cons]
      rcases List.mem_cons.1 hp with h | h
      · rw [h]; exact ha.trans (h2 _ (List.mem_cons_self ..))
      rcases List.mem_cons.1 h with h | h
      · rw [h]; exact hb.trans (h2 _ (List.mem_cons_self ..))
      · exact h2 p (List.mem_cons_of_mem _ h)

/-- The row an index falls to. -/
theorem drop_row (i : S32x1000000.Idx) : (reducesTo_S32x1000000_S32_d1.drop i) = ix1 (i 0) := by
  funext a
  fin_cases a
  rfl

/-- A column's word as a number. -/
theorem toInt_col (c : Fin 1000000) : (BitVec.ofNat 32 c.val).toInt = c.val := by
  have := c.isLt
  have h : (BitVec.ofNat 32 c.val).toNat = c.val := by rw [BitVec.toNat_ofNat]; exact Nat.mod_eq_of_lt (by omega)
  rw [BitVec.toInt_eq_toNat_of_lt (by rw [h]; omega), h]

/-- The argmax of a row: the first column at which it is greatest. -/
theorem argmax_row (Y : FVec Ideal S32x1000000 .f32) (r : Fin 32) :
    ∃ c : Fin 1000000, Best (fun k => (Y (ix2 r k) : EReal)) c
      ∧ (Host.argReduce reducer_argmax_f32_i32 Y (iotaInDim S32x1000000 32 1) (constant (F := Ideal) S_ .f32 0xFF800000#32) (constantI S_ 32 0#32)
          reducesTo_S32x1000000_S32_d1 h_S_ (ix1 r)).2 = BitVec.ofNat 32 c.val := by
  rw [Ideal.argReduce_eq_reduce2, Host.reduce2_eq_foldl_fiber]
  obtain ⟨hm, hb⟩ := fold_best (Host.argReduceFiber Y (iotaInDim S32x1000000 32 1) reducesTo_S32x1000000_S32_d1 (ix1 r))
    ((constant (F := Ideal) S_ .f32 0xFF800000#32) (Shape.Idx.first h_S_), (constantI S_ 32 0#32) (Shape.Idx.first h_S_))
  generalize List.foldl _ _ _ = q at hm hb ⊢
  have hall : ∀ k : Fin 1000000, Worse (Y (ix2 r k), BitVec.ofNat 32 k.val) q := fun k => by
    refine hb _ (List.mem_cons_of_mem _ ?_)
    unfold Host.argReduceFiber
    refine List.mem_map.2 ⟨S32x1000000.rowMajor (ix2 r k), List.mem_filter.2 ⟨List.mem_finRange _, ?_⟩, ?_⟩
    · rw [Equiv.symm_apply_apply, drop_row]; simp
    · rw [Equiv.symm_apply_apply]; rfl
  have hin : ∃ c : Fin 1000000, (Y (ix2 r c) : EReal) = q.1 ∧ q.2 = BitVec.ofNat 32 c.val := by
    rcases List.mem_cons.1 hm with h | h
    · refine ⟨0, ?_, by rw [h]; rfl⟩
      have e : q.1 = (⊥ : EReal) := by rw [h]; simp [constant, Ideal.ofBits, Ideal.ieee]
      rcases hall 0 with h' | h'
      · rw [e] at h'; exact absurd h' not_lt_bot
      · exact h'.1
    · unfold Host.argReduceFiber at h
      obtain ⟨n, hn, e⟩ := List.mem_map.1 h
      have hr := (List.mem_filter.1 hn).2
      generalize S32x1000000.rowMajor.symm n = i at hr e
      rw [drop_row] at hr
      simp only [decide_eq_true_eq] at hr
      have hi : i 0 = r := congrFun hr 0
      refine ⟨i 1, ?_, by rw [← e]; rfl⟩
      rw [← e, ← hi]
      exact congrArg Y (by funext a; fin_cases a <;> rfl)
  obtain ⟨c, h1, h2⟩ := hin
  refine ⟨c, ⟨fun k => ?_, fun k hk => ?_⟩, h2⟩
  · show (Y (ix2 r k) : EReal) ≤ Y (ix2 r c)
    rw [h1]
    rcases hall k with h | h
    · exact h.le
    · exact h.1.le
  · have hk' : (Y (ix2 r k) : EReal) = q.1 := hk.trans h1
    rcases hall k with h | h
    · exact absurd hk' h.ne
    · have := h.2
      rw [h2, toInt_col] at this
      simp only [toInt_col] at this
      exact Fin.le_def.2 (by exact_mod_cast this)

/-- The drawn columns read off the line. -/
theorem argmax0_reads {V : Valuation τ sig (Elt Ideal)} (Y : FVec Ideal S32x1000000 .f32) (hY : V (Proc.devRef .tc main_v16) = Y) (r : Fin 32) :
    ∃ c : Fin 1000000, Best (fun k => (Y (ix2 r k) : EReal)) c
      ∧ StableHlo.after argmax0 V (Proc.devRef .tc main_v17) (ix1 r) = BitVec.ofNat 32 c.val := by
  have e : StableHlo.after argmax0 V (Proc.devRef .tc main_v17) = fun j => (Host.argReduce reducer_argmax_f32_i32 Y (iotaInDim S32x1000000 32 1) (constant (F := Ideal) S_ .f32 0xFF800000#32) (constantI S_ 32 0#32)
          reducesTo_S32x1000000_S32_d1 h_S_ j).2 := by
    unfold argmax0; after_reads_simp
    rw [hY]
  rw [e]
  exact argmax_row Y r

end Cert.ReferenceIdeal.Ref
-- ==== Proof.RefSoft.lean ====
/- The reference's probabilities and entropy, read at an index. -/
module

public import proofs.«01_k».proof.Proof.RefNoise

@[expose] public section

set_option maxRecDepth 16384

noncomputable section

namespace Cert.ReferenceIdeal.Ref

open Cert.ReferenceIdeal Cert.ReferenceIdeal.Gen
open Idealize.ShloMosaic Idealize.ShloMosaic.StableHlo

variable (V : Valuation τ sig (Elt Ideal))

/-- The greatest number of a row. -/
def rowMax (X : FVec Ideal S32x1000000 .f32) (r : Fin 32) : EReal :=
  Finset.univ.fold max ⊥ fun k : Fin 1000000 => (X (ix2 r k) : EReal)

/-- The sum of a row's exponentials, the greatest number taken off. -/
def rowSum (X : FVec Ideal S32x1000000 .f32) (r : Fin 32) : EReal :=
  ∑ k : Fin 1000000, Ideal.exp (X (ix2 r k) - rowMax X r)

/-- The probability at an index. -/
def prob (X : FVec Ideal S32x1000000 .f32) (r : Fin 32) (k : Fin 1000000) : EReal :=
  Ideal.div (Ideal.exp (X (ix2 r k) - rowMax X r)) (rowSum X r)

/-- The word of minus infinity. -/
theorem ofBits_bot : Ideal.ofBits .f32 0xFF800000#32 = ⊥ := by
  simp [Ideal.ofBits, Ideal.ieee]

/-- The row maximum of the reduction. -/
theorem reduce_max (X : FVec Ideal S32x1000000 .f32) (r : Fin 32) :
    Host.reduce FloatOps.maximumf X (constant S_ .f32 0xFF800000#32) reducesTo_S32x1000000_S32_d1 h_S_ (ix1 r) = rowMax X r := by
  pointwise
  simp only [ofBits_bot]
  rfl

/-- The row sum of the reduction. -/
theorem reduce_sum (E : FVec Ideal S32x1000000 .f32) (r : Fin 32) :
    Host.reduceAdd E (constant S_ .f32 0x00000000#32) reducesTo_S32x1000000_S32_d1 h_S_ (ix1 r) = ∑ k : Fin 1000000, (E (ix2 r k) : EReal) := by
  pointwise

/-- The sum of all. -/
theorem reduce_all (E : FVec Ideal S1000000 .f32) (j : S_.Idx) :
    Host.reduceAdd E (constant S_ .f32 0x00000000#32) reducesTo_S1000000_S_d0 h_S_ j = ∑ k : Fin 1000000, (E (ix1 k) : EReal) := by
  pointwise

/-- The first row. -/
theorem first_row (P : FVec Ideal S32x1000000 .f32) (k : Fin 1000000) :
    shapeCast S1000000 (extractStridedSlice S1x1000000 ![0, 0] P slices_S32x1000000_S1x1000000_0_0) shapeCasts_S1x1000000_S1000000 (ix1 k) = P (ix2 0 k) := by
  pointwise

/-- One number for each row, given to the whole row. -/
theorem spread (w : FVec Ideal S32 .f32) (r : Fin 32) (k : Fin 1000000) :
    broadcastInDim S32x1000000 ![0, 1] bcast_S32x1_S32x1000000_0_1 (broadcastInDim S32x1 ![0] bcast_S32_S32x1_0 w) (ix2 r k) = w (ix1 r) := by
  pointwise

/-- The row maximum as the line leaves it. -/
def lineMax (X : FVec Ideal S32x1000000 .f32) : FVec Ideal S32 .f32 :=
  maximumf (broadcastInDim S32 ![] bcast_S_S32 (constant S_ .f32 0xFF800000#32))
    (Host.reduce FloatOps.maximumf X (constant S_ .f32 0xFF800000#32) reducesTo_S32x1000000_S32_d1 h_S_)

/-- It is the row's greatest number. -/
theorem lineMax_at (X : FVec Ideal S32x1000000 .f32) (r : Fin 32) : lineMax X (ix1 r) = rowMax X r := by
  have key : ∀ a b : FVec Ideal S32 .f32, maximumf a b (ix1 r) = max (a (ix1 r) : EReal) (b (ix1 r)) := fun _ _ => rfl
  have bot : broadcastInDim S32 ![] bcast_S_S32 (constant (F := Ideal) S_ .f32 0xFF800000#32) (ix1 r) = (⊥ : EReal) := ofBits_bot
  rw [lineMax, key, reduce_max, bot]
  exact max_eq_right bot_le

/-- The exponentials as the line leaves them. -/
def lineExp (X : FVec Ideal S32x1000000 .f32) : FVec Ideal S32x1000000 .f32 :=
  Host.exp (subf X (broadcastInDim S32x1000000 ![0, 1] bcast_S32x1_S32x1000000_0_1 (broadcastInDim S32x1 ![0] bcast_S32_S32x1_0 (lineMax X))))

/-- One of them. -/
theorem lineExp_at (X : FVec Ideal S32x1000000 .f32) (r : Fin 32) (k : Fin 1000000) :
    lineExp X (ix2 r k) = Ideal.exp (X (ix2 r k) - rowMax X r) := by
  show Ideal.exp ((X (ix2 r k) : EReal) - broadcastInDim S32x1000000 ![0, 1] bcast_S32x1_S32x1000000_0_1 (broadcastInDim S32x1 ![0] bcast_S32_S32x1_0 (lineMax X)) (ix2 r k)) = _
  rw [spread, lineMax_at]

/-- The probabilities read off the line. -/
theorem soft0_reads {V : Valuation τ sig (Elt Ideal)} (X : FVec Ideal S32x1000000 .f32) (hX : V (Proc.devRef .tc main_v1) = X) (r : Fin 32) (k : Fin 1000000) :
    StableHlo.after soft0 V (Proc.devRef .tc main_v28) (ix2 r k) = prob X r k := by
  have e : StableHlo.after soft0 V (Proc.devRef .tc main_v28)
      = Host.divf (lineExp X) (broadcastInDim S32x1000000 ![0, 1] bcast_S32x1_S32x1000000_0_1 (broadcastInDim S32x1 ![0] bcast_S32_S32x1_0
        (Host.reduceAdd (lineExp X) (constant S_ .f32 0x00000000#32) reducesTo_S32x1000000_S32_d1 h_S_))) := by
    unfold soft0; after_reads_simp
    rw [hX]
    rfl
  rw [e]
  have key : ∀ (a b : FVec Ideal S32x1000000 .f32) (j : S32x1000000.Idx), Host.divf a b j = Ideal.div (a j) (b j) := fun _ _ _ => rfl
  rw [key, spread, reduce_sum, lineExp_at, Finset.sum_congr rfl fun k _ => lineExp_at X r k, prob, rowSum]

/-- The entropy of the first row of `P`. -/
def entropy (P : Fin 1000000 → EReal) : EReal :=
  - ∑ k : Fin 1000000, if 0 < P k then P k * Ideal.log (if 0 < P k then P k else 1) else 0

/-- One term of the entropy's sum. -/
theorem term_at (Q : FVec Ideal S1000000 .f32) (k : Fin 1000000) :
    select (cmpf .ogt Q (broadcastInDim S1000000 ![] bcast_S_S1000000 (constant S_ .f32 0x00000000#32)))
        (mulf Q (Host.log (select (cmpf .ogt Q (broadcastInDim S1000000 ![] bcast_S_S1000000 (constant S_ .f32 0x00000000#32))) Q
          (broadcastInDim S1000000 ![] bcast_S_S1000000 (constant S_ .f32 0x3F800000#32)))))
        (broadcastInDim S1000000 ![] bcast_S_S1000000 (constant S_ .f32 0x00000000#32)) (ix1 k)
      = if (0 : EReal) < Q (ix1 k) then (Q (ix1 k) : EReal) * Ideal.log (if (0 : EReal) < Q (ix1 k) then Q (ix1 k) else 1) else 0 := by
  pointwise

/-- The entropy read off the line. -/
theorem entropy0_reads {V : Valuation τ sig (Elt Ideal)} (P : FVec Ideal S32x1000000 .f32)
    (hP : V (Proc.devRef .tc main_v28) = P) (j : S_.Idx) :
    StableHlo.after entropy0 V (Proc.devRef .tc main_v40) j = entropy fun k => P (ix2 0 k) := by
  obtain ⟨Q, hQ⟩ : ∃ Q : FVec Ideal S1000000 .f32,
      Q = shapeCast S1000000 (extractStridedSlice S1x1000000 ![0, 0] P slices_S32x1000000_S1x1000000_0_0) shapeCasts_S1x1000000_S1000000 := ⟨_, rfl⟩
  have hQk : ∀ k : Fin 1000000, Q (ix1 k) = P (ix2 0 k) := fun k => by rw [hQ]; exact first_row P k
  have e : StableHlo.after entropy0 V (Proc.devRef .tc main_v40) =
      Host.negf (Host.reduceAdd (select (cmpf .ogt Q (broadcastInDim S1000000 ![] bcast_S_S1000000 (constant S_ .f32 0x00000000#32)))
        (mulf Q (Host.log (select (cmpf .ogt Q (broadcastInDim S1000000 ![] bcast_S_S1000000 (constant S_ .f32 0x00000000#32))) Q
          (broadcastInDim S1000000 ![] bcast_S_S1000000 (constant S_ .f32 0x3F800000#32)))))
        (broadcastInDim S1000000 ![] bcast_S_S1000000 (constant S_ .f32 0x00000000#32))) (constant S_ .f32 0x00000000#32) reducesTo_S1000000_S_d0 h_S_) := by
    rw [hQ, ← hP]
    unfold entropy0; after_reads_simp
    rfl
  rw [e]
  have key : ∀ (a : FVec Ideal S_ .f32), Host.negf a j = -(a j : EReal) := fun _ => rfl
  rw [key, reduce_all, entropy]
  refine congrArg (fun z : EReal => -z) (Finset.sum_congr rfl fun k _ => ?_)
  rw [← hQk]
  exact term_at Q k

end Cert.ReferenceIdeal.Ref
-- ==== Proof.RefEnds.lean ====
/- What the reference's line leaves in its three results. -/
module

public import proofs.«01_k».proof.Proof.RefArgmax
public import proofs.«01_k».proof.Proof.RefSoft

@[expose] public section

set_option maxRecDepth 16384

noncomputable section

namespace Cert.ReferenceIdeal.Ref

open Cert.ReferenceIdeal Cert.ReferenceIdeal.Gen
open Idealize.ShloMosaic Idealize.ShloMosaic.StableHlo
open Cert.Draw

variable (V : Valuation τ sig (Elt Ideal)) (X : FVec Ideal S32x1000000 .f32) (hX : V (Proc.devRef .tc main_arg0) = X)

/-- The line is its hash and noise, then the argmax, the softmax and the entropy. -/
theorem ops_eq : StableHlo.after ops V
    = StableHlo.after entropy0 (StableHlo.after soft0 (StableHlo.after argmax0 (scored V))) := by
  rw [ops, parts]
  simp only [List.flatten_cons, List.flatten_nil, List.append_nil, StableHlo.after_append]
  rfl

include hX in
/-- The probabilities before the entropy is taken. -/
theorem soft_end : StableHlo.after soft0 (StableHlo.after argmax0 (scored V)) (Proc.devRef .tc main_v28)
    = fun j : S32x1000000.Idx => prob X (j 0) (j 1) := by
  have h : StableHlo.after argmax0 (scored V) (Proc.devRef .tc main_v1) = X := by
    rw [StableHlo.after_unwritten argmax0_W argmax0_writes (by decide), (scored_reads V).2, hX]
  funext j
  have e := soft0_reads (V := StableHlo.after argmax0 (scored V)) X h (j 0) (j 1)
  rwa [show (ix2 (j 0) (j 1) : S32x1000000.Idx) = j from by funext a; fin_cases a <;> rfl] at e

include hX in
/-- The columns drawn. -/
theorem end_draw (r : Fin 32) : ∃ c : Fin 1000000, Best (fun k => (X (ix2 r k) + gum (word (cnt (ix2 r k))) : EReal)) c
    ∧ StableHlo.after ops V (Proc.devRef .tc main_v17) (ix1 r) = BitVec.ofNat 32 c.val := by
  obtain ⟨Y, hY⟩ : ∃ Y : FVec Ideal S32x1000000 .f32, Y = fun j => (gum (word (cnt j)) + X j : EReal) := ⟨_, rfl⟩
  have h : scored V (Proc.devRef .tc main_v16) = Y := by rw [(scored_reads V).1, hX, hY]
  obtain ⟨c, hc, e⟩ := argmax0_reads (V := scored V) Y h r
  refine ⟨c, ?_, ?_⟩
  · have ey : (fun k : Fin 1000000 => (Y (ix2 r k) : EReal)) = fun k => (X (ix2 r k) + gum (word (cnt (ix2 r k))) : EReal) :=
      funext fun k => (congrFun hY (ix2 r k)).trans (add_comm _ _)
    rw [← ey]
    exact hc
  · rw [ops_eq, StableHlo.after_unwritten entropy0_W entropy0_writes (by decide), StableHlo.after_unwritten soft0_W soft0_writes (by decide)]
    exact e

include hX in
/-- The probabilities. -/
theorem end_prob : StableHlo.after ops V (Proc.devRef .tc main_v28) = fun j : S32x1000000.Idx => prob X (j 0) (j 1) := by
  rw [ops_eq, StableHlo.after_unwritten entropy0_W entropy0_writes (by decide)]
  exact soft_end V X hX

include hX in
/-- The entropy. -/
theorem end_entropy (j : S_.Idx) : StableHlo.after ops V (Proc.devRef .tc main_v40) j = entropy fun k => prob X 0 k := by
  rw [ops_eq]
  exact entropy0_reads _ (soft_end V X hX) j

end Cert.ReferenceIdeal.Ref
-- ==== Proof.Stats.lean ====
/- The kernel's calls as arithmetic: what each computes from the arrays it reads, row by row. -/
module

public import proofs.«01_k».proof.Proof.Dats
public import Idealize.ShloMosaic.Lib.Pointwise

@[expose] public section

set_option maxRecDepth 16384

noncomputable section

namespace Cert.KernelIdeal.Stats

open Cert.KernelIdeal Cert.KernelIdeal.Gen Cert.KernelIdeal.Body
open Idealize.ShloMosaic

variable (i : grid1.Coords) (x g : FVec Ideal S32x65536 .f32)

/-- The word for minus infinity. -/
theorem ofBits_bot : (Scalar.ofBits .f32 0xFF800000#32 : Ideal .f32) = (⊥ : EReal) := by
  show Ideal.ofBits .f32 0xFF800000#32 = _
  simp [Ideal.ofBits, Ideal.ieee]

/-- Lane `k` of the point's block is a column of the array. -/
def Valid (i : grid1.Coords) (k : Fin 65536) : Prop := (i 0).val * 65536 + k.val < 1000000

/-- Which columns count can be decided. -/
instance (i : grid1.Coords) (k : Fin 65536) : Decidable (Valid i k) := inferInstanceAs (Decidable (_ < _))

/-- A choice by the mask of valid lanes. -/
theorem select_valid {φ} (a b : FVec Ideal S32x65536 φ) (r : Fin 32) (k : Fin 65536) :
    select (k1_pay7 i) a b (ix2 r k) = if Valid i k then a (ix2 r k) else b (ix2 r k) := by
  have key : select (k1_pay7 i) a b (ix2 r k) = if k1_pay7 i (ix2 r k) = 1 then a (ix2 r k) else b (ix2 r k) := rfl
  rw [key]
  exact if_congr (valid_iff i (ix2 r k)) rfl rfl

/-- The block of logits with the lanes past the end emptied. -/
theorem pay11_at (r : Fin 32) (k : Fin 65536) :
    k1_pay11 (F := Ideal) i x (ix2 r k) = if Valid i k then x (ix2 r k) else (⊥ : EReal) := by
  unfold k1_pay11
  refine (select_valid i _ _ r k).trans ?_
  rw [← ofBits_bot]; rfl

/-- The block of scores with the lanes past the end emptied. -/
theorem pay8_at (r : Fin 32) (k : Fin 65536) :
    k1_pay8 (F := Ideal) i x g (ix2 r k) = if Valid i k then (x (ix2 r k) + g (ix2 r k) : EReal) else ⊥ := by
  unfold k1_pay8
  refine (select_valid i _ _ r k).trans ?_
  rw [shapeCast_self, ← ofBits_bot]; rfl

/-- A row's greatest entry. -/
theorem max_at (v : FVec Ideal S32x65536 .f32) (r : Fin 32) (u : Fin 1) :
    shapeCast S32x1 (multiReduction .maximumf [1] S32 v 0xFF800000#32 reduces_S32x65536_S32 (.inl rfl) rfl) shapeCasts_S32_S32x1 (ix2 r u)
      = Finset.univ.fold max (⊥ : EReal) fun k : Fin 65536 => v (ix2 r k) := by
  rw [← ofBits_bot]
  pointwise

/-- A row's sum. -/
theorem sum_at (v : FVec Ideal S32x65536 .f32) (r : Fin 32) (u : Fin 1) :
    shapeCast S32x1 (multiReduction .add [1] S32 v 0x00000000#32 reduces_S32x65536_S32 (.inl rfl) rfl) shapeCasts_S32_S32x1 (ix2 r u)
      = ∑ k : Fin 65536, (v (ix2 r k) : EReal) := by
  pointwise

/-- A row's number at each of its lanes. -/
theorem spread_at (v : FVec Ideal S32x1 .f32) (r : Fin 32) (k : Fin 65536) :
    broadcastTo S32x65536 v broadcasts_S32x1_S32x65536 (ix2 r k) = v (ix2 r 0) := by
  pointwise

/-- The block's greatest logit. -/
theorem pay12_at (r : Fin 32) (u : Fin 1) : k1_pay12 (F := Ideal) i x (ix2 r u)
    = Finset.univ.fold max (⊥ : EReal) fun k : Fin 65536 => k1_pay11 (F := Ideal) i x (ix2 r k) := by
  unfold k1_pay12
  exact max_at _ r u

/-- The block's greatest score. -/
theorem pay9_at (r : Fin 32) (u : Fin 1) : k1_pay9 (F := Ideal) i x g (ix2 r u)
    = Finset.univ.fold max (⊥ : EReal) fun k : Fin 65536 => k1_pay8 (F := Ideal) i x g (ix2 r k) := by
  unfold k1_pay9
  exact max_at _ r u

/-- The exponentials. -/
theorem pay13_at (r : Fin 32) (k : Fin 65536) : k1_pay13 (F := Ideal) i x (ix2 r k)
    = Ideal.exp (k1_pay11 (F := Ideal) i x (ix2 r k) - k1_pay12 (F := Ideal) i x (ix2 r 0) : EReal) := by
  unfold k1_pay13
  have key : ∀ a b : FVec Ideal S32x65536 .f32, exp (subf a b) (ix2 r k) = Ideal.exp (a (ix2 r k) - b (ix2 r k) : EReal) := fun _ _ => rfl
  refine (key _ _).trans ?_
  rw [spread_at]

/-- The block's sum of exponentials. -/
theorem pay14_at (r : Fin 32) (u : Fin 1) : k1_pay14 (F := Ideal) i x (ix2 r u)
    = ∑ k : Fin 65536, (k1_pay13 (F := Ideal) i x (ix2 r k) : EReal) := by
  unfold k1_pay14
  exact sum_at _ r u

/-- The first of the eight rows of a column put above twenty-four others. -/
theorem stack_at (v : FVec Ideal S8x1 .f32) (w : FVec Ideal S24x1 .f32) :
    concatenate S32x1 0 [⟨S8x1, v⟩, ⟨S24x1, w⟩] concatenates_S8x1_S24x1_S32x1_d0 (ix2 0 0) = v (ix2 0 0) := by
  pointwise

/-- The sum of the first of eight rows. -/
theorem sum8_at (v : FVec Ideal S8x65536 .f32) :
    shapeCast S8x1 (multiReduction .add [1] S8 v 0x00000000#32 reduces_S8x65536_S8 (.inl rfl) rfl) shapeCasts_S8_S8x1 (ix2 0 0)
      = ∑ k : Fin 65536, (v (ix2 0 k) : EReal) := by
  pointwise

/-- The first eight rows of a block. -/
theorem top8_at {α : Type} (v : S32x65536.Idx → α) (k : Fin 65536) :
    extractStridedSlice S8x65536 ![0, 0] v slices_S32x65536_o0_0_S8x65536 (ix2 0 k) = v (ix2 0 k) := by
  pointwise

/-- The first row's sum of logits times exponentials. -/
theorem pay15_at : k1_pay15 (F := Ideal) i x (ix2 0 0)
    = ∑ k : Fin 65536, ((if Valid i k then x (ix2 0 k) else 0) * k1_pay13 (F := Ideal) i x (ix2 0 k) : EReal) := by
  unfold k1_pay15
  refine (stack_at _ _).trans ((sum8_at _).trans (Finset.sum_congr rfl fun k _ => ?_))
  have key : ∀ (p : IVec S8x65536 1) (a b c : FVec Ideal S8x65536 .f32), mulf (select p a b) c (ix2 0 k)
      = ((if p (ix2 0 k) = 1 then a (ix2 0 k) else b (ix2 0 k)) * c (ix2 0 k) : EReal) := fun _ _ _ _ => rfl
  refine (key _ _ _ _).trans ?_
  rw [top8_at, top8_at, top8_at, ← Ideal.ofBits_zero_f32]
  exact congrArg (fun z : EReal => z * _) (if_congr (valid_iff i (ix2 0 k)) rfl rfl)

/-- The probabilities' call: an exponential times one over the sum. -/
theorem prob_at (m s : FVec Ideal S32x1 .f32) (r : Fin 32) (k : Fin 65536) :
    k3_pay1 (F := Ideal) x m s (ix2 r k) = (Ideal.exp (x (ix2 r k) - m (ix2 r 0)) * s (ix2 r 0) : EReal) := by
  unfold k3_pay1
  have key : ∀ a b c : FVec Ideal S32x65536 .f32, mulf (exp (subf a b)) c (ix2 r k) = (Ideal.exp (a (ix2 r k) - b (ix2 r k)) * c (ix2 r k) : EReal) := fun _ _ _ => rfl
  refine (key _ _ _).trans ?_
  rw [spread_at, spread_at, shapeCast_self, shapeCast_self]

end Cert.KernelIdeal.Stats
-- ==== Proof.Picks.lean ====
/- How the kernel finds the first column at which a row is greatest. -/
module

public import proofs.«01_k».proof.Proof.Stats
public import proofs.«01_k».proof.Proof.RefArgmax

@[expose] public section

set_option maxRecDepth 16384

noncomputable section

namespace Cert.Draw

open Idealize.ShloMosaic

/-- The smaller of two small words is the word of the smaller number. -/
theorem minsi_small (a b : ℕ) (ha : a < 2 ^ 31) (hb : b < 2 ^ 31) :
    IntOp.minsi (BitVec.ofNat 32 a) (BitVec.ofNat 32 b) = BitVec.ofNat 32 (min a b) := by
  have ea : (BitVec.ofNat 32 a).toInt = a := by
    rw [BitVec.toInt_eq_toNat_of_lt (by rw [BitVec.toNat_ofNat]; omega), BitVec.toNat_ofNat, Nat.mod_eq_of_lt (by omega)]
  have eb : (BitVec.ofNat 32 b).toInt = b := by
    rw [BitVec.toInt_eq_toNat_of_lt (by rw [BitVec.toNat_ofNat]; omega), BitVec.toNat_ofNat, Nat.mod_eq_of_lt (by omega)]
  unfold IntOp.minsi
  rw [BitVec.slt_eq_decide, ea, eb]
  by_cases h : a < b
  · rw [min_eq_left h.le]; simp [h]
  · rw [min_eq_right (not_lt.mp h)]; simp [h]

/-- The least of small words is the word of the least number. -/
theorem minsi_fold {n : ℕ} (h : Fin n → ℕ) (hh : ∀ k, h k < 2 ^ 31) (s : Finset (Fin n)) :
    s.fold min (2 ^ 31 - 1) h < 2 ^ 31 ∧
      s.fold IntOp.minsi (2147483647#32) (fun k => BitVec.ofNat 32 (h k)) = BitVec.ofNat 32 (s.fold min (2 ^ 31 - 1) h) := by
  classical
  induction s using Finset.induction_on with
  | empty => exact ⟨by simp, rfl⟩
  | insert k s hk ih =>
    rw [Finset.fold_insert hk, Finset.fold_insert hk, ih.2, minsi_small _ _ (hh k) ih.1]
    exact ⟨lt_of_le_of_lt (min_le_left _ _) (hh k), rfl⟩

/-- The least of small words is the one that is below all others. -/
theorem minsi_least {n : ℕ} (h : Fin n → ℕ) (hh : ∀ k, h k < 2 ^ 31) (c : Fin n) (hc : ∀ k, h c ≤ h k) :
    Finset.univ.fold IntOp.minsi (2147483647#32) (fun k => BitVec.ofNat 32 (h k)) = BitVec.ofNat 32 (h c) := by
  rw [(minsi_fold h hh _).2]
  congr 1
  apply le_antisymm
  · exact Finset.fold_min_le _ |>.mpr (Or.inr ⟨c, Finset.mem_univ _, le_rfl⟩)
  · exact Finset.le_fold_min _ |>.mpr ⟨by have := hh c; omega, fun k _ => hc k⟩

/-- A row that is not empty has a first greatest place. -/
theorem exists_best {n : ℕ} (f : Fin n → EReal) (k0 : Fin n) : ∃ c, Best f c := by
  obtain ⟨m, -, hm⟩ := Finset.exists_max_image Finset.univ f ⟨k0, Finset.mem_univ _⟩
  have hne : (Finset.univ.filter fun k => f k = f m).Nonempty := ⟨m, by simp⟩
  refine ⟨(Finset.univ.filter fun k => f k = f m).min' hne, ?_, ?_⟩
  all_goals
    have e : f ((Finset.univ.filter fun k => f k = f m).min' hne) = f m := (Finset.mem_filter.mp (Finset.min'_mem _ hne)).2
    intro k
    rw [e]
  · exact hm k (Finset.mem_univ _)
  · intro h
    exact Finset.min'_le _ _ (by simp [h])

/-- The greatest number of a row is the one at its first greatest place. -/
theorem Best.fold_eq {n : ℕ} {f : Fin n → EReal} {c : Fin n} (hc : Best f c) : Finset.univ.fold max (⊥ : EReal) f = f c := by
  apply le_antisymm
  · exact Finset.fold_max_le _ |>.mpr ⟨bot_le, fun k _ => hc.top k⟩
  · exact Finset.le_fold_max _ |>.mpr (Or.inr ⟨c, Finset.mem_univ _, le_rfl⟩)

end Cert.Draw

namespace Cert.KernelIdeal.Stats

open Cert.KernelIdeal Cert.KernelIdeal.Gen Cert.KernelIdeal.Body
open Idealize.ShloMosaic
open Cert.Draw

variable (i : grid1.Coords) (x g : FVec Ideal S32x65536 .f32)

/-- A row's least word. -/
theorem least_at (v : IVec S32x65536 32) (r : Fin 32) (u : Fin 1) :
    shapeCast S32x1 (multiReductionI .minsi [1] S32 v 2147483647#32 reduces_S32x65536_S32 rfl) shapeCasts_S32_S32x1 (ix2 r u)
      = Finset.univ.fold IntOp.minsi (2147483647#32) fun k : Fin 65536 => v (ix2 r k) := by
  pointwise

/-- A lane's column number. -/
theorem pay6_at (r : Fin 32) (k : Fin 65536) : k1_pay6 i (ix2 r k) = BitVec.ofNat 32 ((i 0).val * 65536 + k.val) := by
  have hi : (i 0).val < 16 := (i 0).isLt
  have hj : k.val < 65536 := k.isLt
  show IntOp.addi (BitVec.ofNat 32 (0 * 65536 + k.val)) (IntOp.muli (BitVec.ofNat 32 (i 0).val) 65536#32) = _
  unfold IntOp.addi IntOp.muli
  apply BitVec.eq_of_toNat_eq
  simp only [BitVec.toNat_add, BitVec.toNat_mul, BitVec.toNat_ofNat]
  omega

/-- A choice by equality of two numbers. -/
theorem select_oeq {s : Shape} (a b : FVec Ideal s .f32) (p q : IVec s 32) (j : s.Idx) :
    select (cmpf .oeq a b) p q j = if (a j : EReal) = b j then p j else q j := by
  have key : select (cmpf .oeq a b) p q j = Scalar.select (Ideal.cmp .oeq (a j) (b j)) (p j) (q j) := rfl
  rw [key]
  by_cases h : (a j : EReal) = b j <;> simp [Ideal.cmp, Scalar.select, h]

/-- The column a block chooses is its first valid one at which the score is greatest. -/
theorem pay10_at (r : Fin 32) (u : Fin 1) : ∃ k : Fin 65536, Valid i k ∧ Best (fun k => (k1_pay8 (F := Ideal) i x g (ix2 r k) : EReal)) k
    ∧ k1_pay10 (F := Ideal) i x g (ix2 r u) = BitVec.ofNat 32 ((i 0).val * 65536 + k.val) := by
  have hi : (i 0).val < 16 := (i 0).isLt
  obtain ⟨c, hc⟩ := exists_best (fun k => (k1_pay8 (F := Ideal) i x g (ix2 r k) : EReal)) 0
  have hv : Valid i c := by
    by_contra hn
    have e : (k1_pay8 (F := Ideal) i x g (ix2 r c) : EReal) = ⊥ := by rw [pay8_at, if_neg hn]
    have e0 : c ≤ 0 := hc.first 0 ((le_bot_iff.mp ((hc.top 0).trans (le_of_eq e))).trans e.symm)
    have e1 : c.val ≤ 0 := e0
    apply hn
    unfold Valid
    omega
  refine ⟨c, hv, hc, ?_⟩
  have hv' : (i 0).val * 65536 + c.val < 1000000 := hv
  unfold k1_pay10
  refine (least_at _ r u).trans ?_
  let h : Fin 65536 → ℕ := fun k => if (k1_pay8 (F := Ideal) i x g (ix2 r k) : EReal) = k1_pay8 (F := Ideal) i x g (ix2 r c) then (i 0).val * 65536 + k.val else 1000000
  have e : ∀ k : Fin 65536, select (cmpf .oeq (k1_pay8 (F := Ideal) i x g) (broadcastTo S32x65536 (k1_pay9 i x g) broadcasts_S32x1_S32x65536))
      (k1_pay6 i) (broadcast S32x65536 1000000#32) (ix2 r k) = BitVec.ofNat 32 (h k) := by
    intro k
    rw [select_oeq, spread_at, pay9_at, hc.fold_eq, pay6_at]
    exact (apply_ite (BitVec.ofNat 32) _ _ _).symm
  have hc' : h c = (i 0).val * 65536 + c.val := if_pos rfl
  rw [← hc']
  refine (congrArg (Finset.fold IntOp.minsi (2147483647#32) · Finset.univ) (funext e)).trans (minsi_least h ?_ c ?_)
  · intro k
    have := k.isLt
    simp only [h]
    split <;> omega
  · intro k
    rw [hc']
    simp only [h]
    split
    · next hk =>
      have : c.val ≤ k.val := hc.first k hk
      omega
    · omega

end Cert.KernelIdeal.Stats
-- ==== Proof.Combine.lean ====
/- The kernel's combining call as arithmetic: the sixteen blocks' statistics of a row put together. -/
module

public import proofs.«01_k».proof.Proof.Picks

@[expose] public section

set_option maxRecDepth 16384

noncomputable section

namespace Cert.KernelIdeal.Stats

open Cert.KernelIdeal Cert.KernelIdeal.Gen Cert.KernelIdeal.Body
open Idealize.ShloMosaic
open Cert.Draw

variable (bm bs : FVec Ideal S16x32x1 .f32) (bi : IVec S16x32x1 32)

/-- The greatest over the blocks. -/
theorem blockmax_at (v : FVec Ideal S16x32x1 .f32) (r : Fin 32) (u : Fin 1) :
    multiReduction .maximumf [0] S32x1 v 0xFF800000#32 reduces_S16x32x1_S32x1 (.inl rfl) rfl (ix2 r u)
      = Finset.univ.fold max (⊥ : EReal) fun b : Fin 16 => v (ix3 b r u) := by
  rw [← ofBits_bot]
  obtain rfl : u = 0 := Subsingleton.elim _ _
  pointwise

/-- The sum over the blocks. -/
theorem blocksum_at (v : FVec Ideal S16x32x1 .f32) (r : Fin 32) (u : Fin 1) :
    multiReduction .add [0] S32x1 v 0x00000000#32 reduces_S16x32x1_S32x1 (.inl rfl) rfl (ix2 r u)
      = ∑ b : Fin 16, (v (ix3 b r u) : EReal) := by
  obtain rfl : u = 0 := Subsingleton.elim _ _
  pointwise

/-- The least over the blocks. -/
theorem blockleast_at (v : IVec S16x32x1 32) (r : Fin 32) (u : Fin 1) :
    multiReductionI .minsi [0] S32x1 v 2147483647#32 reduces_S16x32x1_S32x1 rfl (ix2 r u)
      = Finset.univ.fold IntOp.minsi (2147483647#32) fun b : Fin 16 => v (ix3 b r u) := by
  obtain rfl : u = 0 := Subsingleton.elim _ _
  pointwise

/-- The sum of words over the blocks. -/
theorem blockadd_at (v : IVec S16x32x1 32) (r : Fin 32) (u : Fin 1) :
    multiReductionI .add [0] S32x1 v 0#32 reduces_S16x32x1_S32x1 rfl (ix2 r u)
      = Finset.univ.fold IntOp.addi (0#32) fun b : Fin 16 => v (ix3 b r u) := by
  obtain rfl : u = 0 := Subsingleton.elim _ _
  pointwise

/-- A row's number at each of its blocks. -/
theorem blockspread_at {φ} (v : FVec Ideal S32x1 φ) (b : Fin 16) (r : Fin 32) (u : Fin 1) :
    broadcastTo S16x32x1 (shapeCast S1x32x1 v shapeCasts_S32x1_S1x32x1) broadcasts_S1x32x1_S16x32x1 (ix3 b r u) = v (ix2 r u) := by
  obtain rfl : u = 0 := Subsingleton.elim _ _
  pointwise

/-- A row's word at each of its blocks. -/
theorem blockspreadI_at (v : IVec S32x1 32) (b : Fin 16) (r : Fin 32) (u : Fin 1) :
    broadcastTo S16x32x1 (shapeCast S1x32x1 v shapeCasts_S32x1_S1x32x1) broadcasts_S1x32x1_S16x32x1 (ix3 b r u) = v (ix2 r u) := by
  obtain rfl : u = 0 := Subsingleton.elim _ _
  pointwise

/-- A column at its three-dimensional place. -/
theorem lift_at {φ} (v : FVec Ideal S32x1 φ) (r : Fin 32) :
    shapeCast S1x32x1 v shapeCasts_S32x1_S1x32x1 (ix3 0 r 0) = v (ix2 r 0) := by
  pointwise

/-- A column of words at its three-dimensional place. -/
theorem liftI_at (v : IVec S32x1 32) (r : Fin 32) :
    shapeCast S1x32x1 v shapeCasts_S32x1_S1x32x1 (ix3 0 r 0) = v (ix2 r 0) := by
  pointwise

/-- The greatest entry of a row. -/
theorem comb_max (r : Fin 32) (u : Fin 1) : k2_pay4 (F := Ideal) bm (ix2 r u)
    = Finset.univ.fold max (⊥ : EReal) fun b : Fin 16 => bm (ix3 b r u) := by
  unfold k2_pay4 k2_pay3
  refine (blockmax_at _ r u).trans ?_
  rw [shapeCast_self]

/-- A block's weight. -/
theorem comb_weight (b : Fin 16) (r : Fin 32) (u : Fin 1) : k2_pay5 (F := Ideal) bm (ix3 b r u)
    = Ideal.exp (bm (ix3 b r u) - k2_pay4 (F := Ideal) bm (ix2 r u) : EReal) := by
  unfold k2_pay5
  have key : ∀ p q : FVec Ideal S16x32x1 .f32, exp (subf p q) (ix3 b r u) = Ideal.exp (p (ix3 b r u) - q (ix3 b r u) : EReal) := fun _ _ => rfl
  refine (key _ _).trans ?_
  rw [blockspread_at]
  unfold k2_pay3
  rw [shapeCast_self]

/-- The weighted sum of the blocks' sums. -/
theorem comb_sum (r : Fin 32) (u : Fin 1) : k2_pay6 (F := Ideal) bm bs (ix2 r u)
    = ∑ b : Fin 16, (bs (ix3 b r u) * k2_pay5 (F := Ideal) bm (ix3 b r u) : EReal) := by
  unfold k2_pay6
  refine (blocksum_at _ r u).trans ?_
  refine Finset.sum_congr rfl fun b _ => ?_
  rw [shapeCast_self]
  rfl

/-- The weighted sum of the blocks' second sums. -/
theorem comb_sum' (r : Fin 32) (u : Fin 1) : k2_pay7 (F := Ideal) bm bs (ix2 r u)
    = ∑ b : Fin 16, (bs (ix3 b r u) * k2_pay5 (F := Ideal) bm (ix3 b r u) : EReal) := comb_sum bm bs r u

/-- One over the sum. -/
theorem comb_inv (s : FVec Ideal S32x1 .f32) (r : Fin 32) (u : Fin 1) : k2_pay1 (F := Ideal) s (ix2 r u)
    = Ideal.div 1 (s (ix2 r u)) := by
  have key : k2_pay1 (F := Ideal) s (ix2 r u) = Ideal.div (Ideal.ofBits .f32 0x3F800000#32) (s (ix2 r u)) := rfl
  rw [key, Ideal.ofBits_one_f32]

/-- The entropy. -/
theorem comb_entropy (m s t : FVec Ideal S32x1 .f32) (r : Fin 32) (u : Fin 1) : k2_pay2 (F := Ideal) m s t (ix2 r u)
    = (m (ix2 r u) + Ideal.log (s (ix2 r u)) - Ideal.div (t (ix2 r u)) (s (ix2 r u)) : EReal) := rfl

/-- A choice by equality of two words. -/
theorem select_eqI {s : Shape} (a b p q : IVec s 32) (j : s.Idx) :
    select (cmpi .eq a b) p q j = if a j = b j then p j else q j := by
  have key : select (cmpi .eq a b) p q j = Scalar.select (IntOp.cmpi .eq (a j) (b j)) (p j) (q j) := rfl
  rw [key]
  by_cases h : a j = b j
  · simp [IntOp.cmpi, Scalar.select, h]
  · have h' : (a j == b j) = false := by simpa using h
    simp [IntOp.cmpi, Scalar.select, h, h']

/-- A sum of words of which all but one are zero. -/
theorem add_single {n : ℕ} (f : Fin n → BitVec 32) (c : Fin n) (hc : ∀ b, b ≠ c → f b = 0#32) :
    Finset.univ.fold IntOp.addi (0#32) f = f c := by
  classical
  have key : ∀ s : Finset (Fin n), s.fold IntOp.addi (0#32) f = if c ∈ s then f c else 0#32 := by
    intro s
    induction s using Finset.induction_on with
    | empty => rfl
    | insert b s hb ih =>
      rw [Finset.fold_insert hb, ih]
      by_cases e : b = c
      · subst e
        rw [if_neg hb, if_pos (Finset.mem_insert_self _ _)]
        exact BitVec.add_zero _
      · rw [hc b e]
        have : c ∈ insert b s ↔ c ∈ s := by simp [Finset.mem_insert, Ne.symm e]
        simp only [this]
        exact BitVec.zero_add _
  rw [key, if_pos (Finset.mem_univ _)]

/-- A block's number. -/
theorem blockno_at (b : Fin 16) (r : Fin 32) (u : Fin 1) :
    iota .tc S16x32x1 32 [0] iota_S16x32x1_d0_w32 (ix3 b r u) = BitVec.ofNat 32 b.val := by
  show BitVec.ofNat 32 (0 * 16 + b.val) = _
  rw [Nat.zero_mul, Nat.zero_add]

/-- The column drawn is the one chosen by the first block at which the greatest score is greatest. -/
theorem comb_draw (bv : FVec Ideal S16x32x1 .f32) (r : Fin 32) (u : Fin 1) (c : Fin 16)
    (hc : Best (fun b => (bv (ix3 b r u) : EReal)) c) : k2_pay8 (F := Ideal) bv bi (ix2 r u) = bi (ix3 c r u) := by
  unfold k2_pay8
  refine (blockadd_at _ r u).trans ?_
  simp only [shapeCast_self]
  obtain ⟨w, hw⟩ : ∃ w, w = multiReductionI .minsi [0] S32x1 (select (cmpf .oeq bv (broadcastTo S16x32x1 (shapeCast S1x32x1 (multiReduction .maximumf [0] S32x1 bv 0xFF800000#32 reduces_S16x32x1_S32x1 (.inl rfl) rfl) shapeCasts_S32x1_S1x32x1) broadcasts_S1x32x1_S16x32x1))
      (iota .tc S16x32x1 32 [0] iota_S16x32x1_d0_w32) (broadcast S16x32x1 16#32)) 2147483647#32 reduces_S16x32x1_S32x1 rfl := ⟨_, rfl⟩
  have e : w (ix2 r u) = BitVec.ofNat 32 c.val := by
    rw [hw, blockleast_at]
    let h : Fin 16 → ℕ := fun b => if (bv (ix3 b r u) : EReal) = bv (ix3 c r u) then b.val else 16
    have hc' : h c = c.val := if_pos rfl
    rw [← hc']
    refine (congrArg (Finset.fold IntOp.minsi (2147483647#32) · Finset.univ) (funext fun b => ?_)).trans (minsi_least h ?_ c ?_)
    · rw [select_oeq, blockspread_at, blockmax_at, hc.fold_eq, blockno_at]
      exact (apply_ite (BitVec.ofNat 32) _ _ _).symm
    · intro k
      have := k.isLt
      simp only [h]
      split <;> omega
    · intro k
      have := c.isLt
      rw [hc']
      simp only [h]
      split
      · next hk => exact hc.first k hk
      · omega
  rw [← hw]
  have e2 : ∀ b : Fin 16, select (cmpi .eq (iota .tc S16x32x1 32 [0] iota_S16x32x1_d0_w32) (broadcastTo S16x32x1 (shapeCast S1x32x1 w shapeCasts_S32x1_S1x32x1) broadcasts_S1x32x1_S16x32x1))
      bi (broadcast S16x32x1 0#32) (ix3 b r u) = if b = c then bi (ix3 b r u) else 0#32 := by
    intro b
    rw [select_eqI, blockspreadI_at, blockno_at, e]
    refine if_congr ?_ rfl rfl
    constructor
    · intro h
      have h' := congrArg BitVec.toNat h
      have := b.isLt
      have := c.isLt
      rw [BitVec.toNat_ofNat, BitVec.toNat_ofNat, Nat.mod_eq_of_lt (by omega), Nat.mod_eq_of_lt (by omega)] at h'
      exact Fin.ext h'
    · rintro rfl; rfl
  refine (congrArg (Finset.fold IntOp.addi (0#32) · Finset.univ) (funext e2)).trans ?_
  rw [add_single _ c fun b hb => if_neg hb, if_pos rfl]

end Cert.KernelIdeal.Stats
-- ==== Proof.Table.lean ====
/- The table's call, one word at a time: what a trip of its loop leaves at a column is the Gumbel noise of the hashed
   counter of that row and column. -/
module

public import proofs.«01_k».proof.Proof.Bodies
public import proofs.«01_k».proof.Proof.Draw
public import Idealize.ShloMosaic.Lib.Pointwise

@[expose] public section

set_option maxRecDepth 16384

noncomputable section

namespace Cert.KernelIdeal.Table

open Cert.KernelIdeal Cert.KernelIdeal.Gen Cert.KernelIdeal.Body
open Idealize.ShloMosaic
open Cert.Draw
open Idealize.ShloMosaic.Ideal

variable (v0 : BitVec 32) (v5 : IVec S32x512 32) (k : Fin k0_t1_loop.trips) (j : S32x512.Idx)

/-- The first part of a trip: five rounds from the counter plus 42. -/
theorem part1 (y : BitVec 32) (hy : k0_pay2 v0 v5 0#32 1#32 k j = y) :
    k0_pay11 v0 v5 0#32 1#32 k j = (rnd 17 15 (g1 (0#32, y))).2
      ∧ k0_pay12 v0 v5 0#32 1#32 k j = (rnd 17 15 (g1 (0#32, y))).1 + (rnd 17 15 (g1 (0#32, y))).2 := by
  have e3 : k0_pay3 v0 v5 0#32 1#32 k j = (rnd 13 19 (0#32, y)).2 := by
    have h : k0_pay3 v0 v5 0#32 1#32 k j = k0_pay2 v0 v5 0#32 1#32 k j ^^^ rot (k0_pay2 v0 v5 0#32 1#32 k j) 13 19 := rfl
    rw [h, hy]; unfold rnd; simp only [BitVec.zero_add]
  have s1 : k0_pay3 v0 v5 0#32 1#32 k j = (rnd 13 19 (0#32, y)).2
      ∧ k0_pay4 v0 v5 0#32 1#32 k j = (rnd 13 19 (0#32, y)).1 + (rnd 13 19 (0#32, y)).2 := by
    refine ⟨e3, ?_⟩
    have h : k0_pay4 v0 v5 0#32 1#32 k j = k0_pay2 v0 v5 0#32 1#32 k j + k0_pay3 v0 v5 0#32 1#32 k j := rfl
    rw [h, e3, hy]
    congr 1
    unfold rnd; simp only [BitVec.zero_add]
  have s2 := step (X' := k0_pay5 v0 v5 0#32 1#32 k) (S' := k0_pay6 v0 v5 0#32 1#32 k) (a := 15) (b := 17) s1 rfl rfl
  have s3 := step (X' := k0_pay7 v0 v5 0#32 1#32 k) (S' := k0_pay8 v0 v5 0#32 1#32 k) (a := 26) (b := 6) s2 rfl rfl
  have s4 := stepInj (X' := k0_pay9 v0 v5 0#32 1#32 k) (S' := k0_pay10 v0 v5 0#32 1#32 k) (a := 6) (b := 26) (k := 42) (k' := 466689009) s3 rfl rfl
  exact step (X' := k0_pay11 v0 v5 0#32 1#32 k) (S' := k0_pay12 v0 v5 0#32 1#32 k) (a := 17) (b := 15) s4 rfl rfl

/-- The second part: from the fifth round to the eleventh. -/
theorem part2 (X S : IVec S32x512 32) (p : BitVec 32 × BitVec 32) (h : X j = (rnd 17 15 p).2 ∧ S j = (rnd 17 15 p).1 + (rnd 17 15 p).2) :
    k0_pay23 X S j = (rnd 26 6 (rnd 15 17 (rnd 13 19 (g2 p)))).2
      ∧ k0_pay24 X S j = (rnd 26 6 (rnd 15 17 (rnd 13 19 (g2 p)))).1 + (rnd 26 6 (rnd 15 17 (rnd 13 19 (g2 p)))).2 := by
  have s1 := step (X' := k0_pay13 X S) (S' := k0_pay14 X S) (a := 29) (b := 3) h rfl rfl
  have s2 := step (X' := k0_pay15 X S) (S' := k0_pay16 X S) (a := 16) (b := 16) s1 rfl rfl
  have s3 := stepInj (X' := k0_pay17 X S) (S' := k0_pay18 X S) (a := 24) (b := 8) (k := 466689008) (k' := 2) s2 rfl rfl
  have s4 := step (X' := k0_pay19 X S) (S' := k0_pay20 X S) (a := 13) (b := 19) s3 rfl rfl
  have s5 := step (X' := k0_pay21 X S) (S' := k0_pay22 X S) (a := 15) (b := 17) s4 rfl rfl
  exact step (X' := k0_pay23 X S) (S' := k0_pay24 X S) (a := 26) (b := 6) s5 rfl rfl

/-- The third part: from the twelfth round to the sixteenth and its key words. -/
theorem part3 (X S : IVec S32x512 32) (p : BitVec 32 × BitVec 32)
    (h : X j = (rnd 26 6 (rnd 15 17 (rnd 13 19 p))).2 ∧ S j = (rnd 26 6 (rnd 15 17 (rnd 13 19 p))).1 + (rnd 26 6 (rnd 15 17 (rnd 13 19 p))).2) :
    k0_pay33 X S j = (g4 (g3 p)).2 ∧ k0_pay34 X S j = (g4 (g3 p)).1 + (g4 (g3 p)).2 := by
  have s1 := stepInj (X' := k0_pay25 X S) (S' := k0_pay26 X S) (a := 6) (b := 26) (k := 0) (k' := 45) h rfl rfl
  have s2 := step (X' := k0_pay27 X S) (S' := k0_pay28 X S) (a := 17) (b := 15) s1 rfl rfl
  have s3 := step (X' := k0_pay29 X S) (S' := k0_pay30 X S) (a := 29) (b := 3) s2 rfl rfl
  have s4 := step (X' := k0_pay31 X S) (S' := k0_pay32 X S) (a := 16) (b := 16) s3 rfl rfl
  exact stepInj (X' := k0_pay33 X S) (S' := k0_pay34 X S) (a := 24) (b := 8) (k := 42) (k' := 466689012) s4 rfl rfl

/-- The noise made of a block of words. -/
def noiseOf (w : IVec S32x512 32) : FVec Ideal S32x512 .f32 :=
  subf (broadcast S32x512 (Scalar.ofBits .f32 0x00000000#32)) (log (subf (broadcast S32x512 (Scalar.ofBits .f32 0x00000000#32))
    (log (maximumf (subf (bitcastToFloat .f32 (ori (shrui w (broadcast S32x512 9#32)) (broadcast S32x512 1065353216#32)))
      (broadcast S32x512 (Scalar.ofBits .f32 0x3F800000#32))) (broadcast S32x512 (Scalar.ofBits .f32 0x00800000#32))))))

/-- The noise at an index. -/
theorem noiseOf_at (w : IVec S32x512 32) (j : S32x512.Idx) : noiseOf w j = gum (w j) := by
  have e : noiseOf w j = Ideal.ofBits .f32 0x00000000#32 - Ideal.log (Ideal.ofBits .f32 0x00000000#32 - Ideal.log
        (max (Ideal.ofBits .f32 (((w j) >>> (9 : BitVec 32)) ||| 1065353216) - Ideal.ofBits .f32 0x3F800000#32)
          (Ideal.ofBits .f32 0x00800000#32))) := rfl
  rw [e, ofBits_zero_f32, ofBits_one_f32, zero_sub, zero_sub]
  rfl

/-- The last four rounds and the noise made of the word. -/
theorem part4 (X S : IVec S32x512 32) (Y : IVec S32x512 32) (p : BitVec 32 × BitVec 32) (h : X j = p.2 ∧ S j = p.1 + p.2)
    (hY : Y j = p.2 <<< (13 : BitVec 32)) :
    k0_pay36 (F := Ideal) X S Y j = gum ((g5 p).1 ^^^ (g5 p).2) := by
  obtain ⟨A, hA⟩ : ∃ A : IVec S32x512 32, A = xori S (ori Y (shrui X (broadcast S32x512 19#32))) := ⟨_, rfl⟩
  obtain ⟨B, hB⟩ : ∃ B : IVec S32x512 32, B = addi S A := ⟨_, rfl⟩
  have s1 := step (X' := A) (S' := B) (a := 13) (b := 19) h
    (by rw [hA]; show S j ^^^ (Y j ||| (X j >>> (19 : BitVec 32))) = _; rw [hY, h.1]; rfl) (by rw [hB]; rfl)
  obtain ⟨A2, hA2⟩ : ∃ A2 : IVec S32x512 32, A2 = xori B (ori (shli A (broadcast S32x512 15#32)) (shrui A (broadcast S32x512 17#32))) := ⟨_, rfl⟩
  obtain ⟨B2, hB2⟩ : ∃ B2 : IVec S32x512 32, B2 = addi B A2 := ⟨_, rfl⟩
  have s2 := step (X' := A2) (S' := B2) (a := 15) (b := 17) s1 (by rw [hA2]; rfl) (by rw [hB2]; rfl)
  obtain ⟨A3, hA3⟩ : ∃ A3 : IVec S32x512 32, A3 = xori B2 (ori (shli A2 (broadcast S32x512 26#32)) (shrui A2 (broadcast S32x512 6#32))) := ⟨_, rfl⟩
  obtain ⟨B3, hB3⟩ : ∃ B3 : IVec S32x512 32, B3 = addi B2 A3 := ⟨_, rfl⟩
  have s3 := step (X' := A3) (S' := B3) (a := 26) (b := 6) s2 (by rw [hA3]; rfl) (by rw [hB3]; rfl)
  have e : k0_pay36 (F := Ideal) X S Y = noiseOf (xori (addi B3 (broadcast S32x512 466689008#32))
      (addi (xori B3 (ori (shli A3 (broadcast S32x512 6#32)) (shrui A3 (broadcast S32x512 26#32)))) (broadcast S32x512 5#32))) := by
    subst hB3 hA3 hB2 hA2 hB hA
    rfl
  rw [e, noiseOf_at]
  refine congrArg gum ?_
  show (B3 j + 466689008#32) ^^^ ((B3 j ^^^ rot (A3 j) 6 26) + 5#32) = _
  rw [s3.1, s3.2]
  rfl

/-- A trip's block at an index: the noise of the counter its words start from. -/
theorem tripVal_at (i : grid0.Coords) (k : Fin k0_t1_loop.trips) (j : S32x512.Idx) (n : BitVec 32)
    (hn : k0_pay2 (Scalar.muli (BitVec.ofNat 32 (i 0).val) 65536#32) k0_pay1 0#32 1#32 k j = n + 42) :
    tripVal (F := Ideal) i k j = gum (word n) := by
  have h1 := part1 _ _ k j _ hn
  have h2 := part2 j _ _ _ h1
  have h3 := part3 j _ _ _ h2
  exact part4 j _ _ _ _ h3 (congrArg (· <<< (13 : BitVec 32)) h3.1)

/-- The counter a trip starts from at a row and a column. -/
theorem count_at (i : grid0.Coords) (k : Fin k0_t1_loop.trips) (j : S32x512.Idx) :
    k0_pay2 (Scalar.muli (BitVec.ofNat 32 (i 0).val) 65536#32) k0_pay1 0#32 1#32 k j
      = BitVec.ofNat 32 ((j 0).val * 1000000 + ((i 0).val * 65536 + (k.val * 512 + (j 1).val))) + 42 := by
  have e : k0_pay2 (Scalar.muli (BitVec.ofNat 32 (i 0).val) 65536#32) k0_pay1 0#32 1#32 k j
      = ((BitVec.ofNat 32 (j 0).val * 1000000#32 + BitVec.ofNat 32 (j 1).val)
          + (BitVec.ofNat 32 (i 0).val * 65536#32 + (0#32 + BitVec.ofNat 32 k.val * 1#32) * 512#32)) + 42#32 := by
    pointwise [k0_pay2, k0_pay1]
    rfl
  rw [e]
  congr 1
  simp only [BitVec.ofNat_add, BitVec.ofNat_mul, BitVec.zero_add, BitVec.mul_one]
  generalize BitVec.ofNat 32 (j 0).val * 1000000#32 = a
  generalize BitVec.ofNat 32 (i 0).val * 65536#32 = b
  generalize BitVec.ofNat 32 k.val * 512#32 = d
  rw [BitVec.add_assoc, ← BitVec.add_assoc b d, BitVec.add_comm (b + d)]

/-- The table at a row and a column: the noise of the counter `row * 1000000 + column`. -/
theorem tblOut_at (i : grid0.Coords) (y : S32x65536.Idx) :
    tblOut (F := Ideal) i y = gum (word (BitVec.ofNat 32 ((y 0).val * 1000000 + ((i 0).val * 65536 + (y 1).val)))) := by
  unfold tblOut
  refine tripVal_at i _ _ _ ((count_at i _ _).trans (congrArg (fun n => BitVec.ofNat 32 n + 42) ?_))
  show (y 0).val * 1000000 + ((i 0).val * 65536 + ((y 1).val / 512 * 512 + (y 1).val % 512)) = _
  rw [Nat.div_add_mod']

end Cert.KernelIdeal.Table
-- ==== Proof.Arrays.lean ====
/- The arrays the kernel's four calls leave, entry by entry. -/
module

public import proofs.«01_k».proof.Proof.Combine
public import proofs.«01_k».proof.Proof.Table
public import proofs.«01_k».proof.Proof.Frames
public import Idealize.ShloMosaic.Lib.Pipeline.ValueKit

@[expose] public section

set_option maxRecDepth 16384

noncomputable section

namespace Cert.KernelIdeal.Arrays

open Cert.KernelIdeal Cert.KernelIdeal.Gen Cert.KernelIdeal.Body Cert.KernelIdeal.Stats
open Idealize.ShloMosaic Idealize.ShloMosaic.TcCoe
open Cert.Draw
open Idealize.ShloMosaic.Pipeline (Dat Cfg Window)

variable (W : Dev nD → Valuation τ sig (Elt Ideal)) (c : Dev nD)

/-- The table's blocks lie side by side along the rows. -/
theorem idx0 : ∀ t : Fin cfg0.N, win0_0.index t = ![0, (grid0.coords t 0).val] := (by decide +kernel : ∀ t : Fin grid0.N, _)
/-- So do the logits' blocks -/
theorem idx1 : ∀ t : Fin cfg1.N, win1_0.index t = ![0, (grid1.coords t 0).val] := (by decide +kernel : ∀ t : Fin grid1.N, _)
/-- and the noise's. -/
theorem idx1' : ∀ t : Fin cfg1.N, win1_1.index t = ![0, (grid1.coords t 0).val] := (by decide +kernel : ∀ t : Fin grid1.N, _)

/-- What a grid point leaves of the table. -/
theorem after0_0 (t : Fin cfg0.N) : (dat0 W c).after (0 : Fin 1) t = tblOut (F := Ideal) (grid0.coords t) := by dsimp only [dat0]

/-- The noise table. -/
theorem table_arr : Pipeline.afterRegion (dat0 W c) (W c) (Proc.devRef .tc main_v0)
    = fun j : S32x1000000.Idx => (gum (word (BitVec.ofNat 32 ((j 0).val * 1000000 + (j 1).val))) : EReal) := by
  refine (Pipeline.afterRegion_arr (dat0 W c) (W c) launch0.win.arr_inj 0).trans ?_
  refine (dat0 W c).arrAt_eq_of_covers 0 _ (by decide +kernel) fun t _ y => ?_
  obtain ⟨T, hT⟩ : ∃ T, T = tblOut (F := Ideal) (grid0.coords t) := ⟨_, rfl⟩
  have e := fun z => (congrFun hT z).trans (Table.tblOut_at (grid0.coords t) z)
  have ea : (dat0 W c).after (0 : Fin 1) t = T := (after0_0 W c t).trans hT.symm
  clear hT
  rw [ea]
  refine (cast_eq _ _).trans ?_
  refine (e _).trans ?_
  clear ea e
  blk_simp [idx0 t]

/-- A valid lane of the logits' block is the logit of its column. -/
theorem xin_at (t : Fin cfg1.N) (r : Fin 32) (k : Fin 65536) (h : Valid (grid1.coords t) k) :
    xin W c t (ix2 r k) = W c main_arg0 (ix2 r ⟨(grid1.coords t 0).val * 65536 + k.val, h⟩) := by
  have hm : win1_0.moved (grid1.coords t) (ix2 r k) = true := moved_of_valid _ (ix2 r k) ((valid_iff _ (ix2 r k)).2 h)
  unfold xin Window.fill
  rw [dif_pos hm]
  blk_ext [idx1 t]

/-- A valid lane of the noise's block is the noise of its column. -/
theorem gin_at (t : Fin cfg1.N) (r : Fin 32) (k : Fin 65536) (h : Valid (grid1.coords t) k) :
    gin W c t (ix2 r k) = W c main_v0 (ix2 r ⟨(grid1.coords t 0).val * 65536 + k.val, h⟩) := by
  have hm : win1_1.moved (grid1.coords t) (ix2 r k) = true := moved_of_valid _ (ix2 r k) ((valid_iff _ (ix2 r k)).2 h)
  unfold gin Window.fill
  rw [dif_pos hm]
  blk_ext [idx1' t]

end Cert.KernelIdeal.Arrays
-- ==== Proof.Blocks.lean ====
/- A row's statistics block by block, as the kernel's second call takes them. -/
module

public import proofs.«01_k».proof.Proof.Arrays

@[expose] public section

set_option maxRecDepth 16384

noncomputable section

namespace Cert.Draw

open Idealize.ShloMosaic

variable (f : Fin 1000000 → EReal) (b : ℕ)

/-- A row's entry at lane `k` of block `b`, and `d` past the row's end. -/
def lane (d : EReal) (k : Fin 65536) : EReal := if h : b * 65536 + k.val < 1000000 then f ⟨b * 65536 + k.val, h⟩ else d

/-- A lane within the row. -/
theorem lane_in (d : EReal) (k : Fin 65536) (h : b * 65536 + k.val < 1000000) : lane f b d k = f ⟨b * 65536 + k.val, h⟩ := dif_pos h

/-- A lane past the row's end. -/
theorem lane_out (d : EReal) (k : Fin 65536) (h : ¬b * 65536 + k.val < 1000000) : lane f b d k = d := dif_neg h

/-- The greatest entry of a block. -/
def bmax : EReal := Finset.univ.fold max (⊥ : EReal) (lane f b ⊥)

/-- A lane's exponential, against the block's greatest entry. -/
def bexp (k : Fin 65536) : EReal := Ideal.exp (lane f b ⊥ k - bmax f b)

/-- The block's sum of exponentials. -/
def bsum : EReal := ∑ k : Fin 65536, bexp f b k

/-- The block's sum of entries times exponentials. -/
def btop : EReal := ∑ k : Fin 65536, lane f b 0 k * bexp f b k

end Cert.Draw

namespace Cert.KernelIdeal.Arrays

open Cert.KernelIdeal Cert.KernelIdeal.Gen Cert.KernelIdeal.Body Cert.KernelIdeal.Stats
open Idealize.ShloMosaic Idealize.ShloMosaic.TcCoe
open Cert.Draw
open Idealize.ShloMosaic.Pipeline (Dat Cfg Window)

section Block

variable (i : grid1.Coords) (x g : FVec Ideal S32x65536 .f32) (r : Fin 32) (f p : Fin 1000000 → EReal)
  (hx : ∀ (k : Fin 65536) (h : Valid i k), (x (ix2 r k) : EReal) = f ⟨(i 0).val * 65536 + k.val, h⟩)
  (hg : ∀ (k : Fin 65536) (h : Valid i k), (g (ix2 r k) : EReal) = p ⟨(i 0).val * 65536 + k.val, h⟩)

include hx in
/-- The block's logits, lane by lane. -/
theorem lane_of (d : EReal) (k : Fin 65536) : (if Valid i k then (x (ix2 r k) : EReal) else d) = lane f (i 0).val d k := by
  by_cases h : Valid i k
  · rw [if_pos h, hx k h]
    exact (lane_in _ _ _ k h).symm
  · rw [if_neg h]
    exact (lane_out _ _ _ k h).symm

include hx in
/-- The block's greatest logit. -/
theorem bmax_of (u : Fin 1) : (k1_pay12 (F := Ideal) i x (ix2 r u) : EReal) = bmax f (i 0).val := by
  rw [pay12_at]
  exact congrArg (Finset.fold max (⊥ : EReal) · Finset.univ) (funext fun k => (pay11_at i x r k).trans (lane_of i x r f hx ⊥ k))

include hx in
/-- A lane's exponential. -/
theorem bexp_of (k : Fin 65536) : (k1_pay13 (F := Ideal) i x (ix2 r k) : EReal) = bexp f (i 0).val k := by
  rw [pay13_at, bmax_of i x r f hx, pay11_at, lane_of i x r f hx]
  rfl

include hx in
/-- The block's sum of exponentials. -/
theorem bsum_of (u : Fin 1) : (k1_pay14 (F := Ideal) i x (ix2 r u) : EReal) = bsum f (i 0).val := by
  rw [pay14_at]
  exact Finset.sum_congr rfl fun k _ => bexp_of i x r f hx k

include hx hg in
/-- The block's scores, lane by lane. -/
theorem score_of (k : Fin 65536) : (k1_pay8 (F := Ideal) i x g (ix2 r k) : EReal) = lane (fun c => f c + p c) (i 0).val ⊥ k := by
  rw [pay8_at]
  by_cases h : Valid i k
  · rw [if_pos h, hx k h, hg k h]
    exact (lane_in (fun c => f c + p c) _ _ k h).symm
  · rw [if_neg h]
    exact (lane_out _ _ _ k h).symm

include hx hg in
/-- The block's greatest score. -/
theorem bval_of (u : Fin 1) : (k1_pay9 (F := Ideal) i x g (ix2 r u) : EReal) = bmax (fun c => f c + p c) (i 0).val := by
  rw [pay9_at]
  exact congrArg (Finset.fold max (⊥ : EReal) · Finset.univ) (funext fun k => score_of i x g r f p hx hg k)

include hx hg in
/-- The block's choice. -/
theorem bid_of (u : Fin 1) : ∃ k : Fin 65536, (i 0).val * 65536 + k.val < 1000000 ∧ Best (lane (fun c => f c + p c) (i 0).val ⊥) k
    ∧ k1_pay10 (F := Ideal) i x g (ix2 r u) = BitVec.ofNat 32 ((i 0).val * 65536 + k.val) := by
  obtain ⟨k, hk, hb, e⟩ := pay10_at i x g r u
  refine ⟨k, hk, ?_, e⟩
  have ef : (fun k => (k1_pay8 (F := Ideal) i x g (ix2 r k) : EReal)) = lane (fun c => f c + p c) (i 0).val ⊥ :=
    funext fun k => score_of i x g r f p hx hg k
  rw [← ef]
  exact hb

end Block

/-- The first row's sum of entries times exponentials. -/
theorem btop_of (i : grid1.Coords) (x : FVec Ideal S32x65536 .f32) (f : Fin 1000000 → EReal)
    (hx : ∀ (k : Fin 65536) (h : Valid i k), (x (ix2 0 k) : EReal) = f ⟨(i 0).val * 65536 + k.val, h⟩) :
    (k1_pay15 (F := Ideal) i x (ix2 0 0) : EReal) = btop f (i 0).val := by
  rw [pay15_at]
  exact Finset.sum_congr rfl fun k _ => by rw [bexp_of i x 0 f hx k, lane_of i x 0 f hx]

variable (W : Dev nD → Valuation τ sig (Elt Ideal)) (c : Dev nD)

/-- The statistics' blocks: one row of the block axis per grid point. -/
theorem idx2 : ∀ t : Fin cfg1.N, win1_2.index t = ![(grid1.coords t 0).val, 0, 0] ∧ win1_3.index t = ![(grid1.coords t 0).val, 0, 0]
    ∧ win1_4.index t = ![(grid1.coords t 0).val, 0, 0] ∧ win1_5.index t = ![(grid1.coords t 0).val, 0, 0]
    ∧ win1_6.index t = ![(grid1.coords t 0).val, 0, 0] :=
  (by decide +kernel : ∀ t : Fin grid1.N, _)

/-- A row of the logits. -/
def row (r : Fin 32) : Fin 1000000 → EReal := fun k => W c main_arg0 (ix2 r k)
/-- A row of the noise. -/
def noise (r : Fin 32) : Fin 1000000 → EReal := fun k => W c main_v0 (ix2 r k)

/-- The logits' block of a grid point. -/
theorem hx (t : Fin cfg1.N) (r : Fin 32) (k : Fin 65536) (h : Valid (grid1.coords t) k) :
    (xin W c t (ix2 r k) : EReal) = row W c r ⟨(grid1.coords t 0).val * 65536 + k.val, h⟩ := xin_at W c t r k h

/-- The noise's block of a grid point. -/
theorem hg (t : Fin cfg1.N) (r : Fin 32) (k : Fin 65536) (h : Valid (grid1.coords t) k) :
    (gin W c t (ix2 r k) : EReal) = noise W c r ⟨(grid1.coords t 0).val * 65536 + k.val, h⟩ := gin_at W c t r k h

/-- A three-dimensional place of a column. -/
theorem col_idx (z : S1x32x1.Idx) : z = ix3 0 (z 1) 0 := by
  funext a
  fin_cases a
  · exact Subsingleton.elim (α := Fin 1) _ _
  · rfl
  · exact Subsingleton.elim (α := Fin 1) _ _

/-- A column at any three-dimensional place. -/
theorem lift_idx (v : FVec Ideal S32x1 .f32) (z : S1x32x1.Idx) : shapeCast S1x32x1 v shapeCasts_S32x1_S1x32x1 z = v (ix2 (z 1) 0) := by
  rw [col_idx z]
  exact lift_at v _

/-- A column of words at any three-dimensional place. -/
theorem liftI_idx (v : IVec S32x1 32) (z : S1x32x1.Idx) : shapeCast S1x32x1 v shapeCasts_S32x1_S1x32x1 z = v (ix2 (z 1) 0) := by
  rw [col_idx z]
  exact liftI_at v _

/-- The greatest logits, block by block. -/
theorem stats0 (b : Fin 16) (r : Fin 32) : Pipeline.afterRegion (dat1 W c) (W c) (Proc.devRef .tc main_v1_0) (ix3 b r 0) = bmax (row W c r) b.val := by
  have key : Pipeline.afterRegion (dat1 W c) (W c) (Proc.devRef .tc main_v1_0) = fun j : S16x32x1.Idx => (bmax (row W c (j 1)) (j 0).val : EReal) := by
    refine (Pipeline.afterRegion_arr (dat1 W c) (W c) launch1.win.arr_inj 2).trans ?_
    refine (dat1 W c).arrAt_eq_of_covers 2 _ (by decide +kernel) fun t _ y => ?_
    rw [after1_2]
    refine (cast_eq _ _).trans ?_
    refine (lift_idx (k1_pay12 (grid1.coords t) (xin W c t)) ((cfg1.win 2).xinj (cfg1.grid.coords t) y)).trans ?_
    refine (bmax_of _ _ _ _ (hx W c t _) 0).trans ?_
    refine congrArg₂ (fun (r : Fin 32) (b : ℕ) => (bmax (row W c r) b : EReal)) (Fin.ext ?_) ?_
    · blk_simp [idx2 t]
    · blk_simp [idx2 t]
  exact congrFun key (ix3 b r 0)

/-- The sums of exponentials, block by block. -/
theorem stats1 (b : Fin 16) (r : Fin 32) : Pipeline.afterRegion (dat1 W c) (W c) (Proc.devRef .tc main_v1_1) (ix3 b r 0) = bsum (row W c r) b.val := by
  have key : Pipeline.afterRegion (dat1 W c) (W c) (Proc.devRef .tc main_v1_1) = fun j : S16x32x1.Idx => (bsum (row W c (j 1)) (j 0).val : EReal) := by
    refine (Pipeline.afterRegion_arr (dat1 W c) (W c) launch1.win.arr_inj 3).trans ?_
    refine (dat1 W c).arrAt_eq_of_covers 3 _ (by decide +kernel) fun t _ y => ?_
    rw [after1_3]
    refine (cast_eq _ _).trans ?_
    refine (lift_idx (k1_pay14 (grid1.coords t) (xin W c t)) ((cfg1.win 3).xinj (cfg1.grid.coords t) y)).trans ?_
    refine (bsum_of _ _ _ _ (hx W c t _) 0).trans ?_
    refine congrArg₂ (fun (r : Fin 32) (b : ℕ) => (bsum (row W c r) b : EReal)) (Fin.ext ?_) ?_
    · blk_simp [idx2 t]
    · blk_simp [idx2 t]
  exact congrFun key (ix3 b r 0)

/-- The first row's sums of logits times exponentials, block by block. -/
theorem stats2 (b : Fin 16) : Pipeline.afterRegion (dat1 W c) (W c) (Proc.devRef .tc main_v1_2) (ix3 b 0 0) = btop (row W c 0) b.val := by
  have key : ∀ j : S16x32x1.Idx, j 1 = (0 : Fin 32) → (dat1 W c).arrAt (4 : Fin 7) cfg1.N j = (btop (row W c 0) (j 0).val : EReal) := by
    intro j
    refine (dat1 W c).arrAt_forall_of_covers 4 (fun (j : S16x32x1.Idx) (v : EReal) => j 1 = (0 : Fin 32) → v = (btop (row W c 0) (j 0).val : EReal))
      (by decide +kernel) (fun t _ y h => ?_) j
    rw [after1_4]
    refine (cast_eq _ _).trans ?_
    refine (lift_idx (k1_pay15 (grid1.coords t) (xin W c t)) ((cfg1.win 4).xinj (cfg1.grid.coords t) y)).trans ?_
    have e : ((cfg1.win 4).xinj (cfg1.grid.coords t) y 1 : Fin 32) = (show Fin 32 from 0) := by
      refine Eq.trans (b := (((cfg1.win 4).blk t).view.emb y 1 : Fin 32)) (Fin.ext ?_) h
      blk_simp [idx2 t]
    rw [e]
    refine (btop_of _ _ _ (hx W c t 0)).trans (congrArg (btop (row W c 0)) ?_)
    blk_simp [idx2 t]
  exact (congrFun (Pipeline.afterRegion_arr (dat1 W c) (W c) launch1.win.arr_inj 4) (ix3 b 0 0)).trans (key (ix3 b 0 0) rfl)

/-- The greatest scores, block by block. -/
theorem stats3 (b : Fin 16) (r : Fin 32) : Pipeline.afterRegion (dat1 W c) (W c) (Proc.devRef .tc main_v1_3) (ix3 b r 0) = bmax (fun k => row W c r k + noise W c r k) b.val := by
  have key : Pipeline.afterRegion (dat1 W c) (W c) (Proc.devRef .tc main_v1_3) = fun j : S16x32x1.Idx => (bmax (fun k => row W c (j 1) k + noise W c (j 1) k) (j 0).val : EReal) := by
    refine (Pipeline.afterRegion_arr (dat1 W c) (W c) launch1.win.arr_inj 5).trans ?_
    refine (dat1 W c).arrAt_eq_of_covers 5 _ (by decide +kernel) fun t _ y => ?_
    rw [after1_5]
    refine (cast_eq _ _).trans ?_
    refine (lift_idx (k1_pay9 (grid1.coords t) (xin W c t) (gin W c t)) ((cfg1.win 5).xinj (cfg1.grid.coords t) y)).trans ?_
    refine (bval_of _ _ _ _ _ _ (hx W c t _) (hg W c t _) 0).trans ?_
    refine congrArg₂ (fun (r : Fin 32) (b : ℕ) => (bmax (fun k => row W c r k + noise W c r k) b : EReal)) (Fin.ext ?_) ?_
    · blk_simp [idx2 t]
    · blk_simp [idx2 t]
  exact congrFun key (ix3 b r 0)

/-- The choices, block by block. -/
theorem stats4 (b : Fin 16) (r : Fin 32) : ∃ k : Fin 65536, b.val * 65536 + k.val < 1000000
    ∧ Best (lane (fun k => row W c r k + noise W c r k) b.val ⊥) k
    ∧ Pipeline.afterRegion (dat1 W c) (W c) (Proc.devRef .tc main_v1_4) (ix3 b r 0) = BitVec.ofNat 32 (b.val * 65536 + k.val) := by
  let P (r : Fin 32) (b : ℕ) (v : BitVec 32) : Prop := ∃ k : Fin 65536, b * 65536 + k.val < 1000000
    ∧ Best (lane (fun k => row W c r k + noise W c r k) b ⊥) k ∧ v = BitVec.ofNat 32 (b * 65536 + k.val)
  have key : ∀ j : S16x32x1.Idx, P (j 1) (j 0).val ((dat1 W c).arrAt (6 : Fin 7) cfg1.N j) := by
    intro j
    refine (dat1 W c).arrAt_forall_of_covers 6 (fun (j : S16x32x1.Idx) (v : BitVec 32) => P (j 1) (j 0).val v) (by decide +kernel) (fun t _ y => ?_) j
    rw [after1_6]
    have e1 : ((cfg1.win 6).xinj (cfg1.grid.coords t) y 1 : Fin 32) = (((cfg1.win 6).blk t).view.emb y 1 : Fin 32) := by
      refine Fin.ext ?_
      blk_simp [idx2 t]
    have e0 : (grid1.coords t 0).val = (((cfg1.win 6).blk t).view.emb y 0).val := by
      blk_simp [idx2 t]
    have e := bid_of (grid1.coords t) (xin W c t) (gin W c t) ((cfg1.win 6).xinj (cfg1.grid.coords t) y 1) _ _ (hx W c t _) (hg W c t _) 0
    rw [← liftI_idx (k1_pay10 (grid1.coords t) (xin W c t) (gin W c t)) ((cfg1.win 6).xinj (cfg1.grid.coords t) y)] at e
    have e' : P ((cfg1.win 6).xinj (cfg1.grid.coords t) y 1) (grid1.coords t 0).val _ := e
    rw [e1, e0] at e'
    refine Eq.mpr (congrArg (P _ _) (cast_eq _ _)) ?_
    exact e'
  obtain ⟨k, h1, h2, h3⟩ := key (ix3 b r 0)
  exact ⟨k, h1, h2, (congrFun (Pipeline.afterRegion_arr (dat1 W c) (W c) launch1.win.arr_inj 6) (ix3 b r 0)).trans h3⟩

end Cert.KernelIdeal.Arrays
-- ==== Proof.Softmax.lean ====
/- The arithmetic of a softmax taken block by block: a row's sums and its greatest entry from the blocks' statistics. -/
module

public import proofs.«01_k».proof.Proof.Blocks
public import proofs.«01_k».proof.Proof.RefSoft

@[expose] public section

set_option maxRecDepth 16384

noncomputable section

namespace Cert.Draw

open Idealize.ShloMosaic

/-! ## Sums -/

/-- A sum of real numbers, cast. -/
theorem coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- A sum over blocks and lanes is the sum over all places. -/
theorem sum_blocks (a n : ℕ) (F : ℕ → ℝ) : (∑ b : Fin a, ∑ k : Fin n, F (b.val * n + k.val)) = ∑ i : Fin (a * n), F i.val := by
  rw [← Fintype.sum_prod_type', ← finProdFinEquiv.sum_comp]
  refine Finset.sum_congr rfl fun p _ => congrArg F ?_
  show _ = p.2.val + n * p.1.val
  rw [Nat.mul_comm, Nat.add_comm]

/-- Places that count for nothing may be left out. -/
theorem sum_shorter (p q : ℕ) (hpq : p ≤ q) (F : ℕ → ℝ) (h : ∀ i, p ≤ i → F i = 0) : (∑ i : Fin q, F i.val) = ∑ i : Fin p, F i.val := by
  rw [Fin.sum_univ_eq_sum_range, Fin.sum_univ_eq_sum_range]
  symm
  refine Finset.sum_subset (Finset.range_mono hpq) fun i _ hi => h i ?_
  exact not_lt.mp fun hlt => hi (Finset.mem_range.mpr hlt)

variable (f : Fin 1000000 → EReal)

/-- A row's sum is the sum over its blocks, where an empty lane counts for nothing. -/
theorem sum_lanes (h : EReal → ℝ) (h0 : h ⊥ = 0) : (∑ b : Fin 16, ∑ k : Fin 65536, h (lane f b.val ⊥ k)) = ∑ c : Fin 1000000, h (f c) := by
  let F : ℕ → ℝ := fun i => if hi : i < 1000000 then h (f ⟨i, hi⟩) else 0
  have e : ∀ (b : Fin 16) (k : Fin 65536), h (lane f b.val ⊥ k) = F (b.val * 65536 + k.val) := by
    intro b k
    by_cases hi : b.val * 65536 + k.val < 1000000
    · rw [lane_in f _ _ k hi]
      simp only [F]
      rw [dif_pos hi]
    · rw [lane_out f _ _ k hi, h0]
      simp only [F]
      rw [dif_neg hi]
  rw [Finset.sum_congr rfl fun b _ => Finset.sum_congr rfl fun k _ => e b k, sum_blocks 16 65536 F,
    sum_shorter 1000000 (16 * 65536) (by norm_num) F fun i hi => dif_neg (not_lt.mpr hi)]
  exact Finset.sum_congr rfl fun c _ => dif_pos c.isLt

/-! ## The greatest entry -/

/-- No lane is above the row's greatest entry. -/
theorem lane_le (b : ℕ) (k : Fin 65536) : lane f b ⊥ k ≤ Finset.univ.fold max (⊥ : EReal) f := by
  by_cases hi : b * 65536 + k.val < 1000000
  · rw [lane_in f _ _ k hi]
    exact Finset.le_fold_max _ |>.mpr (Or.inr ⟨_, Finset.mem_univ _, le_rfl⟩)
  · rw [lane_out f _ _ k hi]
    exact bot_le

/-- Every column is a lane of a block. -/
theorem lane_col (c : Fin 1000000) : ∃ (b : Fin 16) (k : Fin 65536), b.val * 65536 + k.val = c.val ∧ lane f b.val ⊥ k = f c := by
  have hc := c.isLt
  have e : c.val / 65536 * 65536 + c.val % 65536 = c.val := Nat.div_add_mod' _ _
  refine ⟨⟨c.val / 65536, by omega⟩, ⟨c.val % 65536, Nat.mod_lt _ (by norm_num)⟩, e, ?_⟩
  rw [lane_in f _ _ _ (show c.val / 65536 * 65536 + c.val % 65536 < 1000000 by omega)]
  exact congrArg f (Fin.ext e)

/-- A lane is no greater than its block's greatest entry. -/
theorem lane_le_bmax (b : ℕ) (k : Fin 65536) : lane f b ⊥ k ≤ bmax f b :=
  Finset.le_fold_max _ |>.mpr (Or.inr ⟨k, Finset.mem_univ _, le_rfl⟩)

/-- A block's greatest entry is no greater than the row's. -/
theorem bmax_le (b : ℕ) : bmax f b ≤ Finset.univ.fold max (⊥ : EReal) f :=
  Finset.fold_max_le _ |>.mpr ⟨bot_le, fun k _ => lane_le f b k⟩

/-- The greatest of the blocks' greatest entries is the row's. -/
theorem max_blocks : (Finset.univ.fold max (⊥ : EReal) fun b : Fin 16 => bmax f b.val) = Finset.univ.fold max (⊥ : EReal) f := by
  apply le_antisymm
  · exact Finset.fold_max_le _ |>.mpr ⟨bot_le, fun b _ => bmax_le f b.val⟩
  · refine Finset.fold_max_le _ |>.mpr ⟨bot_le, fun c _ => ?_⟩
    obtain ⟨b, k, -, e⟩ := lane_col f c
    rw [← e]
    exact (lane_le_bmax f b.val k).trans (Finset.le_fold_max _ |>.mpr (Or.inr ⟨b, Finset.mem_univ _, le_rfl⟩))

/-! ## Exponentials -/

/-- The exponential of an entry less `μ`, as a real number: nothing for minus infinity. -/
def el (μ : ℝ) (v : EReal) : ℝ := if v = ⊥ then 0 else Real.exp (v.toReal - μ)

/-- The exponential of minus infinity is zero. -/
theorem el_bot (μ : ℝ) : el μ ⊥ = 0 := if_pos rfl

theorem el_coe (μ x : ℝ) : el μ (x : EReal) = Real.exp (x - μ) := by
  unfold el
  rw [if_neg (EReal.coe_ne_bot x), EReal.toReal_coe]

/-- An entry that is not plus infinity is minus infinity or a real number. -/
theorem bot_or_coe (v : EReal) (h : v ≠ ⊤) : v = ⊥ ∨ ∃ x : ℝ, v = x := by
  induction v with
  | bot => exact Or.inl rfl
  | coe x => exact Or.inr ⟨x, rfl⟩
  | top => exact absurd rfl h

/-- The exponential of a difference. -/
theorem exp_sub (μ : ℝ) (v : EReal) (h : v ≠ ⊤) : Ideal.exp (v - μ) = (el μ v : EReal) := by
  rcases bot_or_coe v h with rfl | ⟨x, rfl⟩
  · rw [el_bot, EReal.bot_sub, Ideal.exp_bot, EReal.coe_zero]
  · rw [el_coe, ← EReal.coe_sub, Ideal.exp_coe]

/-- The exponential is never negative. -/
theorem el_nonneg (μ : ℝ) (v : EReal) : 0 ≤ el μ v := by
  unfold el
  split
  · exact le_rfl
  · exact (Real.exp_pos _).le

/-- Exponentials against one number, rescaled to another. -/
theorem el_scale (β μ : ℝ) (v : EReal) : el β v * Real.exp (β - μ) = el μ v := by
  unfold el
  split
  · exact zero_mul _
  · rw [← Real.exp_add, sub_add_sub_cancel]

variable (hf : ∀ c, f c ≠ ⊤)

include hf in
theorem lane_ne_top (b : ℕ) (k : Fin 65536) : lane f b ⊥ k ≠ ⊤ := by
  by_cases hi : b * 65536 + k.val < 1000000
  · rw [lane_in f _ _ k hi]
    exact hf _
  · rw [lane_out f _ _ k hi]
    exact bot_ne_top

include hf in
theorem bmax_ne_top (b : ℕ) : bmax f b ≠ ⊤ := by
  refine (lt_top_iff_ne_top).1 (Finset.fold_max_lt _ |>.mpr ⟨bot_lt_top, fun k _ => lt_top_iff_ne_top.2 (lane_ne_top f hf b k)⟩)

/-- The lane at its two fillings: they differ only where the exponential is nothing. -/
theorem lane_zero (b : ℕ) (k : Fin 65536) (μ : ℝ) (hv : lane f b ⊥ k ≠ ⊤) :
    lane f b 0 k * (el μ (lane f b ⊥ k) : EReal) = (((lane f b ⊥ k).toReal * el μ (lane f b ⊥ k) : ℝ) : EReal) := by
  rcases bot_or_coe _ hv with e | ⟨x, e⟩
  · rw [e, el_bot, EReal.coe_zero, mul_zero, mul_zero, EReal.coe_zero]
  · by_cases hi : b * 65536 + k.val < 1000000
    · rw [lane_in f _ _ k hi] at e ⊢
      rw [lane_in f _ _ k hi, e, EReal.toReal_coe, EReal.coe_mul]
    · rw [lane_out f _ _ k hi] at e
      exact absurd e.symm (EReal.coe_ne_bot x)

include hf in
/-- A block's weighted sum: whatever multiplies the exponentials, lane by lane. -/
theorem block_sum (b : ℕ) (μ : ℝ) (w : Fin 65536 → EReal) (t : EReal → ℝ)
    (hw : ∀ (k : Fin 65536) (β : ℝ), w k * (el β (lane f b ⊥ k) : EReal) = ((t (lane f b ⊥ k) * el β (lane f b ⊥ k) : ℝ) : EReal)) :
    (∑ k : Fin 65536, w k * bexp f b k) * Ideal.exp (bmax f b - μ) = ((∑ k : Fin 65536, t (lane f b ⊥ k) * el μ (lane f b ⊥ k) : ℝ) : EReal) := by
  rcases bot_or_coe _ (bmax_ne_top f hf b) with e | ⟨β, e⟩
  · have hl : ∀ k, lane f b ⊥ k = ⊥ := fun k => le_bot_iff.mp ((lane_le_bmax f b k).trans (le_of_eq e))
    have hz : (∑ k : Fin 65536, t (lane f b ⊥ k) * el μ (lane f b ⊥ k)) = 0 := Finset.sum_eq_zero fun k _ => by rw [hl k, el_bot, mul_zero]
    have hx : Ideal.exp (bmax f b - μ) = 0 := by rw [e, EReal.bot_sub, Ideal.exp_bot]
    rw [hz, hx]
    exact mul_zero _
  · have hb : ∀ k, w k * bexp f b k = ((t (lane f b ⊥ k) * el β (lane f b ⊥ k) : ℝ) : EReal) := fun k => by
      unfold bexp
      rw [e, exp_sub β _ (lane_ne_top f hf b k), hw]
    rw [Finset.sum_congr rfl fun k _ => hb k, ← coe_sum, e, ← EReal.coe_sub, Ideal.exp_coe, ← EReal.coe_mul, Finset.sum_mul]
    refine congrArg _ (Finset.sum_congr rfl fun k _ => ?_)
    rw [mul_assoc, el_scale]

include hf in
/-- The row's sum of exponentials from its blocks. -/
theorem sum_of_blocks (μ : ℝ) : (∑ b : Fin 16, bsum f b.val * Ideal.exp (bmax f b.val - μ)) = ((∑ c, el μ (f c) : ℝ) : EReal) := by
  have e : ∀ b : Fin 16, bsum f b.val * Ideal.exp (bmax f b.val - μ) = ((∑ k : Fin 65536, el μ (lane f b.val ⊥ k) : ℝ) : EReal) := fun b => by
    have := block_sum f hf b.val μ (fun _ => 1) (fun _ => 1) (fun k β => by rw [one_mul, one_mul])
    simp only [one_mul] at this
    exact this
  rw [Finset.sum_congr rfl fun b _ => e b, ← coe_sum, sum_lanes f (el μ) (el_bot μ)]

include hf in
/-- The row's sum of entries times exponentials from its blocks. -/
theorem top_of_blocks (μ : ℝ) : (∑ b : Fin 16, btop f b.val * Ideal.exp (bmax f b.val - μ)) = ((∑ c, (f c).toReal * el μ (f c) : ℝ) : EReal) := by
  have e : ∀ b : Fin 16, btop f b.val * Ideal.exp (bmax f b.val - μ)
      = ((∑ k : Fin 65536, (lane f b.val ⊥ k).toReal * el μ (lane f b.val ⊥ k) : ℝ) : EReal) := fun b =>
    block_sum f hf b.val μ (lane f b.val 0) EReal.toReal (fun k β => lane_zero f b.val k β (lane_ne_top f hf b.val k))
  rw [Finset.sum_congr rfl fun b _ => e b, ← coe_sum,
    sum_lanes f (fun v => v.toReal * el μ v) (by show _ * el μ ⊥ = 0; rw [el_bot, mul_zero])]

/-! ## The row -/

include hf in
/-- A row whose greatest entry is a number has a positive sum. -/
theorem sum_pos (μ : ℝ) (hμ : Finset.univ.fold max (⊥ : EReal) f = μ) : 0 < ∑ c, el μ (f c) := by
  obtain ⟨c, hc⟩ := exists_best f 0
  have e : f c = μ := hc.fold_eq.symm.trans hμ
  refine Finset.sum_pos' (fun c _ => el_nonneg μ (f c)) ⟨c, Finset.mem_univ _, ?_⟩
  rw [e, el_coe]
  exact Real.exp_pos _

/-- A row whose greatest entry is a number holds no plus infinity. -/
theorem ne_top_of_max (μ : ℝ) (hμ : Finset.univ.fold max (⊥ : EReal) f = μ) (c : Fin 1000000) : f c ≠ ⊤ := by
  have h : f c ≤ Finset.univ.fold max (⊥ : EReal) f := Finset.le_fold_max _ |>.mpr (Or.inr ⟨c, Finset.mem_univ _, le_rfl⟩)
  rw [hμ] at h
  exact ne_of_lt (lt_of_le_of_lt h (EReal.coe_lt_top μ))

/-- A number over a number that is not zero. -/
theorem div_real (x y : ℝ) (hy : y ≠ 0) : Ideal.div (x : EReal) (y : EReal) = ((x / y : ℝ) : EReal) := by
  rw [Ideal.div_coe hy, ← EReal.coe_mul, mul_one_div]

/-- One term of the entropy. -/
theorem entropy_term (μ Z : ℝ) (hZ : 0 < Z) (v : EReal) (hv : v ≠ ⊤) :
    (if (0 : EReal) < ((el μ v / Z : ℝ) : EReal) then ((el μ v / Z : ℝ) : EReal) * Ideal.log (if (0 : EReal) < ((el μ v / Z : ℝ) : EReal) then ((el μ v / Z : ℝ) : EReal) else 1) else 0)
      = ((el μ v / Z * (v.toReal - μ - Real.log Z) : ℝ) : EReal) := by
  rcases bot_or_coe v hv with rfl | ⟨x, rfl⟩
  · rw [el_bot, zero_div, EReal.coe_zero, if_neg (lt_irrefl _), zero_mul, EReal.coe_zero]
  · have hp : 0 < el μ (x : EReal) / Z := by
      rw [el_coe]
      exact div_pos (Real.exp_pos _) hZ
    have hp' : (0 : EReal) < ((el μ (x : EReal) / Z : ℝ) : EReal) := by exact_mod_cast hp
    rw [if_pos hp', if_pos hp', Ideal.log_coe, if_neg (not_le.mpr hp), ← EReal.coe_mul, el_coe, EReal.toReal_coe,
      Real.log_div (Real.exp_pos _).ne' hZ.ne', Real.log_exp]

include hf in
/-- The entropy of a row's softmax, from the row's greatest entry, its sum and its second sum. -/
theorem entropy_eq (μ : ℝ) (hμ : Finset.univ.fold max (⊥ : EReal) f = μ) :
    ((μ : EReal) + Ideal.log ((∑ c, el μ (f c) : ℝ) : EReal) - Ideal.div ((∑ c, (f c).toReal * el μ (f c) : ℝ) : EReal) ((∑ c, el μ (f c) : ℝ) : EReal))
      = ReferenceIdeal.Ref.entropy fun c => ((el μ (f c) / (∑ c, el μ (f c)) : ℝ) : EReal) := by
  have hZ := sum_pos f hf μ hμ
  obtain ⟨Z, hZe⟩ : ∃ Z, Z = ∑ c, el μ (f c) := ⟨_, rfl⟩
  obtain ⟨T, hTe⟩ : ∃ T, T = ∑ c, (f c).toReal * el μ (f c) := ⟨_, rfl⟩
  rw [← hZe] at hZ ⊢
  rw [← hTe, Ideal.log_coe, if_neg (not_le.mpr hZ), div_real T Z hZ.ne', ← EReal.coe_add, ← EReal.coe_sub]
  unfold ReferenceIdeal.Ref.entropy
  rw [Finset.sum_congr rfl fun c _ => entropy_term μ Z hZ (f c) (hf c), ← coe_sum, ← EReal.coe_neg]
  refine congrArg _ ?_
  have e : ∀ c, el μ (f c) / Z * ((f c).toReal - μ - Real.log Z) = ((f c).toReal * el μ (f c)) / Z - el μ (f c) * ((μ + Real.log Z) / Z) := fun c => by ring
  rw [Finset.sum_congr rfl fun c _ => e c, Finset.sum_sub_distrib, ← Finset.sum_div, ← Finset.sum_mul, ← hZe, ← hTe,
    mul_div_cancel₀ _ hZ.ne']
  ring

end Cert.Draw
-- ==== Proof.Ends.lean ====
/- The arrays of the kernel's last two calls. -/
module

public import proofs.«01_k».proof.Proof.Arrays

@[expose] public section

set_option maxRecDepth 16384

noncomputable section

namespace Cert.KernelIdeal.Arrays

open Cert.KernelIdeal Cert.KernelIdeal.Gen Cert.KernelIdeal.Body Cert.KernelIdeal.Stats
open Idealize.ShloMosaic Idealize.ShloMosaic.TcCoe
open Cert.Draw
open Idealize.ShloMosaic.Pipeline (Dat Cfg Window)

variable (W : Dev nD → Valuation τ sig (Elt Ideal)) (c : Dev nD)

/-- The combining call's blocks are whole arrays. -/
theorem idxc : ∀ t : Fin cfg2.N, win2_0.index t = ![0, 0, 0] ∧ win2_1.index t = ![0, 0, 0] ∧ win2_2.index t = ![0, 0, 0]
    ∧ win2_3.index t = ![0, 0, 0] ∧ win2_4.index t = ![0, 0, 0] ∧ win2_5.index t = ![0, 0] ∧ win2_6.index t = ![0, 0]
    ∧ win2_7.index t = ![0, 0] ∧ win2_8.index t = ![0, 0] := (by decide +kernel : ∀ t : Fin grid2.N, _)

/-- What the combining call reads: the greatest logits, -/
theorem read2_0 (t : Fin cfg2.N) : (win2_0.blk t).view.read (Elt Ideal) (W c main_v1_0) = W c main_v1_0 := by
  funext j
  blk_ext [idxc t]
/-- the sums, -/
theorem read2_1 (t : Fin cfg2.N) : (win2_1.blk t).view.read (Elt Ideal) (W c main_v1_1) = W c main_v1_1 := by
  funext j
  blk_ext [idxc t]
/-- the second sums, -/
theorem read2_2 (t : Fin cfg2.N) : (win2_2.blk t).view.read (Elt Ideal) (W c main_v1_2) = W c main_v1_2 := by
  funext j
  blk_ext [idxc t]
/-- the greatest scores, -/
theorem read2_3 (t : Fin cfg2.N) : (win2_3.blk t).view.read (Elt Ideal) (W c main_v1_3) = W c main_v1_3 := by
  funext j
  blk_ext [idxc t]
/-- the choices. -/
theorem read2_4 (t : Fin cfg2.N) : (win2_4.blk t).view.read (Elt Ideal) (W c main_v1_4) = W c main_v1_4 := by
  funext j
  blk_ext [idxc t]

/-- What it leaves of each result. -/
theorem after2_5 (t : Fin cfg2.N) : (dat2 W c).after (5 : Fin 9) t = k2_pay4 (F := Ideal) (W c main_v1_0) := by
  dsimp only [dat2]
  rw [read2_0]
/-- One over the sum. -/
theorem after2_6 (t : Fin cfg2.N) : (dat2 W c).after (6 : Fin 9) t = k2_pay1 (F := Ideal) (k2_pay6 (W c main_v1_0) (W c main_v1_1)) := by
  dsimp only [dat2]
  rw [read2_0, read2_1]
/-- The column drawn. -/
theorem after2_7 (t : Fin cfg2.N) : (dat2 W c).after (7 : Fin 9) t = k2_pay8 (F := Ideal) (W c main_v1_3) (W c main_v1_4) := by
  dsimp only [dat2]
  rw [read2_3, read2_4]
/-- The entropy. -/
theorem after2_8 (t : Fin cfg2.N) : (dat2 W c).after (8 : Fin 9) t = k2_pay2 (F := Ideal) (k2_pay4 (W c main_v1_0))
    (k2_pay6 (W c main_v1_0) (W c main_v1_1)) (k2_pay7 (W c main_v1_0) (W c main_v1_2)) := by
  dsimp only [dat2]
  rw [read2_0, read2_1, read2_2]

/-- The greatest entry of each row. -/
theorem ends0 : Pipeline.afterRegion (dat2 W c) (W c) (Proc.devRef .tc main_v2_0) = k2_pay4 (F := Ideal) (W c main_v1_0) := by
  refine (Pipeline.afterRegion_arr (dat2 W c) (W c) launch2.win.arr_inj 5).trans ?_
  refine (dat2 W c).arrAt_eq_of_covers 5 _ (by decide +kernel) fun t _ y => ?_
  rw [after2_5]
  refine (cast_eq _ _).trans ?_
  blk_ext [idxc t]

/-- One over each row's sum. -/
theorem ends1 : Pipeline.afterRegion (dat2 W c) (W c) (Proc.devRef .tc main_v2_1) = k2_pay1 (F := Ideal) (k2_pay6 (W c main_v1_0) (W c main_v1_1)) := by
  refine (Pipeline.afterRegion_arr (dat2 W c) (W c) launch2.win.arr_inj 6).trans ?_
  refine (dat2 W c).arrAt_eq_of_covers 6 _ (by decide +kernel) fun t _ y => ?_
  rw [after2_6]
  refine (cast_eq _ _).trans ?_
  blk_ext [idxc t]

/-- The columns drawn. -/
theorem ends2 : Pipeline.afterRegion (dat2 W c) (W c) (Proc.devRef .tc main_v2_2) = k2_pay8 (F := Ideal) (W c main_v1_3) (W c main_v1_4) := by
  refine (Pipeline.afterRegion_arr (dat2 W c) (W c) launch2.win.arr_inj 7).trans ?_
  refine (dat2 W c).arrAt_eq_of_covers 7 _ (by decide +kernel) fun t _ y => ?_
  rw [after2_7]
  refine (cast_eq _ _).trans ?_
  blk_ext [idxc t]

/-- The entropies. -/
theorem ends3 : Pipeline.afterRegion (dat2 W c) (W c) (Proc.devRef .tc main_v2_3) = k2_pay2 (F := Ideal) (k2_pay4 (W c main_v1_0))
    (k2_pay6 (W c main_v1_0) (W c main_v1_1)) (k2_pay7 (W c main_v1_0) (W c main_v1_2)) := by
  refine (Pipeline.afterRegion_arr (dat2 W c) (W c) launch2.win.arr_inj 8).trans ?_
  refine (dat2 W c).arrAt_eq_of_covers 8 _ (by decide +kernel) fun t _ y => ?_
  rw [after2_8]
  refine (cast_eq _ _).trans ?_
  blk_ext [idxc t]

/-- The probabilities' blocks lie side by side along the rows; the rows' numbers are read whole. -/
theorem idxp : ∀ t : Fin cfg3.N, win3_0.index t = ![0, (grid3.coords t 0).val] ∧ win3_1.index t = ![0, 0] ∧ win3_2.index t = ![0, 0]
    ∧ win3_3.index t = ![0, (grid3.coords t 0).val] := (by decide +kernel : ∀ t : Fin grid3.N, _)

/-- What the probabilities' call reads: the greatest entries -/
theorem read3_1 (t : Fin cfg3.N) : (win3_1.blk t).view.read (Elt Ideal) (W c main_v2_0) = W c main_v2_0 := by
  funext j
  blk_ext [idxp t]
/-- and one over the sums. -/
theorem read3_2 (t : Fin cfg3.N) : (win3_2.blk t).view.read (Elt Ideal) (W c main_v2_1) = W c main_v2_1 := by
  funext j
  blk_ext [idxp t]

/-- The logits' block at a lane the transfer moves. -/
theorem xin3_at (t : Fin cfg3.N) (y : (win3_0.xblock (grid3.coords t)).Idx) :
    xin3 W c t (win3_0.xinj (grid3.coords t) y) = W c main_arg0 ((win3_0.blk t).view.emb y) := by
  unfold xin3
  exact win3_0.fill_xinj _ _ _ y

/-- A probability from a logit, its row's greatest and one over its row's sum. -/
def probOf (x m s : EReal) : EReal := Ideal.exp (x - m) * s

/-- The probabilities. -/
theorem probs_arr : Pipeline.afterRegion (dat3 W c) (W c) (Proc.devRef .tc main_v3)
    = fun j : S32x1000000.Idx => probOf (W c main_arg0 j) (W c main_v2_0 (ix2 (j 0) 0)) (W c main_v2_1 (ix2 (j 0) 0)) := by
  refine (Pipeline.afterRegion_arr (dat3 W c) (W c) launch3.win.arr_inj 3).trans ?_
  refine (dat3 W c).arrAt_eq_of_covers 3 _ (by decide +kernel) fun t _ y => ?_
  rw [after3_3, read3_1, read3_2]
  refine (cast_eq _ _).trans ?_
  have ep : ∀ z : S32x65536.Idx, k3_pay1 (F := Ideal) (xin3 W c t) (W c main_v2_0) (W c main_v2_1) z
      = probOf (xin3 W c t z) (W c main_v2_0 (ix2 (z 0) 0)) (W c main_v2_1 (ix2 (z 0) 0)) := fun z => by
    have e := prob_at (xin3 W c t) (W c main_v2_0) (W c main_v2_1) (z 0) (z 1)
    rwa [show (ix2 (z 0) (z 1) : S32x65536.Idx) = z from by funext a; fin_cases a <;> rfl] at e
  refine (ep _).trans ?_
  have e0 : ((cfg3.win 3).xinj (cfg3.grid.coords t) y 0 : Fin 32) = (((cfg3.win 3).blk t).view.emb y 0 : Fin 32) := by
    refine Fin.ext ?_
    blk_simp [idxp t]
  have ex : xin3 W c t ((cfg3.win 3).xinj (cfg3.grid.coords t) y) = W c main_arg0 (((cfg3.win 3).blk t).view.emb y) := by
    refine (xin3_at W c t y).trans ?_
    blk_ext [idxp t]
  rw [ex, e0]

end Cert.KernelIdeal.Arrays
-- ==== Proof.Results.lean ====
/- What the kernel's program leaves in its three results. -/
module

public import proofs.«01_k».proof.Proof.Softmax
public import proofs.«01_k».proof.Proof.Ends

@[expose] public section

set_option maxRecDepth 16384

noncomputable section

namespace Cert.Draw

/-- The best place of the best block is the row's best column. -/
theorem best_of_blocks (s : Fin 1000000 → EReal) (b : Fin 16) (k : Fin 65536) (h : b.val * 65536 + k.val < 1000000)
    (hb : Best (fun b : Fin 16 => bmax s b.val) b) (hk : Best (lane s b.val ⊥) k) : Best s ⟨b.val * 65536 + k.val, h⟩ := by
  have eb : bmax s b.val = s ⟨b.val * 65536 + k.val, h⟩ := by
    unfold bmax
    rw [hk.fold_eq, lane_in s _ _ k h]
  refine ⟨fun c => ?_, fun c hc => ?_⟩
  · obtain ⟨b', k', -, e⟩ := lane_col s c
    rw [← e, ← eb]
    exact (lane_le_bmax s b'.val k').trans (hb.top b')
  · obtain ⟨b', k', ec, e⟩ := lane_col s c
    have e1 : bmax s b'.val = bmax s b.val := by
      refine le_antisymm (hb.top b') ?_
      rw [eb, ← hc, ← e]
      exact lane_le_bmax s b'.val k'
    have hle : b ≤ b' := hb.first b' e1
    have hlev : b.val ≤ b'.val := hle
    have hk1 := k.isLt
    rw [Fin.le_def]
    show b.val * 65536 + k.val ≤ c.val
    rw [← ec]
    rcases Nat.lt_or_eq_of_le hlev with hlt | heq
    · omega
    · have ek : lane s b.val ⊥ k' = lane s b.val ⊥ k := by
        rw [heq, e, hc, ← heq, lane_in s _ _ k h]
      have hk2 : k.val ≤ k'.val := hk.first k' ek
      omega

end Cert.Draw

namespace Cert.KernelIdeal.Results

open Cert.KernelIdeal Cert.KernelIdeal.Gen Cert.KernelIdeal.Body Cert.KernelIdeal.Stats Cert.KernelIdeal.Arrays
open Idealize.ShloMosaic Idealize.ShloMosaic.TcCoe
open Cert.Draw

variable (m : (ℓ : Loc nD τ sig) → Buf (Elt Ideal) ℓ) (c : Dev nD)

/-- Dividing a weight by the sum, over the real numbers. -/
theorem div_part (μ S : ℝ) (x : EReal) (hx : x ≠ ⊤) (hS : S ≠ 0) : Ideal.div (Ideal.exp (x - μ)) (S : EReal) = ((el μ x / S : ℝ) : EReal) := by
  rw [exp_sub μ x hx, div_real _ _ hS]

/-- Multiplying a weight by the sum's inverse, over the real numbers. -/
theorem times_part (μ S : ℝ) (x : EReal) (hx : x ≠ ⊤) (hS : S ≠ 0) : probOf x (μ : EReal) (Ideal.div 1 (S : EReal)) = ((el μ x / S : ℝ) : EReal) := by
  unfold probOf
  rw [exp_sub μ x hx, Ideal.div_coe hS, one_mul, ← EReal.coe_mul, mul_one_div]

/-- The logits. -/
def X : FVec Ideal S32x1000000 .f32 := m (c.tc.loc main_arg0)
/-- A row of the logits. -/
def xr (r : Fin 32) : Fin 1000000 → EReal := fun k => X m c (ix2 r k)
/-- A row of the scores. -/
def sr (r : Fin 32) : Fin 1000000 → EReal := fun k => xr m c r k + gum (word (BitVec.ofNat 32 (r.val * 1000000 + k.val)))

/-- The logits are there throughout. -/
theorem arg_A1 : A1 m c (Proc.devRef .tc main_arg0) = X m c := by rw [A1, keep0 _ _ _ (by decide)]; rfl
theorem arg_A3 : A3 m c (Proc.devRef .tc main_arg0) = X m c := by
  rw [A3, keep2 _ _ _ (by decide), A2, keep1 _ _ _ (by decide)]
  exact arg_A1 m c

/-- The rows that the statistics read. -/
theorem row_A1 (r : Fin 32) : row (A1 m) c r = xr m c r := by
  unfold row xr
  rw [arg_A1]

/-- The scores that the statistics read. -/
theorem score_A1 (r : Fin 32) : (fun k => row (A1 m) c r k + noise (A1 m) c r k) = sr m c r := by
  funext k
  have e : noise (A1 m) c r k = gum (word (BitVec.ofNat 32 (r.val * 1000000 + k.val))) := congrFun (table_arr (A0 m) c) (ix2 r k)
  rw [row_A1, e]
  rfl

/-- The statistics, block by block. -/
theorem A2_0 (b : Fin 16) (r : Fin 32) : A2 m c (Proc.devRef .tc main_v1_0) (ix3 b r 0) = bmax (xr m c r) b.val := by
  rw [← row_A1]; exact stats0 (A1 m) c b r
/-- The blocks' sums. -/
theorem A2_1 (b : Fin 16) (r : Fin 32) : A2 m c (Proc.devRef .tc main_v1_1) (ix3 b r 0) = bsum (xr m c r) b.val := by
  rw [← row_A1]; exact stats1 (A1 m) c b r
/-- The first row's weighted sums. -/
theorem A2_2 (b : Fin 16) : A2 m c (Proc.devRef .tc main_v1_2) (ix3 b 0 0) = btop (xr m c 0) b.val := by
  rw [← row_A1]; exact stats2 (A1 m) c b
/-- The blocks' greatest scores. -/
theorem A2_3 (b : Fin 16) (r : Fin 32) : A2 m c (Proc.devRef .tc main_v1_3) (ix3 b r 0) = bmax (sr m c r) b.val := by
  rw [← score_A1]; exact stats3 (A1 m) c b r
/-- The blocks' columns. -/
theorem A2_4 (b : Fin 16) (r : Fin 32) : ∃ k : Fin 65536, b.val * 65536 + k.val < 1000000 ∧ Best (lane (sr m c r) b.val ⊥) k
    ∧ A2 m c (Proc.devRef .tc main_v1_4) (ix3 b r 0) = BitVec.ofNat 32 (b.val * 65536 + k.val) := by
  rw [← score_A1]; exact stats4 (A1 m) c b r

/-- The greatest of each row. -/
theorem comb0 (r : Fin 32) : (k2_pay4 (F := Ideal) (A2 m c main_v1_0) (ix2 r 0) : EReal) = Finset.univ.fold max (⊥ : EReal) (xr m c r) := by
  rw [comb_max, ← max_blocks]
  exact congrArg (Finset.fold max (⊥ : EReal) · Finset.univ) (funext fun b => A2_0 m c b r)

/-- The weighted sum of each row. -/
theorem comb1 (r : Fin 32) (μ : ℝ) (hμ : Finset.univ.fold max (⊥ : EReal) (xr m c r) = μ) :
    (k2_pay6 (F := Ideal) (A2 m c main_v1_0) (A2 m c main_v1_1) (ix2 r 0) : EReal) = ((∑ k, el μ (xr m c r k) : ℝ) : EReal) := by
  rw [← sum_of_blocks (xr m c r) (ne_top_of_max _ μ hμ), comb_sum]
  refine Finset.sum_congr rfl fun b _ => ?_
  rw [comb_weight, comb0, hμ]
  exact congrArg₂ (fun p q : EReal => p * Ideal.exp (q - μ)) (A2_1 m c b r) (A2_0 m c b r)

/-- The first row's second weighted sum. -/
theorem comb2 (μ : ℝ) (hμ : Finset.univ.fold max (⊥ : EReal) (xr m c 0) = μ) :
    (k2_pay7 (F := Ideal) (A2 m c main_v1_0) (A2 m c main_v1_2) (ix2 0 0) : EReal) = ((∑ k, (xr m c 0 k).toReal * el μ (xr m c 0 k) : ℝ) : EReal) := by
  rw [← top_of_blocks (xr m c 0) (ne_top_of_max _ μ hμ), comb_sum']
  refine Finset.sum_congr rfl fun b _ => ?_
  rw [comb_weight, comb0, hμ]
  exact congrArg₂ (fun p q : EReal => p * Ideal.exp (q - μ)) (A2_2 m c b) (A2_0 m c b 0)

/-- A row's probability, as a real number. -/
theorem prob_real (r : Fin 32) (k : Fin 1000000) (μ : ℝ) (hμ : Finset.univ.fold max (⊥ : EReal) (xr m c r) = μ) :
    ReferenceIdeal.Ref.prob (X m c) r k = ((el μ (xr m c r k) / (∑ k, el μ (xr m c r k)) : ℝ) : EReal) := by
  have hf := ne_top_of_max (xr m c r) μ hμ
  have hmax : ReferenceIdeal.Ref.rowMax (X m c) r = μ := hμ
  have hsum : ReferenceIdeal.Ref.rowSum (X m c) r = ((∑ k, el μ (xr m c r k) : ℝ) : EReal) := by
    unfold ReferenceIdeal.Ref.rowSum
    rw [hmax, coe_sum]
    exact Finset.sum_congr rfl fun k _ => exp_sub μ _ (hf k)
  unfold ReferenceIdeal.Ref.prob
  rw [hmax, hsum]
  exact div_part μ _ _ (hf k) (sum_pos _ hf μ hμ).ne'

/-- One probability the kernel leaves. -/
theorem prob_at (hm : ∀ r, ∃ μ : ℝ, Finset.univ.fold max (⊥ : EReal) (xr m c r) = μ) (r : Fin 32) (k : Fin 1000000) :
    probOf (A3 m c main_arg0 (ix2 r k)) (A3 m c main_v2_0 (ix2 r 0)) (A3 m c main_v2_1 (ix2 r 0))
      = ReferenceIdeal.Ref.prob (X m c) r k := by
  obtain ⟨μ, hμ⟩ := hm r
  have hf := ne_top_of_max _ μ hμ
  refine Eq.trans ?_ ((times_part μ _ _ (hf k) (sum_pos _ hf μ hμ).ne').trans (prob_real m c r k μ hμ).symm)
  refine congr (congrArg₂ probOf ?_ ?_) ?_
  · exact congrFun (arg_A3 m c) (ix2 r k)
  · exact (congrFun (ends0 (A2 m) c) (ix2 r 0)).trans ((comb0 m c r).trans hμ)
  · exact (congrFun (ends1 (A2 m) c) (ix2 r 0)).trans ((comb_inv _ r 0).trans (congrArg (Ideal.div 1) (comb1 m c r μ hμ)))

/-- The probabilities the kernel leaves. -/
theorem end_prob (hm : ∀ r, ∃ μ : ℝ, Finset.univ.fold max (⊥ : EReal) (xr m c r) = μ) :
    StableHlo.after hostOps4 (A4 m c) (Proc.devRef .tc main_v3) = fun j : S32x1000000.Idx => ReferenceIdeal.Ref.prob (X m c) (j 0) (j 1) := by
  rw [StableHlo.after_of_writes_sub hostOps4 _ hostOps4_writes (by decide)]
  refine (probs_arr (A3 m) c).trans (funext fun j => ?_)
  have ej : (ix2 (j 0) (j 1) : S32x1000000.Idx) = j := by funext a; fin_cases a <;> rfl
  exact (congrArg (fun i : S32x1000000.Idx => probOf (A3 m c main_arg0 i) (A3 m c main_v2_0 (ix2 (j 0) 0)) (A3 m c main_v2_1 (ix2 (j 0) 0))) ej.symm).trans
    (prob_at m c hm (j 0) (j 1))

/-- The columns the kernel draws. -/
theorem end_draw (r : Fin 32) : ∃ d : Fin 1000000, Best (sr m c r) d
    ∧ StableHlo.after hostOps4 (A4 m c) (Proc.devRef .tc main_v4) (ix1 r) = BitVec.ofNat 32 d.val := by
  obtain ⟨b, hb⟩ := exists_best (fun b : Fin 16 => bmax (sr m c r) b.val) 0
  obtain ⟨k, h, hk, e⟩ := A2_4 m c b r
  refine ⟨⟨b.val * 65536 + k.val, h⟩, best_of_blocks _ b k h hb hk, ?_⟩
  have hb' : Best (fun b : Fin 16 => (A2 m c (Proc.devRef .tc main_v1_3) (ix3 b r 0) : EReal)) b := by
    have ef : (fun b : Fin 16 => (A2 m c (Proc.devRef .tc main_v1_3) (ix3 b r 0) : EReal)) = fun b : Fin 16 => bmax (sr m c r) b.val :=
      funext fun b => A2_3 m c b r
    rw [ef]
    exact hb
  have ed : A4 m c (Proc.devRef .tc main_v2_2) (ix2 r 0) = BitVec.ofNat 32 (b.val * 65536 + k.val) := by
    rw [A4, keep3 _ _ _ (by decide)]
    exact (congrFun (ends2 (A2 m) c) (ix2 r 0)).trans ((comb_draw _ _ r 0 b hb').trans e)
  obtain ⟨D, hD⟩ : ∃ D : IVec S32x1 32, D = A4 m c (Proc.devRef .tc main_v2_2) := ⟨_, rfl⟩
  rw [← hD] at ed
  have ev : StableHlo.after hostOps4 (A4 m c) (Proc.devRef .tc main_v4) = shapeCast S32 D shapeCasts_S32x1_S32 := by
    unfold hostOps4; after_reads_simp
    rw [hD]
    rfl
  rw [ev, ← ed]
  pointwise

/-- The entropy the kernel leaves. -/
theorem end_entropy (hm : ∃ μ : ℝ, Finset.univ.fold max (⊥ : EReal) (xr m c 0) = μ) (j : S_.Idx) :
    StableHlo.after hostOps4 (A4 m c) (Proc.devRef .tc main_v6) j = ReferenceIdeal.Ref.entropy fun k => ReferenceIdeal.Ref.prob (X m c) 0 k := by
  obtain ⟨μ, hμ⟩ := hm
  obtain ⟨D, hD⟩ : ∃ D : FVec Ideal S32x1 .f32, D = A4 m c (Proc.devRef .tc main_v2_3) := ⟨_, rfl⟩
  have ev : StableHlo.after hostOps4 (A4 m c) (Proc.devRef .tc main_v6)
      = shapeCast S_ (extractStridedSlice S1x1 ![0, 0] D slices_S32x1_S1x1_0_0) shapeCasts_S1x1_S_ := by
    unfold hostOps4; after_reads_simp
    rw [hD]
    rfl
  have ed : shapeCast S_ (extractStridedSlice S1x1 ![0, 0] D slices_S32x1_S1x1_0_0) shapeCasts_S1x1_S_ j = D (ix2 0 0) := by
    pointwise
  have e3 : D (ix2 0 0) = ((μ : EReal) + Ideal.log ((∑ k, el μ (xr m c 0 k) : ℝ) : EReal)
      - Ideal.div ((∑ k, (xr m c 0 k).toReal * el μ (xr m c 0 k) : ℝ) : EReal) ((∑ k, el μ (xr m c 0 k) : ℝ) : EReal) : EReal) := by
    rw [hD, A4, keep3 _ _ _ (by decide)]
    refine (congrFun (ends3 (A2 m) c) (ix2 0 0)).trans ((comb_entropy _ _ _ 0 0).trans ?_)
    rw [comb0, hμ, comb1 m c 0 μ hμ, comb2 m c μ hμ]
  rw [ev, ed, e3, entropy_eq _ (ne_top_of_max _ μ hμ) μ hμ]
  exact congrArg ReferenceIdeal.Ref.entropy (funext fun k => (prob_real m c 0 k μ hμ).symm)

end Cert.KernelIdeal.Results
-- ==== Proof.Agree.lean ====
/- The kernel's program and the reference end with equal results. -/
module

public import proofs.«01_k».proof.Proof.Frames
public import proofs.«01_k».proof.Proof.RefEnds
public import proofs.«01_k».proof.Proof.Results
public import proofs.«01_k».proof.Proof.Gen.Pre_rows_have_a_maximum

@[expose] public section

set_option maxRecDepth 16384

noncomputable section

namespace Cert.Agree

open Cert.Draw Cert.KernelIdeal.Results
open Idealize.ShloMosaic Idealize.ShloMosaic.TcCoe Idealize.SL.Sem

/-- A number whose absolute value is less than infinity is a real number. -/
theorem real_of_abs (x : EReal) (h : Ideal.cmp .olt (max x (-x)) ⊤ = 1#1) : ∃ μ : ℝ, x = μ := by
  induction x using EReal.rec with
  | bot => simp [Ideal.cmp] at h
  | coe μ => exact ⟨μ, rfl⟩
  | top => simp [Ideal.cmp] at h

/-- The word of infinity. -/
theorem ofBits_top : Ideal.ofBits .f32 0x7F800000#32 = ⊤ := by
  simp [Ideal.ofBits, Ideal.ieee]

/-- The test of one row's greatest number. -/
theorem test_at (W : FVec Ideal Cert.Pre_rows_have_a_maximum.S32 .f32) (r : Fin 32) :
    cmpf .olt (Host.absf W) (broadcastInDim Cert.Pre_rows_have_a_maximum.S32 ![] Cert.Pre_rows_have_a_maximum.Facts.bcast_S_S32
      (constant (F := Ideal) Cert.Pre_rows_have_a_maximum.S_ .f32 0x7F800000#32)) (ix1 r)
      = Ideal.cmp .olt (max (W (ix1 r)) (-(W (ix1 r) : EReal))) ⊤ := by
  rw [← ofBits_top]
  rfl

/-- The precondition says that the greatest number of every row is a real number. -/
theorem row_real (X : FVec Ideal Cert.ReferenceIdeal.S32x1000000 .f32)
    (h : Cert.Pre_rows_have_a_maximum.fn (F := Ideal) X = fun _ => 1#1) (r : Fin 32) :
    ∃ μ : ℝ, Cert.ReferenceIdeal.Ref.rowMax X r = μ := by
  obtain ⟨W, hW⟩ : ∃ W : FVec Ideal Cert.Pre_rows_have_a_maximum.S32 .f32,
      W = Host.reduce FloatOps.maximumf X (constant Cert.Pre_rows_have_a_maximum.S_ .f32 0xFF800000#32)
        Cert.Pre_rows_have_a_maximum.Facts.reducesTo_S32x1000000_S32_d1 Cert.Pre_rows_have_a_maximum.Facts.h_S_ := ⟨_, rfl⟩
  have e : (W (ix1 r) : EReal) = Cert.ReferenceIdeal.Ref.rowMax X r :=
    (congrFun hW (ix1 r)).trans (Cert.ReferenceIdeal.Ref.reduce_max X r)
  rw [← e]
  refine real_of_abs _ ((test_at W r).symm.trans ?_)
  rw [hW]
  exact congrFun h (ix1 r)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD) (hm : ∀ r, ∃ μ : ℝ, Finset.univ.fold max (⊥ : EReal) (xr m c r) = μ)
  (ha : StableHlo.launchContents m' c (Proc.devRef .tc ReferenceIdeal.main_arg0) = X m c)

include ha in
/-- Both draw the same columns. -/
theorem draw_eq : StableHlo.after KernelIdeal.Gen.hostOps4 (KernelIdeal.Body.A4 m c) (Proc.devRef .tc KernelIdeal.main_v4)
    = StableHlo.after ReferenceIdeal.Ref.ops (StableHlo.launchContents m' c) (Proc.devRef .tc ReferenceIdeal.main_v17) := by
  refine funext fun j : Cert.ReferenceIdeal.S32.Idx => ?_
  obtain ⟨r, rfl⟩ : ∃ r : Fin 32, j = ix1 r := ⟨j 0, by funext a; fin_cases a; rfl⟩
  obtain ⟨d, hd, e⟩ := KernelIdeal.Results.end_draw m c r
  obtain ⟨d', hd', e'⟩ := ReferenceIdeal.Ref.end_draw _ _ ha r
  obtain rfl := Best.unique hd hd'
  exact e.trans e'.symm

include ha hm in
/-- Both leave the same probabilities. -/
theorem prob_eq : StableHlo.after KernelIdeal.Gen.hostOps4 (KernelIdeal.Body.A4 m c) (Proc.devRef .tc KernelIdeal.main_v3)
    = StableHlo.after ReferenceIdeal.Ref.ops (StableHlo.launchContents m' c) (Proc.devRef .tc ReferenceIdeal.main_v28) :=
  (KernelIdeal.Results.end_prob m c hm).trans (ReferenceIdeal.Ref.end_prob _ _ ha).symm

include ha hm in
/-- Both leave the same entropy. -/
theorem entropy_eq : StableHlo.after KernelIdeal.Gen.hostOps4 (KernelIdeal.Body.A4 m c) (Proc.devRef .tc KernelIdeal.main_v6)
    = StableHlo.after ReferenceIdeal.Ref.ops (StableHlo.launchContents m' c) (Proc.devRef .tc ReferenceIdeal.main_v40) :=
  funext fun j : Cert.ReferenceIdeal.S_.Idx =>
    (KernelIdeal.Results.end_entropy m c (hm 0) j).trans (ReferenceIdeal.Ref.end_entropy _ _ ha j).symm

end Cert.Agree

namespace Cert.Agree

open Idealize.ShloMosaic Idealize.ShloMosaic.TcCoe Idealize.SL.Sem

/-- From the same logits, both programs end with equal results and unchanged logits. -/
theorem algebraic (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (hpre : ∀ c : Dev KernelIdeal.nD, Pre_rows_have_a_maximum.fn (F := Ideal) (m (c.tc.loc KernelIdeal.main_arg0)) = fun _ => 1#1)
    (harg : ∀ c : Dev KernelIdeal.nD, m' (((c : Dev ReferenceIdeal.nD).tc : Thread ReferenceIdeal.nD ReferenceIdeal.τ).loc ReferenceIdeal.main_arg0)
      = m (c.tc.loc KernelIdeal.main_arg0)) :
    ∃ (v0 : (c : Dev KernelIdeal.nD) → Buf (Elt Ideal) ((c.tc : Thread KernelIdeal.nD KernelIdeal.τ).loc KernelIdeal.main_v4))
      (v1 : (c : Dev KernelIdeal.nD) → Buf (Elt Ideal) ((c.tc : Thread KernelIdeal.nD KernelIdeal.τ).loc KernelIdeal.main_v3))
      (v2 : (c : Dev KernelIdeal.nD) → Buf (Elt Ideal) ((c.tc : Thread KernelIdeal.nD KernelIdeal.τ).loc KernelIdeal.main_v6)),
      θ_run (KernelIdeal.defs (F := Ideal)) (onTc (τ := KernelIdeal.τ) (KernelIdeal.main (F := Ideal))) ⟨m, fun _ => 0, g⟩ (fun r => ∀ c : Dev KernelIdeal.nD,
          r.2.mem (c.tc.loc KernelIdeal.main_v4) = v0 c
          ∧ r.2.mem (c.tc.loc KernelIdeal.main_v3) = v1 c
          ∧ r.2.mem (c.tc.loc KernelIdeal.main_v6) = v2 c
          ∧ r.2.mem (c.tc.loc KernelIdeal.main_arg0) = m (c.tc.loc KernelIdeal.main_arg0))
      ∧ θ_run (ReferenceIdeal.defs (F := Ideal)) (onTc (τ := ReferenceIdeal.τ) (ReferenceIdeal.main (F := Ideal))) ⟨m', fun _ => 0, g'⟩ (fun r => ∀ c : Dev ReferenceIdeal.nD,
          r.2.mem (c.tc.loc ReferenceIdeal.main_v17) = v0 c
          ∧ r.2.mem (c.tc.loc ReferenceIdeal.main_v28) = v1 c
          ∧ r.2.mem (c.tc.loc ReferenceIdeal.main_v40) = v2 c
          ∧ r.2.mem (c.tc.loc ReferenceIdeal.main_arg0) = m' (c.tc.loc ReferenceIdeal.main_arg0)) := by
  have hm : ∀ (c : Dev KernelIdeal.nD) (r : Fin 32), ∃ μ : ℝ, Finset.univ.fold max (⊥ : EReal) (KernelIdeal.Results.xr m c r) = μ :=
    fun c r => row_real _ (hpre c) r
  refine ⟨fun c => StableHlo.after KernelIdeal.Gen.hostOps4 (KernelIdeal.Body.A4 m c) (Proc.devRef .tc KernelIdeal.main_v4),
    fun c => StableHlo.after KernelIdeal.Gen.hostOps4 (KernelIdeal.Body.A4 m c) (Proc.devRef .tc KernelIdeal.main_v3),
    fun c => StableHlo.after KernelIdeal.Gen.hostOps4 (KernelIdeal.Body.A4 m c) (Proc.devRef .tc KernelIdeal.main_v6), ?_, ?_⟩
  · exact (θ_run _ _ _).mono (fun r hr c => ⟨hr.1 c KernelIdeal.main_v4 (by decide), hr.1 c KernelIdeal.main_v3 (by decide),
      hr.1 c KernelIdeal.main_v6 (by decide), (hr.1 c KernelIdeal.main_arg0 (by decide)).trans (KernelIdeal.Body.arg0_kept m c)⟩)
      (KernelIdeal.Body.run_whole m g)
  · exact (θ_run _ _ _).mono (fun r hr c => ⟨(hr.1 c ReferenceIdeal.main_v17).trans (draw_eq m m' c (harg c)).symm,
      (hr.1 c ReferenceIdeal.main_v28).trans (prob_eq m m' c (hm c) (harg c)).symm,
      (hr.1 c ReferenceIdeal.main_v40).trans (entropy_eq m m' c (hm c) (harg c)).symm,
      (hr.1 c ReferenceIdeal.main_arg0).trans (ReferenceIdeal.Ref.arg0_kept _)⟩)
      (ReferenceIdeal.Ref.run_line m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_rows_have_a_maximum
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_have_a_maximum.Gen.facts,
  fun m g _ => Cert.Kernel.Body.frame m g,
  fun m g _ => Cert.KernelIdeal.Body.frame m g,
  fun m g _ => Cert.KernelIdeal.Body.frame m g,
  fun m g _ => Cert.ReferenceIdeal.Ref.frame m g,
  fun m g _ => Cert.ReferenceIdeal.Ref.frame m g,
  trivial,
  fun m g m' g' hpre harg => Cert.Agree.algebraic m g m' g' hpre harg⟩

end Cert.Proof

end
